-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x256x2048 : Shape := ⟨3, ![2, 256, 2048]⟩
abbrev S8x2x2x256x256 : Shape := ⟨5, ![8, 2, 2, 256, 256]⟩
abbrev S8x2x32x512 : Shape := ⟨4, ![8, 2, 32, 512]⟩
abbrev S2x32x512 : Shape := ⟨3, ![2, 32, 512]⟩
abbrev S8 : Shape := ⟨1, ![8]⟩
abbrev S_ : Shape := ⟨0, ![]⟩
abbrev S2x256x256 : Shape := ⟨3, ![2, 256, 256]⟩
abbrev S1x1x2x256x256 : Shape := ⟨5, ![1, 1, 2, 256, 256]⟩
abbrev S1 : Shape := ⟨1, ![1]⟩
abbrev S1x2x2x256x256 : Shape := ⟨5, ![1, 2, 2, 256, 256]⟩
abbrev S2x2x256x256 : Shape := ⟨4, ![2, 2, 256, 256]⟩
abbrev S1x256x512 : Shape := ⟨3, ![1, 256, 512]⟩
abbrev S256x256 : Shape := ⟨2, ![256, 256]⟩
abbrev S256x2048 : Shape := ⟨2, ![256, 2048]⟩
abbrev S1x1x1x256x64 : Shape := ⟨5, ![1, 1, 1, 256, 64]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S1x2x32x512 : Shape := ⟨4, ![1, 2, 32, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S2x256x2048, .bf16⟩
  | .hbm, ⟨6, _⟩ => ⟨S2x256x2048, .bf16⟩
  | .hbm, ⟨7, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x2048, .bf16⟩
  | .local _ .vmem, ⟨3, _⟩ => ⟨S2x256x2048, .bf16⟩
  | .local _ .vmem, ⟨4, _⟩ => ⟨S256x512, .bf16⟩
  | .local _ .vmem, ⟨5, _⟩ => ⟨S2x256x512, .f32⟩
  | .local _ .vmem, ⟨6, _⟩ => ⟨S8x2x2x256x256, .bf16⟩
  | .local _ .vmem, ⟨7, _⟩ => ⟨S8x2x2x256x256, .bf16⟩
  | .local _ .vmem, ⟨8, _⟩ => ⟨S2x256x512, .f32⟩
  | .local _ .vmem, ⟨9, _⟩ => ⟨S8x2x32x512, .bf16⟩
  | .local _ .vmem, ⟨10, _⟩ => ⟨S8x2x32x512, .bf16⟩
  | .local _ .vmem, ⟨11, _⟩ => ⟨S2x32x512, .bf16⟩
  | .local _ .vmem, ⟨12, _⟩ => ⟨S8x2x32x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 : Nat :=
  let c0_i32_115 : BitVec 32 := 0#32
  let c0_i32 : BitVec 32 := 0#32
  let c1_i32_114 : BitVec 32 := 1#32
  let v84 : BitVec 32 := Scalar.muli c0_i32 c1_i32_114
  let v85 : BitVec 32 := Scalar.addi c0_i32_115 v84
  v85.toNat
def k0_dev2 : Nat :=
  let c0_i32_119 : BitVec 32 := 0#32
  let c1_i32_117 : BitVec 32 := 1#32
  let c1_i32_118 : BitVec 32 := 1#32
  let v86 : BitVec 32 := Scalar.muli c1_i32_117 c1_i32_118
  let v87 : BitVec 32 := Scalar.addi c0_i32_119 v86
  v87.toNat
def k0_dev3 : Nat :=
  let c0_i32_122 : BitVec 32 := 0#32
  let c2_i32 : BitVec 32 := 2#32
  let c1_i32_121 : BitVec 32 := 1#32
  let v88 : BitVec 32 := Scalar.muli c2_i32 c1_i32_121
  let v89 : BitVec 32 := Scalar.addi c0_i32_122 v88
  v89.toNat
def k0_dev4 : Nat :=
  let c0_i32_125 : BitVec 32 := 0#32
  let c3_i32 : BitVec 32 := 3#32
  let c1_i32_124 : BitVec 32 := 1#32
  let v90 : BitVec 32 := Scalar.muli c3_i32 c1_i32_124
  let v91 : BitVec 32 := Scalar.addi c0_i32_125 v90
  v91.toNat
def k0_dev5 : Nat :=
  let c0_i32_128 : BitVec 32 := 0#32
  let c4_i32 : BitVec 32 := 4#32
  let c1_i32_127 : BitVec 32 := 1#32
  let v92 : BitVec 32 := Scalar.muli c4_i32 c1_i32_127
  let v93 : BitVec 32 := Scalar.addi c0_i32_128 v92
  v93.toNat
def k0_dev6 : Nat :=
  let c0_i32_131 : BitVec 32 := 0#32
  let c5_i32 : BitVec 32 := 5#32
  let c1_i32_130 : BitVec 32 := 1#32
  let v94 : BitVec 32 := Scalar.muli c5_i32 c1_i32_130
  let v95 : BitVec 32 := Scalar.addi c0_i32_131 v94
  v95.toNat
def k0_dev7 : Nat :=
  let c0_i32_134 : BitVec 32 := 0#32
  let c6_i32 : BitVec 32 := 6#32
  let c1_i32_133 : BitVec 32 := 1#32
  let v96 : BitVec 32 := Scalar.muli c6_i32 c1_i32_133
  let v97 : BitVec 32 := Scalar.addi c0_i32_134 v96
  v97.toNat
def k0_dev8 : Nat :=
  let c0_i32_137 : BitVec 32 := 0#32
  let c7_i32 : BitVec 32 := 7#32
  let c1_i32_136 : BitVec 32 := 1#32
  let v98 : BitVec 32 := Scalar.muli c7_i32 c1_i32_136
  let v99 : BitVec 32 := Scalar.addi c0_i32_137 v98
  v99.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let v100 : BitVec 1 := Scalar.cmpi .ne v2 c0_i32_139
  let v101 : BitVec 32 := Scalar.extui v100
  let c0_i32_142 : BitVec 32 := 0#32
  let v102 : BitVec 1 := Scalar.cmpi .ne v101 c0_i32_142
  v102

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev9 : Nat :=
  let c0_i32_609 : BitVec 32 := 0#32
  let c0_i32_607 : BitVec 32 := 0#32
  let c1_i32_608 : BitVec 32 := 1#32
  let v909 : BitVec 32 := Scalar.muli c0_i32_607 c1_i32_608
  let v910 : BitVec 32 := Scalar.addi c0_i32_609 v909
  v910.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v103 : BitVec 1 := Scalar.cmpi .ne v2 c1_i32_143
  let v104 : BitVec 32 := Scalar.extui v103
  let c0_i32_146 : BitVec 32 := 0#32
  let v105 : BitVec 1 := Scalar.cmpi .ne v104 c0_i32_146
  v105

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev10 : Nat :=
  let c0_i32_609 : BitVec 32 := 0#32
  let c1_i32_607 : BitVec 32 := 1#32
  let c1_i32_608 : BitVec 32 := 1#32
  let v909 : BitVec 32 := Scalar.muli c1_i32_607 c1_i32_608
  let v910 : BitVec 32 := Scalar.addi c0_i32_609 v909
  v910.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_147 : BitVec 32 := 2#32
  let v106 : BitVec 1 := Scalar.cmpi .ne v2 c2_i32_147
  let v107 : BitVec 32 := Scalar.extui v106
  let c0_i32_150 : BitVec 32 := 0#32
  let v108 : BitVec 1 := Scalar.cmpi .ne v107 c0_i32_150
  v108

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev11 : Nat :=
  let c0_i32_609 : BitVec 32 := 0#32
  let c2_i32_607 : BitVec 32 := 2#32
  let c1_i32_608 : BitVec 32 := 1#32
  let v909 : BitVec 32 := Scalar.muli c2_i32_607 c1_i32_608
  let v910 : BitVec 32 := Scalar.addi c0_i32_609 v909
  v910.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_151 : BitVec 32 := 3#32
  let v109 : BitVec 1 := Scalar.cmpi .ne v2 c3_i32_151
  let v110 : BitVec 32 := Scalar.extui v109
  let c0_i32_154 : BitVec 32 := 0#32
  let v111 : BitVec 1 := Scalar.cmpi .ne v110 c0_i32_154
  v111

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev12 : Nat :=
  let c0_i32_609 : BitVec 32 := 0#32
  let c3_i32_607 : BitVec 32 := 3#32
  let c1_i32_608 : BitVec 32 := 1#32
  let v909 : BitVec 32 := Scalar.muli c3_i32_607 c1_i32_608
  let v910 : BitVec 32 := Scalar.addi c0_i32_609 v909
  v910.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v112 : BitVec 1 := Scalar.cmpi .ne v2 c4_i32_155
  let v113 : BitVec 32 := Scalar.extui v112
  let c0_i32_158 : BitVec 32 := 0#32
  let v114 : BitVec 1 := Scalar.cmpi .ne v113 c0_i32_158
  v114

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev13 : Nat :=
  let c0_i32_609 : BitVec 32 := 0#32
  let c4_i32_607 : BitVec 32 := 4#32
  let c1_i32_608 : BitVec 32 := 1#32
  let v909 : BitVec 32 := Scalar.muli c4_i32_607 c1_i32_608
  let v910 : BitVec 32 := Scalar.addi c0_i32_609 v909
  v910.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_159 : BitVec 32 := 5#32
  let v115 : BitVec 1 := Scalar.cmpi .ne v2 c5_i32_159
  let v116 : BitVec 32 := Scalar.extui v115
  let c0_i32_162 : BitVec 32 := 0#32
  let v117 : BitVec 1 := Scalar.cmpi .ne v116 c0_i32_162
  v117

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev14 : Nat :=
  let c0_i32_609 : BitVec 32 := 0#32
  let c5_i32_607 : BitVec 32 := 5#32
  let c1_i32_608 : BitVec 32 := 1#32
  let v909 : BitVec 32 := Scalar.muli c5_i32_607 c1_i32_608
  let v910 : BitVec 32 := Scalar.addi c0_i32_609 v909
  v910.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v118 : BitVec 1 := Scalar.cmpi .ne v2 c6_i32_163
  let v119 : BitVec 32 := Scalar.extui v118
  let c0_i32_166 : BitVec 32 := 0#32
  let v120 : BitVec 1 := Scalar.cmpi .ne v119 c0_i32_166
  v120

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev15 : Nat :=
  let c0_i32_609 : BitVec 32 := 0#32
  let c6_i32_607 : BitVec 32 := 6#32
  let c1_i32_608 : BitVec 32 := 1#32
  let v909 : BitVec 32 := Scalar.muli c6_i32_607 c1_i32_608
  let v910 : BitVec 32 := Scalar.addi c0_i32_609 v909
  v910.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_167 : BitVec 32 := 7#32
  let v121 : BitVec 1 := Scalar.cmpi .ne v2 c7_i32_167
  let v122 : BitVec 32 := Scalar.extui v121
  let c0_i32_170 : BitVec 32 := 0#32
  let v123 : BitVec 1 := Scalar.cmpi .ne v122 c0_i32_170
  v123

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  let c0_i32_613 : BitVec 32 := 0#32
  ![v2.toNat, 0, 0, 0, 0]
def k0_dev16 : Nat :=
  let c0_i32_609 : BitVec 32 := 0#32
  let c7_i32_607 : BitVec 32 := 7#32
  let c1_i32_608 : BitVec 32 := 1#32
  let v909 : BitVec 32 := Scalar.muli c7_i32_607 c1_i32_608
  let v910 : BitVec 32 := Scalar.addi c0_i32_609 v909
  v910.toNat
def k0_off17 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  let c0_i32_173 : BitVec 32 := 0#32
  let c0_i32_174 : BitVec 32 := 0#32
  ![v2.toNat, 0, 0, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_360 : BitVec 32 := 0#32
  let v706 : BitVec 1 := Scalar.cmpi .ne v2 c0_i32_360
  let v707 : BitVec 32 := Scalar.extui v706
  let c0_i32_363 : BitVec 32 := 0#32
  let v708 : BitVec 1 := Scalar.cmpi .ne v707 c0_i32_363
  v708

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev17 : Nat :=
  let c0_i32_609 : BitVec 32 := 0#32
  let c0_i32_607 : BitVec 32 := 0#32
  let c1_i32_608 : BitVec 32 := 1#32
  let v909 : BitVec 32 := Scalar.muli c0_i32_607 c1_i32_608
  let v910 : BitVec 32 := Scalar.addi c0_i32_609 v909
  v910.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_364 : BitVec 32 := 1#32
  let v709 : BitVec 1 := Scalar.cmpi .ne v2 c1_i32_364
  let v710 : BitVec 32 := Scalar.extui v709
  let c0_i32_367 : BitVec 32 := 0#32
  let v711 : BitVec 1 := Scalar.cmpi .ne v710 c0_i32_367
  v711

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev18 : Nat :=
  let c0_i32_609 : BitVec 32 := 0#32
  let c1_i32_607 : BitVec 32 := 1#32
  let c1_i32_608 : BitVec 32 := 1#32
  let v909 : BitVec 32 := Scalar.muli c1_i32_607 c1_i32_608
  let v910 : BitVec 32 := Scalar.addi c0_i32_609 v909
  v910.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_368 : BitVec 32 := 2#32
  let v712 : BitVec 1 := Scalar.cmpi .ne v2 c2_i32_368
  let v713 : BitVec 32 := Scalar.extui v712
  let c0_i32_371 : BitVec 32 := 0#32
  let v714 : BitVec 1 := Scalar.cmpi .ne v713 c0_i32_371
  v714

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev19 : Nat :=
  let c0_i32_609 : BitVec 32 := 0#32
  let c2_i32_607 : BitVec 32 := 2#32
  let c1_i32_608 : BitVec 32 := 1#32
  let v909 : BitVec 32 := Scalar.muli c2_i32_607 c1_i32_608
  let v910 : BitVec 32 := Scalar.addi c0_i32_609 v909
  v910.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_372 : BitVec 32 := 3#32
  let v715 : BitVec 1 := Scalar.cmpi .ne v2 c3_i32_372
  let v716 : BitVec 32 := Scalar.extui v715
  let c0_i32_375 : BitVec 32 := 0#32
  let v717 : BitVec 1 := Scalar.cmpi .ne v716 c0_i32_375
  v717

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev20 : Nat :=
  let c0_i32_609 : BitVec 32 := 0#32
  let c3_i32_607 : BitVec 32 := 3#32
  let c1_i32_608 : BitVec 32 := 1#32
  let v909 : BitVec 32 := Scalar.muli c3_i32_607 c1_i32_608
  let v910 : BitVec 32 := Scalar.addi c0_i32_609 v909
  v910.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_376 : BitVec 32 := 4#32
  let v718 : BitVec 1 := Scalar.cmpi .ne v2 c4_i32_376
  let v719 : BitVec 32 := Scalar.extui v718
  let c0_i32_379 : BitVec 32 := 0#32
  let v720 : BitVec 1 := Scalar.cmpi .ne v719 c0_i32_379
  v720

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev21 : Nat :=
  let c0_i32_609 : BitVec 32 := 0#32
  let c4_i32_607 : BitVec 32 := 4#32
  let c1_i32_608 : BitVec 32 := 1#32
  let v909 : BitVec 32 := Scalar.muli c4_i32_607 c1_i32_608
  let v910 : BitVec 32 := Scalar.addi c0_i32_609 v909
  v910.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_380 : BitVec 32 := 5#32
  let v721 : BitVec 1 := Scalar.cmpi .ne v2 c5_i32_380
  let v722 : BitVec 32 := Scalar.extui v721
  let c0_i32_383 : BitVec 32 := 0#32
  let v723 : BitVec 1 := Scalar.cmpi .ne v722 c0_i32_383
  v723

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev22 : Nat :=
  let c0_i32_609 : BitVec 32 := 0#32
  let c5_i32_607 : BitVec 32 := 5#32
  let c1_i32_608 : BitVec 32 := 1#32
  let v909 : BitVec 32 := Scalar.muli c5_i32_607 c1_i32_608
  let v910 : BitVec 32 := Scalar.addi c0_i32_609 v909
  v910.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_384 : BitVec 32 := 6#32
  let v724 : BitVec 1 := Scalar.cmpi .ne v2 c6_i32_384
  let v725 : BitVec 32 := Scalar.extui v724
  let c0_i32_387 : BitVec 32 := 0#32
  let v726 : BitVec 1 := Scalar.cmpi .ne v725 c0_i32_387
  v726

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev23 : Nat :=
  let c0_i32_609 : BitVec 32 := 0#32
  let c6_i32_607 : BitVec 32 := 6#32
  let c1_i32_608 : BitVec 32 := 1#32
  let v909 : BitVec 32 := Scalar.muli c6_i32_607 c1_i32_608
  let v910 : BitVec 32 := Scalar.addi c0_i32_609 v909
  v910.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_388 : BitVec 32 := 7#32
  let v727 : BitVec 1 := Scalar.cmpi .ne v2 c7_i32_388
  let v728 : BitVec 32 := Scalar.extui v727
  let c0_i32_391 : BitVec 32 := 0#32
  let v729 : BitVec 1 := Scalar.cmpi .ne v728 c0_i32_391
  v729

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev24 : Nat :=
  let c0_i32_609 : BitVec 32 := 0#32
  let c7_i32_607 : BitVec 32 := 7#32
  let c1_i32_608 : BitVec 32 := 1#32
  let v909 : BitVec 32 := Scalar.muli c7_i32_607 c1_i32_608
  let v910 : BitVec 32 := Scalar.addi c0_i32_609 v909
  v910.toNat
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_392 : BitVec 32 := 0#32
  let c0_i32_393 : BitVec 32 := 0#32
  let c0_i32_394 : BitVec 32 := 0#32
  ![v2.toNat, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_460 : BitVec 32 := 0#32
  let v800 : BitVec 1 := Scalar.cmpi .ne v2 c0_i32_460
  let v801 : BitVec 32 := Scalar.extui v800
  let c0_i32_462 : BitVec 32 := 0#32
  let v802 : BitVec 1 := Scalar.cmpi .ne v801 c0_i32_462
  v802

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev25 : Nat :=
  let c0_i32_609 : BitVec 32 := 0#32
  let c0_i32_607 : BitVec 32 := 0#32
  let c1_i32_608 : BitVec 32 := 1#32
  let v909 : BitVec 32 := Scalar.muli c0_i32_607 c1_i32_608
  let v910 : BitVec 32 := Scalar.addi c0_i32_609 v909
  v910.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_463 : BitVec 32 := 1#32
  let v803 : BitVec 1 := Scalar.cmpi .ne v2 c1_i32_463
  let v804 : BitVec 32 := Scalar.extui v803
  let c0_i32_465 : BitVec 32 := 0#32
  let v805 : BitVec 1 := Scalar.cmpi .ne v804 c0_i32_465
  v805

def k0_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev26 : Nat :=
  let c0_i32_609 : BitVec 32 := 0#32
  let c1_i32_607 : BitVec 32 := 1#32
  let c1_i32_608 : BitVec 32 := 1#32
  let v909 : BitVec 32 := Scalar.muli c1_i32_607 c1_i32_608
  let v910 : BitVec 32 := Scalar.addi c0_i32_609 v909
  v910.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_466 : BitVec 32 := 2#32
  let v806 : BitVec 1 := Scalar.cmpi .ne v2 c2_i32_466
  let v807 : BitVec 32 := Scalar.extui v806
  let c0_i32_468 : BitVec 32 := 0#32
  let v808 : BitVec 1 := Scalar.cmpi .ne v807 c0_i32_468
  v808

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev27 : Nat :=
  let c0_i32_609 : BitVec 32 := 0#32
  let c2_i32_607 : BitVec 32 := 2#32
  let c1_i32_608 : BitVec 32 := 1#32
  let v909 : BitVec 32 := Scalar.muli c2_i32_607 c1_i32_608
  let v910 : BitVec 32 := Scalar.addi c0_i32_609 v909
  v910.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_469 : BitVec 32 := 3#32
  let v809 : BitVec 1 := Scalar.cmpi .ne v2 c3_i32_469
  let v810 : BitVec 32 := Scalar.extui v809
  let c0_i32_471 : BitVec 32 := 0#32
  let v811 : BitVec 1 := Scalar.cmpi .ne v810 c0_i32_471
  v811

def k0_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev28 : Nat :=
  let c0_i32_609 : BitVec 32 := 0#32
  let c3_i32_607 : BitVec 32 := 3#32
  let c1_i32_608 : BitVec 32 := 1#32
  let v909 : BitVec 32 := Scalar.muli c3_i32_607 c1_i32_608
  let v910 : BitVec 32 := Scalar.addi c0_i32_609 v909
  v910.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_472 : BitVec 32 := 4#32
  let v812 : BitVec 1 := Scalar.cmpi .ne v2 c4_i32_472
  let v813 : BitVec 32 := Scalar.extui v812
  let c0_i32_474 : BitVec 32 := 0#32
  let v814 : BitVec 1 := Scalar.cmpi .ne v813 c0_i32_474
  v814

def k0_off43 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off44 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev29 : Nat :=
  let c0_i32_609 : BitVec 32 := 0#32
  let c4_i32_607 : BitVec 32 := 4#32
  let c1_i32_608 : BitVec 32 := 1#32
  let v909 : BitVec 32 := Scalar.muli c4_i32_607 c1_i32_608
  let v910 : BitVec 32 := Scalar.addi c0_i32_609 v909
  v910.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_475 : BitVec 32 := 5#32
  let v815 : BitVec 1 := Scalar.cmpi .ne v2 c5_i32_475
  let v816 : BitVec 32 := Scalar.extui v815
  let c0_i32_477 : BitVec 32 := 0#32
  let v817 : BitVec 1 := Scalar.cmpi .ne v816 c0_i32_477
  v817

def k0_off45 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev30 : Nat :=
  let c0_i32_609 : BitVec 32 := 0#32
  let c5_i32_607 : BitVec 32 := 5#32
  let c1_i32_608 : BitVec 32 := 1#32
  let v909 : BitVec 32 := Scalar.muli c5_i32_607 c1_i32_608
  let v910 : BitVec 32 := Scalar.addi c0_i32_609 v909
  v910.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_478 : BitVec 32 := 6#32
  let v818 : BitVec 1 := Scalar.cmpi .ne v2 c6_i32_478
  let v819 : BitVec 32 := Scalar.extui v818
  let c0_i32_480 : BitVec 32 := 0#32
  let v820 : BitVec 1 := Scalar.cmpi .ne v819 c0_i32_480
  v820

def k0_off47 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev31 : Nat :=
  let c0_i32_609 : BitVec 32 := 0#32
  let c6_i32_607 : BitVec 32 := 6#32
  let c1_i32_608 : BitVec 32 := 1#32
  let v909 : BitVec 32 := Scalar.muli c6_i32_607 c1_i32_608
  let v910 : BitVec 32 := Scalar.addi c0_i32_609 v909
  v910.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_481 : BitVec 32 := 7#32
  let v821 : BitVec 1 := Scalar.cmpi .ne v2 c7_i32_481
  let v822 : BitVec 32 := Scalar.extui v821
  let c0_i32_483 : BitVec 32 := 0#32
  let v823 : BitVec 1 := Scalar.cmpi .ne v822 c0_i32_483
  v823

def k0_off49 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_dev32 : Nat :=
  let c0_i32_609 : BitVec 32 := 0#32
  let c7_i32_607 : BitVec 32 := 7#32
  let c1_i32_608 : BitVec 32 := 1#32
  let v909 : BitVec 32 := Scalar.muli c7_i32_607 c1_i32_608
  let v910 : BitVec 32 := Scalar.addi c0_i32_609 v909
  v910.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_551 : BitVec 32 := 0#32
  let v885 : BitVec 1 := Scalar.cmpi .ne v2 c0_i32_551
  let v886 : BitVec 32 := Scalar.extui v885
  let c0_i32_557 : BitVec 32 := 0#32
  let v887 : BitVec 1 := Scalar.cmpi .ne v886 c0_i32_557
  v887

def k0_off51 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off52 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_558 : BitVec 32 := 1#32
  let v888 : BitVec 1 := Scalar.cmpi .ne v2 c1_i32_558
  let v889 : BitVec 32 := Scalar.extui v888
  let c0_i32_564 : BitVec 32 := 0#32
  let v890 : BitVec 1 := Scalar.cmpi .ne v889 c0_i32_564
  v890

def k0_off53 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off54 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_565 : BitVec 32 := 2#32
  let v891 : BitVec 1 := Scalar.cmpi .ne v2 c2_i32_565
  let v892 : BitVec 32 := Scalar.extui v891
  let c0_i32_571 : BitVec 32 := 0#32
  let v893 : BitVec 1 := Scalar.cmpi .ne v892 c0_i32_571
  v893

def k0_off55 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off56 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_572 : BitVec 32 := 3#32
  let v894 : BitVec 1 := Scalar.cmpi .ne v2 c3_i32_572
  let v895 : BitVec 32 := Scalar.extui v894
  let c0_i32_578 : BitVec 32 := 0#32
  let v896 : BitVec 1 := Scalar.cmpi .ne v895 c0_i32_578
  v896

def k0_off57 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off58 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_579 : BitVec 32 := 4#32
  let v897 : BitVec 1 := Scalar.cmpi .ne v2 c4_i32_579
  let v898 : BitVec 32 := Scalar.extui v897
  let c0_i32_585 : BitVec 32 := 0#32
  let v899 : BitVec 1 := Scalar.cmpi .ne v898 c0_i32_585
  v899

def k0_off59 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off60 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_586 : BitVec 32 := 5#32
  let v900 : BitVec 1 := Scalar.cmpi .ne v2 c5_i32_586
  let v901 : BitVec 32 := Scalar.extui v900
  let c0_i32_592 : BitVec 32 := 0#32
  let v902 : BitVec 1 := Scalar.cmpi .ne v901 c0_i32_592
  v902

def k0_off61 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off62 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_593 : BitVec 32 := 6#32
  let v903 : BitVec 1 := Scalar.cmpi .ne v2 c6_i32_593
  let v904 : BitVec 32 := Scalar.extui v903
  let c0_i32_599 : BitVec 32 := 0#32
  let v905 : BitVec 1 := Scalar.cmpi .ne v904 c0_i32_599
  v905

def k0_off63 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off64 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_600 : BitVec 32 := 7#32
  let v906 : BitVec 1 := Scalar.cmpi .ne v2 c7_i32_600
  let v907 : BitVec 32 := Scalar.extui v906
  let c0_i32_606 : BitVec 32 := 0#32
  let v908 : BitVec 1 := Scalar.cmpi .ne v907 c0_i32_606
  v908

def k0_off65 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_613 : BitVec 32 := 0#32
  let c0_i32_614 : BitVec 32 := 0#32
  let c0_i32_615 : BitVec 32 := 0#32
  let c0_i32_616 : BitVec 32 := 0#32
  ![v2.toNat, 0, 0, 0, 0]
def k0_off66 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let c0_i32_623 : BitVec 32 := 0#32
  let c0_i32_624 : BitVec 32 := 0#32
  ![v2.toNat, 0, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S2x256x2048 : Shape := ⟨3, ![2, 256, 2048]⟩
abbrev S2x256x32x64 : Shape := ⟨4, ![2, 256, 32, 64]⟩
abbrev S256 : Shape := ⟨1, ![256]⟩
abbrev S_ : Shape := ⟨0, ![]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x32x256x2048 : Shape := ⟨4, ![2, 32, 256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 128
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x2048x32x64, .bf16⟩
  | .hbm, ⟨3, _⟩ => ⟨S2x2048x32x64, .bf16⟩
  | .hbm, ⟨4, _⟩ => ⟨S2048x512, .bf16⟩
  | .hbm, ⟨5, _⟩ => ⟨S2x256x2048, .f32⟩
  | .hbm, ⟨6, _⟩ => ⟨S2x256x2048, .bf16⟩
  | .hbm, ⟨7, _⟩ => ⟨S2x256x32x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S1x2048, .i32⟩
  | .hbm, ⟨48, _⟩ => ⟨S256x2048, .i32⟩
  | .hbm, ⟨49, _⟩ => ⟨S256x2048, .i32⟩
  | .hbm, ⟨50, _⟩ => ⟨S256x2048, .i1⟩
  | .hbm, ⟨51, _⟩ => ⟨S_, .i32⟩
  | .hbm, ⟨52, _⟩ => ⟨S1x2048, .i32⟩
  | .hbm, ⟨53, _⟩ => ⟨S1x2048, .i1⟩
  | .hbm, ⟨54, _⟩ => ⟨S256x2048, .i1⟩
  | .hbm, ⟨55, _⟩ => ⟨S256x2048, .i1⟩
  | .hbm, ⟨56, _⟩ => ⟨S256x2048, .i32⟩
  | .hbm, ⟨57, _⟩ => ⟨S256x2048, .i32⟩
  | .hbm, ⟨58, _⟩ => ⟨S256x2048, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S256x2048, .i32⟩
  | .hbm, ⟨66, _⟩ => ⟨S256x2048, .i32⟩
  | .hbm, ⟨67, _⟩ => ⟨S_, .i32⟩
  | .hbm, ⟨68, _⟩ => ⟨S256x2048, .i32⟩
  | .hbm, ⟨69, _⟩ => ⟨S256x2048, .i1⟩
  | .hbm, ⟨70, _⟩ => ⟨S_, .i32⟩
  | .hbm, ⟨71, _⟩ => ⟨S256x2048, .i32⟩
  | .hbm, ⟨72, _⟩ => ⟨S256x2048, .i1⟩
  | .hbm, ⟨73, _⟩ => ⟨S_, .i32⟩
  | .hbm, ⟨74, _⟩ => ⟨S_, .i1⟩
  | .hbm, ⟨75, _⟩ => ⟨S256x2048, .i1⟩
  | .hbm, ⟨76, _⟩ => ⟨S256x2048, .i1⟩
  | .hbm, ⟨77, _⟩ => ⟨S256x2048, .i1⟩
  | .hbm, ⟨78, _⟩ => ⟨S256x2048, .i32⟩
  | .hbm, ⟨79, _⟩ => ⟨S256x2048, .i32⟩
  | .hbm, ⟨80, _⟩ => ⟨S256x2048, .i32⟩
  | .hbm, ⟨81, _⟩ => ⟨S_, .i32⟩
  | .hbm, ⟨82, _⟩ => ⟨S256x2048, .i32⟩
  | .hbm, ⟨83, _⟩ => ⟨S256x2048, .i1⟩
  | .hbm, ⟨84, _⟩ => ⟨S256x2048, .i1⟩
  | .hbm, ⟨85, _⟩ => ⟨S2x32x256x2048, .f32⟩
  | .hbm, ⟨86, _⟩ => ⟨S2x32x256x2048, .bf16⟩
  | .hbm, ⟨87, _⟩ => ⟨S2x32x256x2048, .f32⟩
  | .hbm, ⟨88, _⟩ => ⟨S_, .f32⟩
  | .hbm, ⟨89, _⟩ => ⟨S2x32x256x2048, .f32⟩
  | .hbm, ⟨90, _⟩ => ⟨S2x32x256x2048, .f32⟩
  | .hbm, ⟨91, _⟩ => ⟨S1x1x256x2048, .i1⟩
  | .hbm, ⟨92, _⟩ => ⟨S_, .f32⟩
  | .hbm, ⟨93, _⟩ => ⟨S_, .f32⟩
  | .hbm, ⟨94, _⟩ => ⟨S2x32x256x2048, .i1⟩
  | .hbm, ⟨95, _⟩ => ⟨S2x32x256x2048, .f32⟩
  | .hbm, ⟨96, _⟩ => ⟨S2x32x256x2048, .f32⟩
  | .hbm, ⟨97, _⟩ => ⟨S_, .f32⟩
  | .hbm, ⟨98, _⟩ => ⟨S2x32x256, .f32⟩
  | .hbm, ⟨99, _⟩ => ⟨S2x32x256x1, .f32⟩
  | .hbm, ⟨100, _⟩ => ⟨S2x32x256x2048, .f32⟩
  | .hbm, ⟨101, _⟩ => ⟨S2x32x256x2048, .f32⟩
  | .hbm, ⟨102, _⟩ => ⟨S2x32x256x2048, .f32⟩
  | .hbm, ⟨103, _⟩ => ⟨S_, .i1⟩
  | .hbm, ⟨104, _⟩ => ⟨S256, .i1⟩
  | .hbm, ⟨105, _⟩ => ⟨S1x1x256x1, .i1⟩
  | .hbm, ⟨106, _⟩ => ⟨S_, .f32⟩
  | .hbm, ⟨107, _⟩ => ⟨S2x32x256, .f32⟩
  | .hbm, ⟨108, _⟩ => ⟨S2x32x256x1, .f32⟩
  | .hbm, ⟨109, _⟩ => ⟨S_, .f32⟩
  | .hbm, ⟨110, _⟩ => ⟨S_, .f32⟩
  | .hbm, ⟨111, _⟩ => ⟨S2x32x256x1, .i1⟩
  | .hbm, ⟨112, _⟩ => ⟨S2x32x256x1, .f32⟩
  | .hbm, ⟨113, _⟩ => ⟨S2x32x256x1, .f32⟩
  | .hbm, ⟨114, _⟩ => ⟨S2x32x256x2048, .f32⟩
  | .hbm, ⟨115, _⟩ => ⟨S2x32x256x2048, .f32⟩
  | .hbm, ⟨116, _⟩ => ⟨S1x1x256x1, .i1⟩
  | .hbm, ⟨117, _⟩ => ⟨S_, .f32⟩
  | .hbm, ⟨118, _⟩ => ⟨S_, .f32⟩
  | .hbm, ⟨119, _⟩ => ⟨S2x32x256x2048, .i1⟩
  | .hbm, ⟨120, _⟩ => ⟨S2x32x256x2048, .f32⟩
  | .hbm, ⟨121, _⟩ => ⟨S2x32x256x2048, .f32⟩
  | .hbm, ⟨122, _⟩ => ⟨S2x2048x32x64, .f32⟩
  | .hbm, ⟨123, _⟩ => ⟨S2x32x64x256, .f32⟩
  | .hbm, ⟨124, _⟩ => ⟨S2x256x32x64, .f32⟩
  | .hbm, ⟨125, _⟩ => ⟨S2x256x2048, .f32⟩
  | .hbm, ⟨126, _⟩ => ⟨S2048x512, .f32⟩
  | .hbm, ⟨127, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Sched.lean ====
/-
  The protocol of the kernel, without its contents: eight devices, a start barrier, and three all-to-all
  exchanges (keys and values, partial sums, summed slices), each of them a `Chan`: for every peer a source
  view, for every sender a destination slot, and the contents both hold when a copy is under way.

  Semaphores: 6 + 16 i + j is the send semaphore of exchange i towards device j, 14 + 16 i + j the receive
  semaphore of exchange i from device j, 54 the semaphore of the three local copies.
-/
module

public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Rounds

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline's own rounds, and the rounds of the exchange, whose duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- Send semaphore of exchange i towards device j. -/
def sS (i : Fin 3) (j : Dev nD) : DmaSem sig := (⟨6 + 16 * i.val + j.val, by have := i.2; have := j.2; simp only [nD] at *; show _ < 55; omega⟩ : Fin 55)
/-- Receive semaphore of exchange i from device j. -/
def sR (i : Fin 3) (j : Dev nD) : DmaSem sig := (⟨14 + 16 * i.val + j.val, by have := i.2; have := j.2; simp only [nD] at *; show _ < 55; omega⟩ : Fin 55)
/-- The semaphore of the local copies. -/
def sL : DmaSem sig := (⟨54, by decide⟩ : Fin 55)
/-- The start barrier. -/
abbrev sB : Sem sig := (0 : Fin 1)

abbrev sCell (c : Dev nD) (i : Fin 3) (j : Dev nD) : GSem nD τ sig := ((c : Thread nD τ), .dma (sS i j))
abbrev rCell (c : Dev nD) (i : Fin 3) (j : Dev nD) : GSem nD τ sig := ((c : Thread nD τ), .dma (sR i j))
abbrev lCell (c : Dev nD) : GSem nD τ sig := ((c : Thread nD τ), .dma sL)
abbrev bCell (c : Dev nD) : GSem nD τ sig := ((c : Thread nD τ), .reg sB)

/-- A part of the body at the buffers and semaphores the launch gives it. -/
abbrev onBufs {α : Type 1} (f : (arg0 : Memref sig .tc .vmem S2x256x512 .bf16) → (harg0 : arg0.IsWhole) → (arg1 : Memref sig .tc .vmem S512x256 .bf16) → (harg1 : arg1.IsWhole) → (arg2 : Memref sig .tc .vmem S2x256x2048 .bf16) → (harg2 : arg2.IsWhole) → (arg3 : Memref sig .tc .vmem S2x256x2048 .bf16) → (harg3 : arg3.IsWhole) → (arg4 : Memref sig .tc .vmem S256x512 .bf16) → (harg4 : arg4.IsWhole) → (arg5 : Memref sig .tc .vmem S2x256x512 .f32) → (harg5 : arg5.IsWhole) → (arg6 : Memref sig .tc .vmem S8x2x2x256x256 .bf16) → (harg6 : arg6.IsWhole) → (arg7 : Memref sig .tc .vmem S8x2x2x256x256 .bf16) → (harg7 : arg7.IsWhole) → (arg8 : Memref sig .tc .vmem S2x256x512 .f32) → (harg8 : arg8.IsWhole) → (arg9 : Memref sig .tc .vmem S8x2x32x512 .bf16) → (harg9 : arg9.IsWhole) → (arg10 : Memref sig .tc .vmem S8x2x32x512 .bf16) → (harg10 : arg10.IsWhole) → (arg11 : Memref sig .tc .vmem S2x32x512 .bf16) → (harg11 : arg11.IsWhole) → (arg12 : Memref sig .tc .vmem S8x2x32x512 .bf16) → (harg12 : arg12.IsWhole) → (arg13 arg14 arg15 arg16 arg17 arg18 : DmaSems sig S8) → (arg19 : DmaSems sig S_) → α) : α :=
  f (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13

/-! ## One exchange -/

/-- An all-to-all exchange: device c's copy to device j goes from `src j` on c, at share `q j` and contents `fs c j`, into
    `dst c` on j, whose contents are then `fr j c`. -/
structure Chan (F : FTy → Type) where
  s : Shape
  e : EltTy
  src : Dev nD → Memref sig .tc .vmem s e
  dst : Dev nD → Memref sig .tc .vmem s e
  q : Dev nD → PosShare TreeShare
  fs : (c j : Dev nD) → Buf (Elt F) ((src j).view.loc (c : Thread nD τ))
  fr : (c j : Dev nD) → Buf (Elt F) ((dst j).view.loc (c : Thread nD τ))
  N : ℕ
  hN : ∀ j, (dst j).view.dmaCredit = N
  pos : 0 < N

namespace Chan
variable (X : Chan F)

/-- The source elements of the copy to j, on device c. -/
abbrev srcPts (c j : Dev nD) : sProp 𝕄 := (X.src j).view.loc (c : Thread nD τ) ↦[(X.src j).view.set]{X.q j} X.fs c j
/-- The slot for device j on device c, filled. -/
abbrev dstPts (c j : Dev nD) : sProp 𝕄 := (X.dst j).view.loc (c : Thread nD τ) ↦[(X.dst j).view.set]{fullShare} X.fr c j
/-- The slot for device j on device c, at any contents. -/
abbrev dstAny (c j : Dev nD) : sProp 𝕄 := iprop(∃ f, (X.dst j).view.loc (c : Thread nD τ) ↦[(X.dst j).view.set]{fullShare} f)

/-- The copy from c to j makes the slot's contents. -/
def Moves : Prop := ∀ (c j : Dev nD) (fd : Buf (Elt F) ((X.dst c).view.loc (j : Thread nD τ))) (i : (X.dst c).view.ref.ty.shape.Idx), i ∈ (X.dst c).view.set →
  (X.dst c).view.write (Elt F) fd ((X.src j).view.read (Elt F) (X.fs c j)) Finset.univ i = X.fr j c i

end Chan

variable (X : Fin 3 → Chan F)

/-! ## The schedule -/

/-- Device p's signal to device d's barrier hands over p's three slots for d, and says p's receive cells for d are live. -/
def barPay (d p : Dev nD) : sProp 𝕄 := bigSep Finset.univ fun i : Fin 3 => iprop((X i).dstAny p d ∗ reached ER (rCell p i d) 0)

/-- Which exchange, which side, which peer a semaphore number of an exchange stands for. -/
def exOf (n : ℕ) : Fin 3 := ⟨(n - 6) / 16 % 3, Nat.mod_lt _ (by decide)⟩
def peerOf (n : ℕ) : Dev nD := (⟨(n - 6) % 8, Nat.mod_lt _ (by decide)⟩ : Fin 8)
abbrev IsSend (n : ℕ) : Prop := (n - 6) / 8 % 2 = 0

def sched : Rounds.Schedule (GSem nD τ sig) (Dev nD) 𝕄 where
  duties g r := match g.2 with
    | .reg _ => if r = 0 ∧ g.1.2 = .tc then Finset.univ else ∅
    | .dma n => if g.1.2 = .tc ∧ (6 ≤ n.val ∧ n.val < 54 ∧ r = 0 ∧ peerOf n.val ≠ g.1.1 ∨ n.val = 54 ∧ r < 3) then {0} else ∅
  unitless _ := False
  amount g r _ := match g.2 with
    | .reg _ => 1
    | .dma n => if n.val = 54 then (X ⟨r % 3, Nat.mod_lt _ (by decide)⟩).N else (X (exOf n.val)).N
  payload g r p := match g.2 with
    | .reg _ => barPay X g.1.1 p
    | .dma n => if n.val = 54 then iprop((X ⟨r % 3, Nat.mod_lt _ (by decide)⟩).dstPts g.1.1 g.1.1 ∗ (X ⟨r % 3, Nat.mod_lt _ (by decide)⟩).srcPts g.1.1 g.1.1)
      else if IsSend n.val then (X (exOf n.val)).srcPts g.1.1 (peerOf n.val) else (X (exOf n.val)).dstPts g.1.1 (peerOf n.val)
  amount_pos g r d _ := by
    dsimp only
    split
    · exact Nat.one_pos
    · split <;> exact Chan.pos _

instance sched_payload_storable (g : GSem nD τ sig) (r : ℕ) (d : Dev nD) :
    BI.Storable (upEmb : UEmb _ 𝕄) ((sched X).payload g r d) := by
  dsimp only [sched]
  unfold barPay
  (repeat' split) <;> infer_instance

theorem val_sS (i : Fin 3) (j : Dev nD) : (sS i j).val = 6 + 16 * i.val + j.val := rfl
theorem val_sR (i : Fin 3) (j : Dev nD) : (sR i j).val = 14 + 16 * i.val + j.val := rfl
theorem dev_lt (j : Dev nD) : j.val < 8 := j.2

theorem exOf_sS (i : Fin 3) (j : Dev nD) : exOf (sS i j).val = i := by
  apply Fin.ext; have := i.2; have := dev_lt j; simp only [exOf, val_sS]; omega
theorem exOf_sR (i : Fin 3) (j : Dev nD) : exOf (sR i j).val = i := by
  apply Fin.ext; have := i.2; have := dev_lt j; simp only [exOf, val_sR]; omega
theorem peerOf_sS (i : Fin 3) (j : Dev nD) : peerOf (sS i j).val = j := by
  apply Fin.ext; have := i.2; have := dev_lt j; simp only [peerOf, val_sS]; omega
theorem peerOf_sR (i : Fin 3) (j : Dev nD) : peerOf (sR i j).val = j := by
  apply Fin.ext; have := i.2; have := dev_lt j; simp only [peerOf, val_sR]; omega
theorem isSend_sS (i : Fin 3) (j : Dev nD) : IsSend (sS i j).val := by
  have := i.2; have := dev_lt j; simp only [IsSend, val_sS]; omega
theorem not_isSend_sR (i : Fin 3) (j : Dev nD) : ¬ IsSend (sR i j).val := by
  have := i.2; have := dev_lt j; simp only [IsSend, val_sR]; omega
theorem sS_ne (i : Fin 3) (j : Dev nD) : ¬ (sS i j).val = 54 := by
  have := i.2; have := dev_lt j; simp only [val_sS]; omega
theorem sR_ne (i : Fin 3) (j : Dev nD) : ¬ (sR i j).val = 54 := by
  have := i.2; have := dev_lt j; simp only [val_sR]; omega

section Tables
variable (c : Dev nD) (i : Fin 3) (j : Dev nD)

theorem duties_b : (sched X).duties (bCell c) 0 = Finset.univ := by dsimp only [sched]; exact if_pos ⟨rfl, rfl⟩
theorem duties_s (h : j ≠ c) : (sched X).duties (sCell c i j) 0 = {0} := by
  dsimp only [sched]; rw [if_pos]
  have := i.2; have := dev_lt j
  exact ⟨rfl, .inl ⟨by rw [val_sS]; omega, by rw [val_sS]; omega, rfl, by rw [peerOf_sS]; exact h⟩⟩
theorem duties_r (h : j ≠ c) : (sched X).duties (rCell c i j) 0 = {0} := by
  dsimp only [sched]; rw [if_pos]
  have := i.2; have := dev_lt j
  exact ⟨rfl, .inl ⟨by rw [val_sR]; omega, by rw [val_sR]; omega, rfl, by rw [peerOf_sR]; exact h⟩⟩
theorem duties_l : (sched X).duties (lCell c) i.val = {0} := by
  dsimp only [sched]; rw [if_pos]; exact ⟨rfl, .inr ⟨rfl, i.2⟩⟩

theorem amount_b (r : ℕ) (d : Dev nD) : (sched X).amount (bCell c) r d = 1 := rfl
theorem amount_s (r : ℕ) (d : Dev nD) : (sched X).amount (sCell c i j) r d = (X i).N := by
  dsimp only [sched]; rw [if_neg (sS_ne i j), exOf_sS]
theorem amount_r (r : ℕ) (d : Dev nD) : (sched X).amount (rCell c i j) r d = (X i).N := by
  dsimp only [sched]; rw [if_neg (sR_ne i j), exOf_sR]
theorem modi : (⟨i.val % 3, Nat.mod_lt _ (by decide)⟩ : Fin 3) = i := Fin.ext (Nat.mod_eq_of_lt i.2)
theorem amount_l (d : Dev nD) : (sched X).amount (lCell c) i.val d = (X i).N := by
  dsimp only [sched]; rw [if_pos (show sL.val = 54 from rfl), modi]

theorem payload_b (r : ℕ) (p : Dev nD) : (sched X).payload (bCell c) r p = barPay X c p := rfl
theorem payload_s (r : ℕ) (d : Dev nD) : (sched X).payload (sCell c i j) r d = (X i).srcPts c j := by
  dsimp only [sched]; rw [if_neg (sS_ne i j), if_pos (isSend_sS i j), exOf_sS, peerOf_sS]
theorem payload_r (r : ℕ) (d : Dev nD) : (sched X).payload (rCell c i j) r d = (X i).dstPts c j := by
  dsimp only [sched]; rw [if_neg (sR_ne i j), if_neg (not_isSend_sR i j), exOf_sR, peerOf_sR]
theorem payload_l (d : Dev nD) : (sched X).payload (lCell c) i.val d = iprop((X i).dstPts c c ∗ (X i).srcPts c c) := by
  dsimp only [sched]; rw [if_pos (show sL.val = 54 from rfl), modi]

theorem expect_b : (sched X).expect (bCell c) 0 = 8 := by
  unfold Schedule.expect Schedule.amountOf; rw [duties_b]; exact (Finset.sum_const _).trans rfl
theorem expect_s (h : j ≠ c) : (sched X).expect (sCell c i j) 0 = (X i).N := by
  unfold Schedule.expect Schedule.amountOf; rw [duties_s X c i j h, Finset.sum_singleton, amount_s]
theorem expect_r (h : j ≠ c) : (sched X).expect (rCell c i j) 0 = (X i).N := by
  unfold Schedule.expect Schedule.amountOf; rw [duties_r X c i j h, Finset.sum_singleton, amount_r]
theorem expect_l : (sched X).expect (lCell c) i.val = (X i).N := by
  unfold Schedule.expect Schedule.amountOf; rw [duties_l, Finset.sum_singleton, amount_l]

theorem rest_b : bigSep ((sched X).duties (bCell c) 0 \ ∅) (fun u => (sched X).payload (bCell c) 0 u) = bigSep Finset.univ fun p => barPay X c p := by
  rw [Finset.sdiff_empty, duties_b]; rfl
theorem rest_s (h : j ≠ c) : bigSep ((sched X).duties (sCell c i j) 0 \ ∅) (fun u => (sched X).payload (sCell c i j) 0 u) = (X i).srcPts c j := by
  rw [Finset.sdiff_empty, duties_s X c i j h, bigSep_singleton, payload_s]
theorem rest_r (h : j ≠ c) : bigSep ((sched X).duties (rCell c i j) 0 \ ∅) (fun u => (sched X).payload (rCell c i j) 0 u) = (X i).dstPts c j := by
  rw [Finset.sdiff_empty, duties_r X c i j h, bigSep_singleton, payload_r]
theorem rest_l : bigSep ((sched X).duties (lCell c) i.val \ ∅) (fun u => (sched X).payload (lCell c) i.val u) = iprop((X i).dstPts c c ∗ (X i).srcPts c c) := by
  rw [Finset.sdiff_empty, duties_l, bigSep_singleton, payload_l]

/-- From round 1 on only the local copies' cell has duties, and it has none from round 3 on. -/
theorem later (g : GSem nD τ sig) (hg : g.2 ≠ .dma sL) : ∀ r, 1 ≤ r → (sched X).duties g r = ∅ := fun r hr => by
  obtain ⟨t, sm⟩ := g
  cases sm with
  | reg s => dsimp only [sched]; exact if_neg fun h => by omega
  | dma n =>
    dsimp only [sched]; refine if_neg fun h => ?_
    rcases h.2 with h | h
    · omega
    · exact hg (congrArg SemLoc.dma (Fin.ext h.1))
theorem later_l : ∀ r, 3 ≤ r → (sched X).duties (lCell c) r = ∅ := fun r hr => by
  dsimp only [sched]; refine if_neg fun h => ?_
  rcases h.2 with h | h
  · exact absurd h.2.1 (Nat.lt_irrefl 54)
  · omega
/-- The cells of a device's exchange with itself have no duties at all. -/
theorem never_s : ∀ r, 0 ≤ r → (sched X).duties (sCell c i c) r = ∅ := fun r _ => by
  dsimp only [sched]; refine if_neg fun h => ?_
  rcases h.2 with h | h
  · exact h.2.2.2 (peerOf_sS i c)
  · exact sS_ne i c h.1
theorem never_r : ∀ r, 0 ≤ r → (sched X).duties (rCell c i c) r = ∅ := fun r _ => by
  dsimp only [sched]; refine if_neg fun h => ?_
  rcases h.2 with h | h
  · exact h.2.2.2 (peerOf_sR i c)
  · exact sR_ne i c h.1

end Tables

/-! ## Levels -/

def L (g : GSem nD τ sig) : Finset Unit := if g.1.2 = .tc then {()} else ∅
/-- Barrier 1; receive cells of exchange i at i + 2; every other cell 0. -/
def lv (g : GSem nD τ sig) (_ : Unit) : ℕ := match g.2 with
  | .reg _ => 1
  | .dma n => if 6 ≤ n.val ∧ n.val < 54 ∧ ¬ IsSend n.val then (exOf n.val).val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_b (c : Dev nD) : lv (bCell c) () = 1 := rfl
theorem lv_r (c : Dev nD) (i : Fin 3) (j : Dev nD) : lv (rCell c i j) () = i.val + 2 := by
  have := i.2; have := dev_lt j
  dsimp only [lv]
  rw [if_pos ⟨by rw [val_sR]; omega, by rw [val_sR]; omega, not_isSend_sR i j⟩, exOf_sR]
theorem lv_s (c : Dev nD) (i : Fin 3) (j : Dev nD) : lv (sCell c i j) () = 0 := by
  dsimp only [lv]; exact if_neg fun h => h.2.2 (isSend_sS i j)
theorem lv_l (c : Dev nD) : lv (lCell c) () = 0 := by
  dsimp only [lv]; exact if_neg fun h => absurd h.2.1 (Nat.lt_irrefl 54)

/-- Everything owed sits above level n. -/
def Above (n : ℕ) (O : CellTallies nD τ sig Unit) : Prop := ∀ g u, 0 < O g u → u ∈ L g ∧ n < lv g u

theorem above_zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n k : ℕ} {c : Dev nD} {sm : SemLoc sig} (h : n < lv ((c : Thread nD τ), sm) ()) : Above n (tallyAt ((c : Thread nD τ), sm) () k) := fun g u hg => by
  rw [tallyAt_apply] at hg
  split at hg
  · next e => rw [e.1]; exact ⟨by rw [L_tc]; exact Finset.mem_singleton_self _, h⟩
  · exact absurd hg (Nat.lt_irrefl 0)
theorem above_sum {n : ℕ} {ι : Type} (s : Finset ι) (f : ι → CellTallies nD τ sig Unit) (h : ∀ a ∈ s, Above n (f a)) : Above n (∑ a ∈ s, f a) :=
  Finset.sum_induction _ _ (fun _ _ => Above.add) (above_zero n) h
theorem Above.mono {n n' : ℕ} {O : CellTallies nD τ sig Unit} (h : Above n O) (hn : n' ≤ n) : Above n' O :=
  fun g u hg => ⟨(h g u hg).1, lt_of_le_of_lt hn (h g u hg).2⟩

theorem mayWait {c : Dev nD} {sm : SemLoc sig} {O : CellTallies nD τ sig Unit} {n : ℕ} (hsm : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hsm)
    (fun g u hg => (h g u hg).2)

/-! ## What a device owes -/

/-- The receive credits of exchange i device c still owes once the copies to devices below k are issued. -/
def due (i : Fin 3) (c : Dev nD) (k : ℕ) : CellTallies nD τ sig Unit :=
  ∑ j ∈ Finset.univ.filter (fun j : Dev nD => k ≤ j.val ∧ j ≠ c), tallyAt (rCell j i c) () (X i).N
/-- The barrier units device c still owes once the devices below k are signalled. -/
def dueB (k : ℕ) : CellTallies nD τ sig Unit :=
  ∑ d ∈ Finset.univ.filter (fun d : Dev nD => k ≤ d.val), tallyAt (bCell d) () 1

theorem due_above (i : Fin 3) (c : Dev nD) (k : ℕ) : Above (i.val + 1) (due X i c k) :=
  above_sum _ _ fun j _ => above_tally (by rw [lv_r]; omega)

theorem due_step {i : Fin 3} {c j : Dev nD} (h : j ≠ c) : due X i c j.val = due X i c (j.val + 1) + tallyAt (rCell j i c) () (X i).N := by
  unfold due
  rw [show Finset.univ.filter (fun p : Dev nD => j.val ≤ p.val ∧ p ≠ c) = insert j (Finset.univ.filter (fun p : Dev nD => j.val + 1 ≤ p.val ∧ p ≠ c)) by
    ext p; simp only [Finset.mem_filter, Finset.mem_univ, true_and, Finset.mem_insert]
    constructor
    · intro ⟨h1, h2⟩
      by_cases e : p = j
      · exact .inl e
      · exact .inr ⟨by have : p.val ≠ j.val := fun h => e (Fin.ext h); omega, h2⟩
    · rintro (rfl | ⟨h1, h2⟩)
      · exact ⟨le_rfl, h⟩
      · exact ⟨by omega, h2⟩,
    Finset.sum_insert (by simp), add_comm]
theorem due_self (i : Fin 3) (c : Dev nD) : due X i c c.val = due X i c (c.val + 1) := by
  unfold due
  congr 1
  ext p; simp only [Finset.mem_filter, Finset.mem_univ, true_and]
  constructor
  · intro ⟨h1, h2⟩; exact ⟨by have : p.val ≠ c.val := fun h => h2 (Fin.ext h); omega, h2⟩
  · intro ⟨h1, h2⟩; exact ⟨by omega, h2⟩
theorem due_end (i : Fin 3) (c : Dev nD) : due X i c 8 = 0 := by
  unfold due
  rw [Finset.filter_eq_empty_iff.mpr fun p _ h => absurd h.1 (by have := dev_lt p; omega), Finset.sum_empty]
theorem dueB_step (d : Dev nD) : dueB d.val = dueB (d.val + 1) + tallyAt (bCell d) () 1 := by
  unfold dueB
  rw [show Finset.univ.filter (fun p : Dev nD => d.val ≤ p.val) = insert d (Finset.univ.filter (fun p : Dev nD => d.val + 1 ≤ p.val)) by
    ext p; simp only [Finset.mem_filter, Finset.mem_univ, true_and, Finset.mem_insert]
    constructor
    · intro h1
      by_cases e : p = d
      · exact .inl e
      · exact .inr (by have : p.val ≠ d.val := fun h => e (Fin.ext h); omega)
    · rintro (rfl | h1) <;> omega,
    Finset.sum_insert (by simp), add_comm]
theorem dueB_end : dueB 8 = 0 := by
  unfold dueB
  rw [Finset.filter_eq_empty_iff.mpr fun p _ h => absurd h (by have := dev_lt p; omega), Finset.sum_empty]

end Cert.KernelIdeal.Run
-- ==== Proof.Steps.lean ====
/-
  One step of an exchange at a time, for any peer: the signal, the send, the local copy, the wait for a slot, the
  wait for a send. A state `St c A B k` says that the peers below k are done (they hold `A`) and the others are not
  (they hold `B`); the device itself is not a peer.
-/
module

public import proofs.«01_k».proof.Proof.Sched

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

abbrev 𝒱₀ : Variants := Variants.none

/-! ## States -/

theorem emp_l (P : sProp 𝕄) : iprop(emp ∗ P) = P := equiv_iff.mp BI.emp_sep
theorem emp_r (P : sProp 𝕄) : iprop(P ∗ emp) = P := equiv_iff.mp BI.sep_emp
theorem bs_at {I : Type} [DecidableEq I] {s : Finset I} {i : I} (h : i ∈ s) (Φ : I → sProp 𝕄) :
    bigSep s Φ = iprop(Φ i ∗ bigSep (s.erase i) Φ) := BI.bigSep_erase h
theorem bs_sep {I : Type} (s : Finset I) (Φ Ψ : I → sProp 𝕄) :
    bigSep s (fun i => iprop(Φ i ∗ Ψ i)) = iprop(bigSep s Φ ∗ bigSep s Ψ) := BI.bigSep_sep s Φ Ψ

/-- The peers of c, each with its own piece. -/
def peers (c : Dev nD) (A : Dev nD → sProp 𝕄) : sProp 𝕄 := bigSep Finset.univ fun j : Dev nD => if j = c then iprop(emp) else A j

def St (c : Dev nD) (A B : Dev nD → sProp 𝕄) (k : ℕ) : sProp 𝕄 := peers c fun j => if j.val < k then A j else B j

theorem peers_congr {c : Dev nD} {A B : Dev nD → sProp 𝕄} (h : ∀ j, j ≠ c → A j = B j) : peers c A = peers c B :=
  BI.bigSep_congr fun p _ => by
    by_cases e : p = c
    · rw [if_pos e, if_pos e]
    · rw [if_neg e, if_neg e, h p e]

theorem peers_mono {c : Dev nD} {A B : Dev nD → sProp 𝕄} (h : ∀ j, j ≠ c → A j ⊢ B j) : peers c A ⊢ peers c B :=
  BI.bigSep_mono fun p _ => by
    by_cases e : p = c
    · rw [if_pos e, if_pos e]; exact BI.Entails.refl _
    · rw [if_neg e, if_neg e]; exact h p e

/-- A family over all devices is the device's own piece and its peers'. -/
theorem peers_split (c : Dev nD) (A : Dev nD → sProp 𝕄) : bigSep Finset.univ A = iprop(A c ∗ peers c A) := by
  unfold peers
  rw [bs_at (Finset.mem_univ c), bs_at (Finset.mem_univ c) (fun j : Dev nD => if j = c then iprop(emp) else A j), if_pos rfl, emp_l]
  congr 1
  exact BI.bigSep_congr fun p hp => by rw [if_neg (Finset.mem_erase.mp hp).1]

/-- One peer's piece out, and another put in. -/
theorem peers_at {c j : Dev nD} (h : j ≠ c) {A B : Dev nD → sProp 𝕄} (hAB : ∀ p, p ≠ j → A p = B p) :
    peers c A ⊢ iprop(A j ∗ (B j -∗ peers c B)) := by
  unfold peers
  rw [bs_at (Finset.mem_univ j), bs_at (Finset.mem_univ j) (fun p : Dev nD => if p = c then iprop(emp) else B p), if_neg h, if_neg h]
  have e : bigSep (Finset.univ.erase j) (fun p : Dev nD => if p = c then iprop(emp) else A p)
      = (bigSep (Finset.univ.erase j) (fun p : Dev nD => if p = c then iprop(emp) else B p) : sProp 𝕄) :=
    BI.bigSep_congr fun p hp => by rw [hAB p (Finset.mem_erase.mp hp).1]
  rw [e]
  iintro ⟨HB, HR⟩
  isplitl [HB]; · iexact HB
  iintro HA
  isplitl [HA]; · iexact HA
  iexact HR

theorem st_step {c j : Dev nD} (A B : Dev nD → sProp 𝕄) (h : j ≠ c) : St c A B j.val ⊢ iprop(B j ∗ (A j -∗ St c A B (j.val + 1))) := by
  have := peers_at h (A := fun p => if p.val < j.val then A p else B p) (B := fun p => if p.val < j.val + 1 then A p else B p) fun p hp => by
    have hne : p.val ≠ j.val := fun e => hp (Fin.ext e)
    by_cases hl : p.val < j.val
    · rw [if_pos hl, if_pos (by omega)]
    · rw [if_neg hl, if_neg (by omega)]
  rw [if_neg (Nat.lt_irrefl _), if_pos (Nat.lt_succ_self _)] at this
  exact this

theorem st_self (c : Dev nD) (A B : Dev nD → sProp 𝕄) : St c A B c.val = St c A B (c.val + 1) :=
  peers_congr fun p h => by
    have hne : p.val ≠ c.val := fun e => h (Fin.ext e)
    by_cases hl : p.val < c.val
    · rw [if_pos hl, if_pos (by omega)]
    · rw [if_neg hl, if_neg (by omega)]

theorem st_zero (c : Dev nD) (A B : Dev nD → sProp 𝕄) : St c A B 0 = peers c B :=
  peers_congr fun p _ => if_neg (Nat.not_lt_zero _)
theorem st_end (c : Dev nD) (A B : Dev nD → sProp 𝕄) : St c A B 8 = peers c A :=
  peers_congr fun p _ => if_pos (dev_lt p)

theorem peers_sep (c : Dev nD) (A B : Dev nD → sProp 𝕄) : peers c (fun j => iprop(A j ∗ B j)) = iprop(peers c A ∗ peers c B) := by
  unfold peers
  refine Eq.trans (BI.bigSep_congr fun p _ => ?_) (bs_sep _ _ _)
  by_cases h : p = c
  · rw [if_pos h, if_pos h, if_pos h, emp_r]
  · rw [if_neg h, if_neg h, if_neg h]

/-! ## The cells' invariants -/

variable (X : Fin 3 → Chan F)

def barCells : Finset (GSem nD τ sig) := Finset.univ.image bCell
/-- The exchange's own cells: 49 semaphores of every device. -/
abbrev osem (k : Fin 49) : SemLoc sig := .dma (⟨6 + k.val, by have := k.2; show _ < 55; omega⟩ : Fin 55)
def exCells : Finset (GSem nD τ sig) := Finset.univ.image fun p : Dev nD × Fin 49 => ((p.1 : Thread nD τ), osem p.2)

theorem mem_b (c : Dev nD) : bCell c ∈ barCells ∪ exCells := Finset.mem_union_left _ (Finset.mem_image_of_mem _ (Finset.mem_univ _))
theorem mem_ex (c : Dev nD) (n : DmaSem sig) (h : 6 ≤ n.val) : ((c : Thread nD τ), SemLoc.dma n) ∈ barCells ∪ exCells := by
  refine Finset.mem_union_right _ (Finset.mem_image.mpr ⟨(c, (⟨n.val - 6, by have : n.val < 55 := n.2; omega⟩ : Fin 49)), Finset.mem_univ _, ?_⟩)
  refine Prod.ext rfl (congrArg SemLoc.dma (Fin.ext ?_))
  show 6 + (n.val - 6) = n.val; omega
theorem mem_s (c : Dev nD) (i : Fin 3) (j : Dev nD) : sCell c i j ∈ barCells ∪ exCells := mem_ex c _ (by rw [val_sS]; omega)
theorem mem_r (c : Dev nD) (i : Fin 3) (j : Dev nD) : rCell c i j ∈ barCells ∪ exCells := mem_ex c _ (by rw [val_sR]; omega)
theorem mem_l (c : Dev nD) : lCell c ∈ barCells ∪ exCells := mem_ex c _ (by decide)

/-- Every cell's invariant, at the names the launch gave them. -/
def Recs (K : GSem nD τ sig → ℕ) : sProp 𝕄 := bigSep (barCells ∪ exCells) fun g => cellInv ER (sched X) (K g) g
instance recs_persistent (K : GSem nD τ sig → ℕ) : BI.Persistent (Recs X K) := by unfold Recs; infer_instance

theorem rec_at (K : GSem nD τ sig → ℕ) {g : GSem nD τ sig} (h : g ∈ barCells ∪ exCells) : Recs X K ⊢ cellInv ER (sched X) (K g) g := by
  unfold Recs
  rw [bs_at h]; iintro ⟨H, -⟩; iexact H

/-- What c owes, whatever it has waited for. -/
def Owe (c : Dev nD) (O : CellTallies nD τ sig Unit) : sProp 𝕄 := iprop(∃ W, owes (c : Thread nD τ) O W)

/-! ## The steps -/

section Steps
variable (K : GSem nD τ sig → ℕ) (i : Fin 3) (c : Dev nD) {α : Type}

/-- What the copy to j needs. -/
def sendB (j : Dev nD) : sProp 𝕄 :=
  iprop((X i).srcPts c j ∗ (dutyTok ER (sCell c i j) 0 (0 : Dev nD) ∗ reached ER (sCell c i j) 0)
    ∗ dutyTok ER (rCell j i c) 0 (0 : Dev nD) ∗ ((X i).dstAny j c ∗ reached ER (rCell j i c) 0))
/-- What it leaves: the right to wait for it. -/
def sendA (j : Dev nD) : sProp 𝕄 := cred (tallyAt (sCell c i j) () (X i).N)

theorem step_send (hX : (X i).Moves) (j : Dev nD) {C : Prop} [Decidable C] (hC : C ↔ j ≠ c) {k : PUnit.{1} → ℙ α} {Q : α → sProp 𝕄} (O : CellTallies nD τ sig Unit)
    {e : C → TpuEff nD τ sig (Elt F) Λ₀ Proc.tc PUnit}
    (he : ∀ h, ∃ hsc hsrc hdst hsem, e h = .enqueueDma ((X i).src j) (.remote (Dev.tc j : Thread nD τ) ((X i).dst c) (.dma (sS i j)) hsc) (.dma (sR i c)) hsrc hdst hsem) :
    iprop(Recs X K ∗ St c (sendA X i c) (sendB X i c) j.val ∗ Owe c (due X i c j.val + O)
      ∗ (St c (sendA X i c) (sendB X i c) (j.val + 1) ∗ Owe c (due X i c (j.val + 1) + O) -∗ wp frame (wpE (defs₀ (F := F)) 𝒱₀ (c : Thread nD τ) none) Set.univ (k ⟨⟩) Q))
      ⊢ wp frame (wpE (defs₀ (F := F)) 𝒱₀ (c : Thread nD τ) none) Set.univ (dite C (fun h => Prog.lift (e h) >>= fun _ => k ⟨⟩) (fun _ => k ⟨⟩)) Q := by
  by_cases h : j = c
  · subst h
    rw [dif_neg (fun hc => hC.mp hc rfl), st_self, due_self]
    iintro ⟨-, HS, HO, Hk⟩
    iapply Hk
    isplitl [HS] <;> iassumption
  · rw [dif_pos (hC.mpr h)]
    obtain ⟨hsc, hsrc, hdst, hsem, e'⟩ := he (hC.mpr h)
    rw [e']
    show _ ⊢ wp frame (wpE (defs₀ (F := F)) 𝒱₀ (c : Thread nD τ) none) Set.univ (.op (.enqueueDma ((X i).src j) (.remote (Dev.tc j : Thread nD τ) ((X i).dst c) (.dma (sS i j)) hsc) (.dma (sR i c)) hsrc hdst hsem) fun _ => k ⟨⟩) Q
    unfold Owe
    iintro ⟨#HR, HS, ⟨%W, HO⟩, Hk⟩
    ihave HS' := (st_step (sendA X i c) (sendB X i c) h) $$ HS
    unfold sendB
    icases HS' with ⟨⟨Hsrc, ⟨HtS, #HrS⟩, HtR, ⟨%fd, Hdst⟩, #HrR⟩, Hback⟩
    iapply (Rounds.wp_send_pointsTo 𝒱₀ ER (sched X) (c : Thread nD τ) none (c' := (j : Thread nD τ)) (src := (X i).src j) (dst := (X i).dst c)
        (sS := .dma (sS i j)) (sem := .dma (sR i c)) (q := (X i).q j) (fs := (X i).fs c j) (κ₁ := K (sCell c i j)) (κ₂ := K (rCell j i c))
        (r₁ := 0) (r₂ := 0) (d₁ := (0 : Dev nD)) (d₂ := (0 : Dev nD)) (fd := fd)
        (by rw [duties_s X c i j h]; exact Finset.mem_singleton_self _) (by rw [duties_r X j i c (Ne.symm h)]; exact Finset.mem_singleton_self _)
        () () (X i).N ((X i).hN c) (amount_s X c i j 0 0) (amount_r X j i c 0 0) (due X i c (j.val + 1) + O)
        ((congrArg (· + O) (due_step X h)).trans (add_right_comm _ _ _)) (W := W)
        (by rw [payload_s])
        (by rw [payload_r]; exact Entails.of_eq (pointsTo_congr fun ix hix => hX c j fd ix hix))) $$ [Hsrc Hdst HO HtS HtR]
    · isplitr; · iapply (rec_at X K (mem_s c i j)); iexact HR
      isplitr; · iapply (rec_at X K (mem_r j i c)); iexact HR
      isplitl [Hsrc]; · iexact Hsrc
      isplitl [Hdst]; · iexact Hdst
      isplitl [HO]; · iexact HO
      isplitl [HtS]; · iexact HtS
      isplitr; · iexact HrS
      isplitl [HtR]; · iexact HtR
      iexact HrR
    iintro ⟨Hc, HO⟩
    iapply Hk
    isplitl [Hback Hc]
    · iapply Hback; unfold sendA; iexact Hc
    iexists W; iexact HO

/-- What the wait for the slot from j needs, and what it leaves. -/
def recvB (j : Dev nD) : sProp 𝕄 := iprop(cred (tallyAt (rCell c i j) () (X i).N) ∗ atPos ER (rCell c i j) 0 ∅ 0)
def recvA (j : Dev nD) : sProp 𝕄 := iprop((X i).dstPts c j ∗ atPos ER (rCell c i j) 1 ∅ 0)

theorem step_recv (j : Dev nD) {C : Prop} [Decidable C] (hC : C ↔ j ≠ c) {k : PUnit.{1} → ℙ α} {Q : α → sProp 𝕄} {O : CellTallies nD τ sig Unit} (hO : Above (i.val + 2) O)
    {e : C → TpuEff nD τ sig (Elt F) Λ₀ Proc.tc PUnit}
    (he : ∀ h, ∀ R : PUnit → sProp 𝕄, wpE (defs₀ (F := F)) 𝒱₀ (c : Thread nD τ) none Set.univ (e h) R = waitSpec (c : Thread nD τ) Set.univ (.dma (sR i j)) (X i).N R) :
    iprop(Recs X K ∗ levAts L lv ∗ St c (recvA X i c) (recvB X i c) j.val ∗ Owe c O
      ∗ (St c (recvA X i c) (recvB X i c) (j.val + 1) ∗ Owe c O -∗ wp frame (wpE (defs₀ (F := F)) 𝒱₀ (c : Thread nD τ) none) Set.univ (k ⟨⟩) Q))
      ⊢ wp frame (wpE (defs₀ (F := F)) 𝒱₀ (c : Thread nD τ) none) Set.univ (dite C (fun h => Prog.lift (e h) >>= fun _ => k ⟨⟩) (fun _ => k ⟨⟩)) Q := by
  by_cases h : j = c
  · subst h
    rw [dif_neg (fun hc => hC.mp hc rfl), st_self]
    iintro ⟨-, -, HS, HO, Hk⟩
    iapply Hk
    isplitl [HS] <;> iassumption
  · rw [dif_pos (hC.mpr h)]
    show _ ⊢ wp frame (wpE (defs₀ (F := F)) 𝒱₀ (c : Thread nD τ) none) Set.univ (.op (e (hC.mpr h)) fun _ => k ⟨⟩) Q
    unfold Owe
    iintro ⟨#HR, #Hlev, HS, ⟨%W, HO⟩, Hk⟩
    ihave HS' := (st_step (recvA X i c) (recvB X i c) h) $$ HS
    unfold recvB
    icases HS' with ⟨⟨Hc, Hat⟩, Hback⟩
    iapply (Rounds.wp_wait_rest_token 𝒱₀ ER (sched X) (c : Thread nD τ) none (κ := K (rCell c i j))
        (he (hC.mpr h)) (Set.mem_univ _) () (O := O) (W := W) (R := 0) (m := 0) (T := ∅)
        ((Nat.zero_add _).trans (expect_r X c i j h).symm)) $$ [Hc HO Hat]
    · isplitr; · iapply (rec_at X K (mem_r c i j)); iexact HR
      isplitl [Hc]; · iexact Hc
      isplitl [HO]; · iexact HO
      isplitr; · iapply (mayWait (n := i.val + 2) (by rw [lv_r]) hO); iexact Hlev
      iexact Hat
    iintro ⟨HO, Hat, -, Hpay⟩
    ihave Hp := (Entails.of_eq (rest_r X c i j h)) $$ Hpay
    iapply Hk
    isplitl [Hback Hp Hat]
    · iapply Hback; unfold recvA
      isplitl [Hp] <;> iassumption
    iexists _; iexact HO

/-- What the wait for the copy to j needs, and what it leaves. -/
def finB (j : Dev nD) : sProp 𝕄 := iprop(cred (tallyAt (sCell c i j) () (X i).N) ∗ atPos ER (sCell c i j) 0 ∅ 0)
def finA (j : Dev nD) : sProp 𝕄 := iprop((X i).srcPts c j ∗ atPos ER (sCell c i j) 1 ∅ 0)

theorem wait_fin {j : Dev nD} (h : j ≠ c) {k : PUnit.{1} → ℙ α} {Q : α → sProp 𝕄}
    {e : TpuEff nD τ sig (Elt F) Λ₀ Proc.tc PUnit}
    (he : ∀ R : PUnit → sProp 𝕄, wpE (defs₀ (F := F)) 𝒱₀ (c : Thread nD τ) none Set.univ e R = waitSpec (c : Thread nD τ) Set.univ (.dma (sS i j)) (X i).N R) :
    iprop(Recs X K ∗ finB X i c j ∗ Owe c 0 ∗ (finA X i c j ∗ Owe c 0 -∗ wp frame (wpE (defs₀ (F := F)) 𝒱₀ (c : Thread nD τ) none) Set.univ (k ⟨⟩) Q))
      ⊢ wp frame (wpE (defs₀ (F := F)) 𝒱₀ (c : Thread nD τ) none) Set.univ (.op e k) Q := by
  unfold Owe finA finB
  iintro ⟨#HR, ⟨Hc, Hat⟩, ⟨%W, HO⟩, Hk⟩
  iapply (Rounds.wp_wait_rest_token 𝒱₀ ER (sched X) (c : Thread nD τ) none (κ := K (sCell c i j))
      he (Set.mem_univ _) () (O := 0) (W := W) (R := 0) (m := 0) (T := ∅)
      ((Nat.zero_add _).trans (expect_s X c i j h).symm)) $$ [Hc HO Hat]
  · isplitr; · iapply (rec_at X K (mem_s c i j)); iexact HR
    isplitl [Hc]; · iexact Hc
    isplitl [HO]; · iexact HO
    isplitr; · rw [MayWait_zero]; iempintro
    iexact Hat
  iintro ⟨HO, Hat, -, Hpay⟩
  ihave Hp := (Entails.of_eq (rest_s X c i j h)) $$ Hpay
  iapply Hk
  isplitl [Hp Hat]
  · isplitl [Hp] <;> iassumption
  iexists _; iexact HO

/-- All three exchanges' copies to j, waited for at once. -/
def fin3B (j : Dev nD) : sProp 𝕄 := iprop(finB X 0 c j ∗ finB X 1 c j ∗ finB X 2 c j)
def fin3A (j : Dev nD) : sProp 𝕄 := iprop(finA X 0 c j ∗ finA X 1 c j ∗ finA X 2 c j)

theorem step_fin (j : Dev nD) {C : Prop} [Decidable C] (hC : C ↔ j ≠ c) {k : PUnit.{1} → ℙ α} {Q : α → sProp 𝕄}
    {e0 e1 e2 : C → TpuEff nD τ sig (Elt F) Λ₀ Proc.tc PUnit}
    (he0 : ∀ h, ∀ R : PUnit → sProp 𝕄, wpE (defs₀ (F := F)) 𝒱₀ (c : Thread nD τ) none Set.univ (e0 h) R = waitSpec (c : Thread nD τ) Set.univ (.dma (sS 0 j)) (X 0).N R)
    (he1 : ∀ h, ∀ R : PUnit → sProp 𝕄, wpE (defs₀ (F := F)) 𝒱₀ (c : Thread nD τ) none Set.univ (e1 h) R = waitSpec (c : Thread nD τ) Set.univ (.dma (sS 1 j)) (X 1).N R)
    (he2 : ∀ h, ∀ R : PUnit → sProp 𝕄, wpE (defs₀ (F := F)) 𝒱₀ (c : Thread nD τ) none Set.univ (e2 h) R = waitSpec (c : Thread nD τ) Set.univ (.dma (sS 2 j)) (X 2).N R) :
    iprop(Recs X K ∗ St c (fin3A X c) (fin3B X c) j.val ∗ Owe c 0
      ∗ (St c (fin3A X c) (fin3B X c) (j.val + 1) ∗ Owe c 0 -∗ wp frame (wpE (defs₀ (F := F)) 𝒱₀ (c : Thread nD τ) none) Set.univ (k ⟨⟩) Q))
      ⊢ wp frame (wpE (defs₀ (F := F)) 𝒱₀ (c : Thread nD τ) none) Set.univ (dite C (fun h => Prog.lift (e0 h) >>= fun _ => Prog.lift (e1 h) >>= fun _ => Prog.lift (e2 h) >>= fun _ => k ⟨⟩) (fun _ => k ⟨⟩)) Q := by
  by_cases h : j = c
  · subst h
    rw [dif_neg (fun hc => hC.mp hc rfl), st_self]
    iintro ⟨-, HS, HO, Hk⟩
    iapply Hk
    isplitl [HS] <;> iassumption
  · rw [dif_pos (hC.mpr h)]
    show _ ⊢ wp frame (wpE (defs₀ (F := F)) 𝒱₀ (c : Thread nD τ) none) Set.univ (.op (e0 (hC.mpr h)) fun _ => .op (e1 (hC.mpr h)) fun _ => .op (e2 (hC.mpr h)) fun _ => k ⟨⟩) Q
    iintro ⟨#HR, HS, HO, Hk⟩
    ihave HS' := (st_step (fin3A X c) (fin3B X c) h) $$ HS
    unfold fin3B
    icases HS' with ⟨⟨H0, H1, H2⟩, Hback⟩
    iapply (wait_fin X K 0 c h (he0 (hC.mpr h)))
    isplitr; · iexact HR
    isplitl [H0]; · iexact H0
    isplitl [HO]; · iexact HO
    iintro ⟨H0, HO⟩
    iapply (wait_fin X K 1 c h (he1 (hC.mpr h)))
    isplitr; · iexact HR
    isplitl [H1]; · iexact H1
    isplitl [HO]; · iexact HO
    iintro ⟨H1, HO⟩
    iapply (wait_fin X K 2 c h (he2 (hC.mpr h)))
    isplitr; · iexact HR
    isplitl [H2]; · iexact H2
    isplitl [HO]; · iexact HO
    iintro ⟨H2, HO⟩
    iapply Hk
    isplitr [HO]
    · iapply Hback; unfold fin3A
      isplitl [H0]; · iexact H0
      isplitl [H1] <;> iassumption
    iexact HO

/-- The local copy of exchange i: slot c of the destination from slot c of the source, on the local semaphore's round i. -/
theorem step_local (hX : (X i).Moves) {k : PUnit.{1} → ℙ α} {Q : α → sProp 𝕄} {e : TpuEff nD τ sig (Elt F) Λ₀ Proc.tc PUnit}
    (he : ∃ hsrc hdst hsem, e = .enqueueDma ((X i).src c) (.here ((X i).dst c)) (.dma sL) hsrc hdst hsem) :
    iprop(Recs X K ∗ (X i).srcPts c c ∗ (X i).dstAny c c ∗ dutyTok ER (lCell c) i.val (0 : Dev nD) ∗ reached ER (lCell c) i.val
      ∗ (cred (tallyAt (lCell c) () (X i).N) -∗ wp frame (wpE (defs₀ (F := F)) 𝒱₀ (c : Thread nD τ) none) Set.univ (k ⟨⟩) Q))
      ⊢ wp frame (wpE (defs₀ (F := F)) 𝒱₀ (c : Thread nD τ) none) Set.univ (.op e k) Q := by
  obtain ⟨hsrc, hdst, hsem, rfl⟩ := he
  iintro ⟨#HR, Hsrc, ⟨%fd, Hdst⟩, Ht, #Hr, Hk⟩
  iapply (Rounds.wp_copy_pointsTo 𝒱₀ ER (sched X) (c : Thread nD τ) none (src := (X i).src c) (dst := (X i).dst c) (sem := .dma sL) (q := (X i).q c)
      (fs := (X i).fs c c) (fd := fd) (r := i.val) (d := (0 : Dev nD)) (κ := K (lCell c))
      (by rw [duties_l]; exact Finset.mem_singleton_self _) () (X i).N ((X i).hN c) (amount_l X c i 0)
      (by rw [payload_l]; exact sep_mono_left (Entails.of_eq (pointsTo_congr fun ix hix => hX c c fd ix hix)))) $$ [Hsrc Hdst Ht]
  · isplitr; · iapply (rec_at X K (mem_l c)); iexact HR
    isplitl [Hsrc]; · iexact Hsrc
    isplitl [Hdst]; · iexact Hdst
    isplitl [Ht]; · iexact Ht
    iexact Hr
  iexact Hk

theorem step_localWait {k : PUnit.{1} → ℙ α} {Q : α → sProp 𝕄} {O : CellTallies nD τ sig Unit} (hO : Above 0 O) {e : TpuEff nD τ sig (Elt F) Λ₀ Proc.tc PUnit}
    (he : ∀ R : PUnit → sProp 𝕄, wpE (defs₀ (F := F)) 𝒱₀ (c : Thread nD τ) none Set.univ e R = waitSpec (c : Thread nD τ) Set.univ (.dma sL) (X i).N R) :
    iprop(Recs X K ∗ levAts L lv ∗ cred (tallyAt (lCell c) () (X i).N) ∗ atPos ER (lCell c) i.val ∅ 0 ∗ Owe c O
      ∗ ((X i).dstPts c c ∗ (X i).srcPts c c ∗ atPos ER (lCell c) (i.val + 1) ∅ 0 ∗ reached ER (lCell c) (i.val + 1) ∗ Owe c O -∗ wp frame (wpE (defs₀ (F := F)) 𝒱₀ (c : Thread nD τ) none) Set.univ (k ⟨⟩) Q))
      ⊢ wp frame (wpE (defs₀ (F := F)) 𝒱₀ (c : Thread nD τ) none) Set.univ (.op e k) Q := by
  unfold Owe
  iintro ⟨#HR, #Hlev, Hc, Hat, ⟨%W, HO⟩, Hk⟩
  iapply (Rounds.wp_wait_rest_token 𝒱₀ ER (sched X) (c : Thread nD τ) none (κ := K (lCell c))
      he (Set.mem_univ _) () (O := O) (W := W) (R := i.val) (m := 0) (T := ∅)
      ((Nat.zero_add _).trans (expect_l X c i).symm)) $$ [Hc HO Hat]
  · isplitr; · iapply (rec_at X K (mem_l c)); iexact HR
    isplitl [Hc]; · iexact Hc
    isplitl [HO]; · iexact HO
    isplitr; · iapply (mayWait (n := 0) (by rw [lv_l]) hO); iexact Hlev
    iexact Hat
  iintro ⟨HO, Hat, #Hr, Hpay⟩
  ihave Hp := (Entails.of_eq (rest_l X c i)) $$ Hpay
  icases Hp with ⟨Hd, Hs⟩
  iapply Hk
  isplitl [Hd]; · iexact Hd
  isplitl [Hs]; · iexact Hs
  isplitl [Hat]; · iexact Hat
  isplitr; · iexact Hr
  iexists _; iexact HO

/-- The signals to devices k, k+1, …: each hands over the slots for the device signalled. -/
def Sig (k : ℕ) : sProp 𝕄 := bigSep Finset.univ fun d : Dev nD => if d.val < k then iprop(emp) else iprop(dutyTok ER (bCell d) 0 c ∗ barPay X d c ∗ reached ER (bCell d) 0)

theorem sig_step (d : Dev nD) : Sig X c d.val ⊢ iprop((dutyTok ER (bCell d) 0 c ∗ barPay X d c ∗ reached ER (bCell d) 0) ∗ Sig X c (d.val + 1)) := by
  unfold Sig
  rw [bs_at (Finset.mem_univ d), bs_at (Finset.mem_univ d) (fun p : Dev nD => if p.val < d.val + 1 then iprop(emp) else _),
    if_neg (Nat.lt_irrefl _), if_pos (Nat.lt_succ_self _), emp_l]
  refine sep_mono_right (Entails.of_eq (BI.bigSep_congr fun p hp => ?_))
  have hne : p.val ≠ d.val := fun e => (Finset.mem_erase.mp hp).1 (Fin.ext e)
  by_cases hl : p.val < d.val
  · rw [if_pos hl, if_pos (by omega)]
  · rw [if_neg hl, if_neg (by omega)]

theorem step_signal (d : Dev nD) {k : PUnit.{1} → ℙ α} {Q : α → sProp 𝕄} (O : CellTallies nD τ sig Unit) :
    iprop(Recs X K ∗ Sig X c d.val ∗ Owe c (dueB d.val + O) ∗ (Sig X c (d.val + 1) ∗ Owe c (dueB (d.val + 1) + O) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (d : Thread nD τ) sB 1) k) Q := by
  unfold Owe
  iintro ⟨#HR, HS, ⟨%W, HO⟩, Hk⟩
  ihave HS' := (sig_step X c d) $$ HS
  icases HS' with ⟨⟨Ht, Hp, #Hr⟩, HS⟩
  iapply (Rounds.wp_signal 𝒱₀ ER (sched X) (c : Thread nD τ) none (dst := (d : Thread nD τ)) (sem := sB) (r := 0) (d := c) (κ := K (bCell d))
      (by rw [duties_b]; exact Finset.mem_univ _) (amount_b X d 0 c) () (dueB (d.val + 1) + O) ((congrArg (· + O) (dueB_step d)).trans (add_right_comm _ _ _))) $$ [HO Ht Hp]
  · isplitr; · iapply (rec_at X K (mem_b d)); iexact HR
    isplitl [HO]; · iexact HO
    isplitl [Ht]; · iexact Ht
    isplitl [Hp]; · rw [payload_b]; iexact Hp
    iexact Hr
  iintro HO
  iapply Hk
  isplitl [HS]; · iexact HS
  iexists W; iexact HO

theorem step_barrier {k : PUnit.{1} → ℙ α} {Q : α → sProp 𝕄} {O : CellTallies nD τ sig Unit} (hO : Above 1 O) :
    iprop(Recs X K ∗ levAts L lv ∗ cred (tallyAt (bCell c) () 8) ∗ atPos ER (bCell c) 0 ∅ 0 ∗ Owe c O
      ∗ ((bigSep Finset.univ fun p => barPay X c p) ∗ atPos ER (bCell c) 1 ∅ 0 ∗ Owe c O -∗ wp frame (wpE (defs₀ (F := F)) 𝒱₀ (c : Thread nD τ) none) Set.univ (k ⟨⟩) Q))
      ⊢ wp frame (wpE (defs₀ (F := F)) 𝒱₀ (c : Thread nD τ) none) Set.univ (.op (.semWait sB 8) k) Q := by
  unfold Owe
  iintro ⟨#HR, #Hlev, Hc, Hat, ⟨%W, HO⟩, Hk⟩
  iapply (Rounds.wp_wait_rest_token 𝒱₀ ER (sched X) (c : Thread nD τ) none (κ := K (bCell c))
      (wpE_semWait_eq 𝒱₀ (c : Thread nD τ) none Set.univ) (Set.mem_univ _) () (O := O) (W := W) (R := 0) (m := 0) (T := ∅)
      ((Nat.zero_add _).trans (expect_b X c).symm)) $$ [Hc HO Hat]
  · isplitr; · iapply (rec_at X K (mem_b c)); iexact HR
    isplitl [Hc]; · iexact Hc
    isplitl [HO]; · iexact HO
    isplitr; · iapply (mayWait (n := 1) (by rw [lv_b]) hO); iexact Hlev
    iexact Hat
  iintro ⟨HO, Hat, -, Hpay⟩
  ihave Hp := (Entails.of_eq (rest_b X c)) $$ Hpay
  iapply Hk
  isplitl [Hp]; · iexact Hp
  isplitl [Hat]; · iexact Hat
  iexists _; iexact HO

end Steps

end Cert.KernelIdeal.Run
-- ==== Proof.Slots.lean ====
/-
  The three exchanges' slots: slot j of a buffer with leading extent 8 is the part whose first coordinate is j.
  What the exchanges carry is a parameter here (`Cts`): per device, the contents of the three send buffers.
-/
module

public import proofs.«01_k».proof.Proof.Sched
public import Idealize.ShloMosaic.Lib.Transfers
public import Idealize.ShloMosaic.Lib.ValueLayout

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)

variable {F : FTy → Type} [FloatOps F]

local notation "𝕄" => MT nD τ sig Unit (Elt F) ℕ UU ℕ

theorem slot5_inb (j : Dev nD) : ∀ a, (![j.val, 0, 0, 0, 0] : Fin 5 → ℕ) a + S1x2x2x256x256.size a ≤ S8x2x2x256x256.size a := by
  revert j; decide
theorem slot4_inb (j : Dev nD) : ∀ a, (![j.val, 0, 0, 0] : Fin 4 → ℕ) a + S1x2x32x512.size a ≤ S8x2x32x512.size a := by
  revert j; decide

/-- Slot j of a keys-and-values buffer. -/
abbrev slot5 (M : Memref sig .tc .vmem S8x2x2x256x256 .bf16) (j : Dev nD) : Memref sig .tc .vmem S2x2x256x256 .bf16 :=
  (M.slice (Rect.unit (s := S8x2x2x256x256) ![j.val, 0, 0, 0, 0] S1x2x2x256x256.size (slot5_inb j)) (fun _ => rfl)).squeeze S2x2x256x256 squeezes_S1x2x2x256x256_S2x2x256x256
/-- Slot j of a buffer of output slices. -/
abbrev slot4 (M : Memref sig .tc .vmem S8x2x32x512 .bf16) (j : Dev nD) : Memref sig .tc .vmem S2x32x512 .bf16 :=
  (M.slice (Rect.unit (s := S8x2x32x512) ![j.val, 0, 0, 0] S1x2x32x512.size (slot4_inb j)) (fun _ => rfl)).squeeze S2x32x512 squeezes_S1x2x32x512_S2x32x512

/-- What the send buffers hold, per device. -/
structure Cts (F : FTy → Type) where
  kv : Dev nD → (cc0_scratch0 : Ref sig .tc).ty.Contents (Elt F)
  rs : Dev nD → (cc0_scratch3 : Ref sig .tc).ty.Contents (Elt F)
  ag : Dev nD → (cc0_scratch5 : Ref sig .tc).ty.Contents (Elt F)

variable (C : Cts F)

/-- What the receive buffers hold in the end: device c's slot j is device j's slot c. -/
def Cts.kvR (c : Dev nD) : (cc0_scratch1 : Ref sig .tc).ty.Contents (Elt F) :=
  fun (i : S8x2x2x256x256.Idx) => C.kv (i 0) (Function.update i 0 c : S8x2x2x256x256.Idx)
def Cts.rsR (c : Dev nD) : (cc0_scratch4 : Ref sig .tc).ty.Contents (Elt F) :=
  fun (i : S8x2x32x512.Idx) => C.rs (i 0) (Function.update i 0 c : S8x2x32x512.Idx)
def Cts.agR (_ : Dev nD) : (cc0_scratch6 : Ref sig .tc).ty.Contents (Elt F) :=
  fun (i : S8x2x32x512.Idx) => C.ag (i 0) (ix3 (i 1) (i 2) (i 3) : S2x32x512.Idx)

def chan (i : Fin 3) : Chan F := match i with
  | 0 => { s := S2x2x256x256, e := .bf16, src := slot5 (Memref.whole cc0_scratch0), dst := slot5 (Memref.whole cc0_scratch1), q := fun _ => fullShare,
           fs := fun c _ => C.kv c, fr := fun c _ => C.kvR c, N := (slot5 (Memref.whole cc0_scratch1) 0).view.dmaCredit, hN := fun _ => rfl,
           pos := View.dmaCredit_pos _ (by decide) }
  | 1 => { s := S2x32x512, e := .bf16, src := slot4 (Memref.whole cc0_scratch3), dst := slot4 (Memref.whole cc0_scratch4), q := fun _ => fullShare,
           fs := fun c _ => C.rs c, fr := fun c _ => C.rsR c, N := (slot4 (Memref.whole cc0_scratch4) 0).view.dmaCredit, hN := fun _ => rfl,
           pos := View.dmaCredit_pos _ (by decide) }
  | 2 => { s := S2x32x512, e := .bf16, src := fun _ => Memref.whole cc0_scratch5, dst := slot4 (Memref.whole cc0_scratch6), q := Transfers.dealOf fullShare Finset.univ,
           fs := fun c _ => C.ag c, fr := fun c _ => C.agR c, N := (slot4 (Memref.whole cc0_scratch6) 0).view.dmaCredit, hN := fun _ => rfl,
           pos := View.dmaCredit_pos _ (by decide) }

/-! ## Where a slot's elements lie -/

theorem rect_val {s : Shape} (off size : Fin s.rank → Nat) (inb) (j : (Rect.unit off size inb).shape.Idx) (a : Fin s.rank) :
    ((Rect.unit off size inb).emb j a : Nat) = off a + j a := by
  rw [Rect.emb_apply]; exact congrArg (off a + ·) (Nat.one_mul _)

/-- The slot's index x, in the buffer. -/
def at5 (j : Dev nD) (x : S2x2x256x256.Idx) : S8x2x2x256x256.Idx := Fin.cons (α := fun a : Fin 5 => Fin (S8x2x2x256x256.size a)) j x
def at4 (j : Dev nD) (x : S2x32x512.Idx) : S8x2x32x512.Idx := Fin.cons (α := fun a : Fin 4 => Fin (S8x2x32x512.size a)) j x

theorem at5_update (j c : Dev nD) (x : S2x2x256x256.Idx) : (Function.update (at5 j x) 0 c : S8x2x2x256x256.Idx) = at5 c x := Fin.update_cons_zero ..
theorem at4_update (j c : Dev nD) (x : S2x32x512.Idx) : (Function.update (at4 j x) 0 c : S8x2x32x512.Idx) = at4 c x := Fin.update_cons_zero ..
theorem at5_zero (j : Dev nD) (x : S2x2x256x256.Idx) : at5 j x 0 = j := rfl
theorem at4_zero (j : Dev nD) (x : S2x32x512.Idx) : at4 j x 0 = j := rfl
theorem at5_tail (i : S8x2x2x256x256.Idx) : at5 (i 0) (fun a => i a.succ) = i := Fin.cons_self_tail i
theorem at4_tail (i : S8x2x32x512.Idx) : at4 (i 0) (fun a => i a.succ) = i := Fin.cons_self_tail i

theorem slot5_emb (M : Memref sig .tc .vmem S8x2x2x256x256 .bf16) (j : Dev nD) (x : S2x2x256x256.Idx) :
    (slot5 M j).view.emb x = M.view.emb (at5 j x) := by
  have e : (Rect.unit (s := S8x2x2x256x256) ![j.val, 0, 0, 0, 0] S1x2x2x256x256.size (slot5_inb j)).emb
      (Shape.reshapeEquiv squeezes_S1x2x2x256x256_S2x2x256x256.numel_eq x) = at5 j x := by
    rw [Shape.reshapeEquiv_cons_one (n := 4) (d := ![2, 2, 256, 256])]
    funext a
    refine Fin.ext ((rect_val _ _ _ _ _).trans ?_)
    refine Fin.cases ?_ (fun b => ?_) a
    · exact Nat.add_zero _
    · have : (![j.val, 0, 0, 0, 0] : Fin 5 → ℕ) b.succ = 0 := by fin_cases b <;> rfl
      rw [this]; exact Nat.zero_add _
  exact congrArg M.view.emb e

theorem slot4_emb (M : Memref sig .tc .vmem S8x2x32x512 .bf16) (j : Dev nD) (x : S2x32x512.Idx) :
    (slot4 M j).view.emb x = M.view.emb (at4 j x) := by
  have e : (Rect.unit (s := S8x2x32x512) ![j.val, 0, 0, 0] S1x2x32x512.size (slot4_inb j)).emb
      (Shape.reshapeEquiv squeezes_S1x2x32x512_S2x32x512.numel_eq x) = at4 j x := by
    rw [Shape.reshapeEquiv_cons_one (n := 3) (d := ![2, 32, 512])]
    funext a
    refine Fin.ext ((rect_val _ _ _ _ _).trans ?_)
    refine Fin.cases ?_ (fun b => ?_) a
    · exact Nat.add_zero _
    · have : (![j.val, 0, 0, 0] : Fin 4 → ℕ) b.succ = 0 := by fin_cases b <;> rfl
      rw [this]; exact Nat.zero_add _
  exact congrArg M.view.emb e

/-- Membership in a view's elements. -/
theorem mem_view {sp : Space} {s : Shape} {e : EltTy} (v : View sig .tc sp s e) (i : v.ref.ty.shape.Idx) : i ∈ v.set ↔ ∃ x, v.emb x = i := by
  simp [View.set]

/-! ## The copies make the receive buffers -/

theorem moves0 : (chan C 0).Moves := fun c j fd i hi => by
  obtain ⟨x, rfl⟩ := (mem_view _ i).mp hi
  refine (View.write_emb_of_mem (v := (slot5 (Memref.whole cc0_scratch1) c).view) fd _ (Finset.mem_univ x)).trans ?_
  exact (congrArg (C.kv c) (slot5_emb (Memref.whole cc0_scratch0) j x)).trans
    ((congrArg (C.kvR j) (slot5_emb (Memref.whole cc0_scratch1) c x)).trans (congrArg (C.kv c) (at5_update c j x))).symm

theorem moves1 : (chan C 1).Moves := fun c j fd i hi => by
  obtain ⟨x, rfl⟩ := (mem_view _ i).mp hi
  refine (View.write_emb_of_mem (v := (slot4 (Memref.whole cc0_scratch4) c).view) fd _ (Finset.mem_univ x)).trans ?_
  exact (congrArg (C.rs c) (slot4_emb (Memref.whole cc0_scratch3) j x)).trans
    ((congrArg (C.rsR j) (slot4_emb (Memref.whole cc0_scratch4) c x)).trans (congrArg (C.rs c) (at4_update c j x))).symm

theorem moves2 : (chan C 2).Moves := fun c j fd i hi => by
  obtain ⟨x, rfl⟩ := (mem_view _ i).mp hi
  refine (View.write_emb_of_mem (v := (slot4 (Memref.whole cc0_scratch6) c).view) fd _ (Finset.mem_univ x)).trans ?_
  show C.ag c x = C.agR j ((slot4 (Memref.whole cc0_scratch6) c).view.emb x)
  refine (congrArg (C.ag c) (ValueIdx.eq_ix3 (n0 := 2) (n1 := 32) (n2 := 512) x)).trans (congrArg (C.agR j) (slot4_emb (Memref.whole cc0_scratch6) c x)).symm

theorem moves (i : Fin 3) : (chan C i).Moves := by
  match i with
  | 0 => exact moves0 C
  | 1 => exact moves1 C
  | 2 => exact moves2 C

/-! ## A buffer is its slots -/

theorem slot5_mem (M : Memref sig .tc .vmem S8x2x2x256x256 .bf16) (j : Dev nD) (i : M.view.ref.ty.shape.Idx) :
    i ∈ (slot5 M j).view.set ↔ ∃ x : S2x2x256x256.Idx, M.view.emb (at5 j x) = i :=
  (mem_view (slot5 M j).view i).trans
    ⟨fun ⟨x, h⟩ => ⟨x, (slot5_emb M j x).symm.trans h⟩, fun ⟨x, h⟩ => ⟨x, (slot5_emb M j x).trans h⟩⟩

theorem slot5_disj (M : Memref sig .tc .vmem S8x2x2x256x256 .bf16) (j k : Dev nD) (h : j ≠ k) :
    Disjoint (α := Finset M.view.ref.ty.shape.Idx) (slot5 M j).view.set (slot5 M k).view.set :=
  Finset.disjoint_left.mpr fun i hi hk => by
    obtain ⟨x, hx⟩ := (slot5_mem M j i).mp hi
    obtain ⟨y, hy⟩ := (slot5_mem M k i).mp hk
    have e : at5 j x = at5 k y := M.view.emb.injective (hx.trans hy.symm)
    exact h (congrFun e 0)

theorem slot5_cover (M : Memref sig .tc .vmem S8x2x2x256x256 .bf16) (i : M.view.ref.ty.shape.Idx) :
    i ∈ M.view.set ↔ ∃ j, i ∈ (slot5 M j).view.set := by
  constructor
  · intro hi
    obtain ⟨x, hx⟩ := (mem_view M.view i).mp hi
    exact ⟨x 0, (slot5_mem M _ i).mpr ⟨fun a => x a.succ, (congrArg M.view.emb (at5_tail x)).trans hx⟩⟩
  · rintro ⟨j, hi⟩
    obtain ⟨x, hx⟩ := (slot5_mem M j i).mp hi
    exact (mem_view M.view i).mpr ⟨_, hx⟩

theorem slot4_mem (M : Memref sig .tc .vmem S8x2x32x512 .bf16) (j : Dev nD) (i : M.view.ref.ty.shape.Idx) :
    i ∈ (slot4 M j).view.set ↔ ∃ x : S2x32x512.Idx, M.view.emb (at4 j x) = i :=
  (mem_view (slot4 M j).view i).trans
    ⟨fun ⟨x, h⟩ => ⟨x, (slot4_emb M j x).symm.trans h⟩, fun ⟨x, h⟩ => ⟨x, (slot4_emb M j x).trans h⟩⟩

theorem slot4_disj (M : Memref sig .tc .vmem S8x2x32x512 .bf16) (j k : Dev nD) (h : j ≠ k) :
    Disjoint (α := Finset M.view.ref.ty.shape.Idx) (slot4 M j).view.set (slot4 M k).view.set :=
  Finset.disjoint_left.mpr fun i hi hk => by
    obtain ⟨x, hx⟩ := (slot4_mem M j i).mp hi
    obtain ⟨y, hy⟩ := (slot4_mem M k i).mp hk
    have e : at4 j x = at4 k y := M.view.emb.injective (hx.trans hy.symm)
    exact h (congrFun e 0)

theorem slot4_cover (M : Memref sig .tc .vmem S8x2x32x512 .bf16) (i : M.view.ref.ty.shape.Idx) :
    i ∈ M.view.set ↔ ∃ j, i ∈ (slot4 M j).view.set := by
  constructor
  · intro hi
    obtain ⟨x, hx⟩ := (mem_view M.view i).mp hi
    exact ⟨x 0, (slot4_mem M _ i).mpr ⟨fun a => x a.succ, (congrArg M.view.emb (at4_tail x)).trans hx⟩⟩
  · rintro ⟨j, hi⟩
    obtain ⟨x, hx⟩ := (slot4_mem M j i).mp hi
    exact (mem_view M.view i).mpr ⟨_, hx⟩

/-- A piece of a buffer is its disjoint parts. -/
theorem pts_parts (ℓ : Loc nD τ sig) (S : Finset (Idx ℓ)) (K : Dev nD → Finset (Idx ℓ)) (f : Buf (Elt F) ℓ)
    (hc : ∀ i, i ∈ S ↔ ∃ j, i ∈ K j) (hd : ∀ j k, j ≠ k → Disjoint (K j) (K k)) :
    (ℓ ↦[S]{fullShare} f : sProp 𝕄) = bigSep Finset.univ fun j : Dev nD => ℓ ↦[K j]{fullShare} f := by
  classical
  have e : S = Finset.univ.biUnion K := Finset.ext fun i => by rw [hc]; simp
  rw [e]
  exact pointsTo_biUnion Finset.univ K fun j _ k _ h => hd j k h

/-- The whole of buffer b on device c. -/
abbrev pt (c : Dev nD) (b : Ref sig .tc) (f : b.ty.Contents (Elt F)) : sProp 𝕄 := (Memref.whole b).view.loc (c : Thread nD τ) ↦{fullShare} f

theorem mem_whole (b : Ref sig .tc) (i : b.ty.shape.Idx) : i ∈ (Finset.univ : Finset b.ty.shape.Idx) ↔ i ∈ (Memref.whole b).view.set :=
  ⟨fun _ => (mem_view (Memref.whole b).view i).mpr ⟨i, rfl⟩, fun _ => Finset.mem_univ _⟩

theorem cover_cc0_scratch0 (i : cc0_scratch0.ty.shape.Idx) : i ∈ (Finset.univ : Finset cc0_scratch0.ty.shape.Idx) ↔ ∃ j, i ∈ (slot5 (Memref.whole cc0_scratch0) j).view.set := by
  refine (mem_whole cc0_scratch0 i).trans ?_
  exact (slot5_cover (Memref.whole cc0_scratch0) i)
theorem disj_cc0_scratch0 (j k : Dev nD) (h : j ≠ k) : Disjoint (α := Finset cc0_scratch0.ty.shape.Idx) (slot5 (Memref.whole cc0_scratch0) j).view.set (slot5 (Memref.whole cc0_scratch0) k).view.set :=
  slot5_disj (Memref.whole cc0_scratch0) j k h
theorem pt_cc0_scratch0 (c : Dev nD) (f) : (pt c cc0_scratch0 f : sProp 𝕄) = bigSep Finset.univ fun j =>
    (Memref.whole cc0_scratch0).view.loc (c : Thread nD τ) ↦[(slot5 (Memref.whole cc0_scratch0) j).view.set]{fullShare} f := by
  apply pts_parts
  · exact cover_cc0_scratch0
  · exact disj_cc0_scratch0
theorem cover_cc0_scratch1 (i : cc0_scratch1.ty.shape.Idx) : i ∈ (Finset.univ : Finset cc0_scratch1.ty.shape.Idx) ↔ ∃ j, i ∈ (slot5 (Memref.whole cc0_scratch1) j).view.set := by
  refine (mem_whole cc0_scratch1 i).trans ?_
  exact (slot5_cover (Memref.whole cc0_scratch1) i)
theorem disj_cc0_scratch1 (j k : Dev nD) (h : j ≠ k) : Disjoint (α := Finset cc0_scratch1.ty.shape.Idx) (slot5 (Memref.whole cc0_scratch1) j).view.set (slot5 (Memref.whole cc0_scratch1) k).view.set :=
  slot5_disj (Memref.whole cc0_scratch1) j k h
theorem pt_cc0_scratch1 (c : Dev nD) (f) : (pt c cc0_scratch1 f : sProp 𝕄) = bigSep Finset.univ fun j =>
    (Memref.whole cc0_scratch1).view.loc (c : Thread nD τ) ↦[(slot5 (Memref.whole cc0_scratch1) j).view.set]{fullShare} f := by
  apply pts_parts
  · exact cover_cc0_scratch1
  · exact disj_cc0_scratch1
theorem cover_cc0_scratch3 (i : cc0_scratch3.ty.shape.Idx) : i ∈ (Finset.univ : Finset cc0_scratch3.ty.shape.Idx) ↔ ∃ j, i ∈ (slot4 (Memref.whole cc0_scratch3) j).view.set := by
  refine (mem_whole cc0_scratch3 i).trans ?_
  exact (slot4_cover (Memref.whole cc0_scratch3) i)
theorem disj_cc0_scratch3 (j k : Dev nD) (h : j ≠ k) : Disjoint (α := Finset cc0_scratch3.ty.shape.Idx) (slot4 (Memref.whole cc0_scratch3) j).view.set (slot4 (Memref.whole cc0_scratch3) k).view.set :=
  slot4_disj (Memref.whole cc0_scratch3) j k h
theorem pt_cc0_scratch3 (c : Dev nD) (f) : (pt c cc0_scratch3 f : sProp 𝕄) = bigSep Finset.univ fun j =>
    (Memref.whole cc0_scratch3).view.loc (c : Thread nD τ) ↦[(slot4 (Memref.whole cc0_scratch3) j).view.set]{fullShare} f := by
  apply pts_parts
  · exact cover_cc0_scratch3
  · exact disj_cc0_scratch3
theorem cover_cc0_scratch4 (i : cc0_scratch4.ty.shape.Idx) : i ∈ (Finset.univ : Finset cc0_scratch4.ty.shape.Idx) ↔ ∃ j, i ∈ (slot4 (Memref.whole cc0_scratch4) j).view.set := by
  refine (mem_whole cc0_scratch4 i).trans ?_
  exact (slot4_cover (Memref.whole cc0_scratch4) i)
theorem disj_cc0_scratch4 (j k : Dev nD) (h : j ≠ k) : Disjoint (α := Finset cc0_scratch4.ty.shape.Idx) (slot4 (Memref.whole cc0_scratch4) j).view.set (slot4 (Memref.whole cc0_scratch4) k).view.set :=
  slot4_disj (Memref.whole cc0_scratch4) j k h
theorem pt_cc0_scratch4 (c : Dev nD) (f) : (pt c cc0_scratch4 f : sProp 𝕄) = bigSep Finset.univ fun j =>
    (Memref.whole cc0_scratch4).view.loc (c : Thread nD τ) ↦[(slot4 (Memref.whole cc0_scratch4) j).view.set]{fullShare} f := by
  apply pts_parts
  · exact cover_cc0_scratch4
  · exact disj_cc0_scratch4
theorem cover_cc0_scratch6 (i : cc0_scratch6.ty.shape.Idx) : i ∈ (Finset.univ : Finset cc0_scratch6.ty.shape.Idx) ↔ ∃ j, i ∈ (slot4 (Memref.whole cc0_scratch6) j).view.set := by
  refine (mem_whole cc0_scratch6 i).trans ?_
  exact (slot4_cover (Memref.whole cc0_scratch6) i)
theorem disj_cc0_scratch6 (j k : Dev nD) (h : j ≠ k) : Disjoint (α := Finset cc0_scratch6.ty.shape.Idx) (slot4 (Memref.whole cc0_scratch6) j).view.set (slot4 (Memref.whole cc0_scratch6) k).view.set :=
  slot4_disj (Memref.whole cc0_scratch6) j k h
theorem pt_cc0_scratch6 (c : Dev nD) (f) : (pt c cc0_scratch6 f : sProp 𝕄) = bigSep Finset.univ fun j =>
    (Memref.whole cc0_scratch6).view.loc (c : Thread nD τ) ↦[(slot4 (Memref.whole cc0_scratch6) j).view.set]{fullShare} f := by
  apply pts_parts
  · exact cover_cc0_scratch6
  · exact disj_cc0_scratch6
theorem pt_src0 (c : Dev nD) : (pt c cc0_scratch0 (C.kv c) : sProp 𝕄) = bigSep Finset.univ fun j => (chan C 0).srcPts c j := by
  rw [pt_cc0_scratch0]
  exact bigSep_congr fun j _ => rfl
theorem pt_src1 (c : Dev nD) : (pt c cc0_scratch3 (C.rs c) : sProp 𝕄) = bigSep Finset.univ fun j => (chan C 1).srcPts c j := by
  rw [pt_cc0_scratch3]
  exact bigSep_congr fun j _ => rfl
theorem pt_dst0 (c : Dev nD) : (pt c cc0_scratch1 (C.kvR c) : sProp 𝕄) = bigSep Finset.univ fun j => (chan C 0).dstPts c j := by
  rw [pt_cc0_scratch1]
  exact bigSep_congr fun j _ => rfl
theorem pt_dst1 (c : Dev nD) : (pt c cc0_scratch4 (C.rsR c) : sProp 𝕄) = bigSep Finset.univ fun j => (chan C 1).dstPts c j := by
  rw [pt_cc0_scratch4]
  exact bigSep_congr fun j _ => rfl
theorem pt_dst2 (c : Dev nD) : (pt c cc0_scratch6 (C.agR c) : sProp 𝕄) = bigSep Finset.univ fun j => (chan C 2).dstPts c j := by
  rw [pt_cc0_scratch6]
  exact bigSep_congr fun j _ => rfl
theorem pt_src2 (c : Dev nD) : (pt c cc0_scratch5 (C.ag c) : sProp 𝕄) = bigSep Finset.univ fun j => (chan C 2).srcPts c j := by
  have := Transfers.pointsTo_deal (nD := nD) (τ := τ) (sig := sig) (Ix := Unit) (Val := Elt F) (Name := ℕ) (U := UU) (Lvl := ℕ) (ℓ := (Memref.whole cc0_scratch5).view.loc (c : Thread nD τ)) (S := Finset.univ) (f := C.ag c) (Finset.univ : Finset (Dev nD)) ⟨0, Finset.mem_univ _⟩ fullShare
  have e : (Memref.whole cc0_scratch5).view.set = Finset.univ := View.set_whole _
  refine this.trans (bigSep_congr fun j _ => ?_)
  show _ = ((Memref.whole cc0_scratch5).view.loc (c : Thread nD τ) ↦[(Memref.whole cc0_scratch5).view.set]{Transfers.dealOf fullShare Finset.univ j} C.ag c : sProp 𝕄)
  rw [e]
theorem any_dst0 (c : Dev nD) (f) : (pt c cc0_scratch1 f : sProp 𝕄) ⊢ bigSep Finset.univ fun j => (chan C 0).dstAny c j := by
  rw [pt_cc0_scratch1]
  refine BI.bigSep_mono fun j _ => ?_
  exact BIClass.exists_intro (Φ := fun g => iprop((Memref.whole cc0_scratch1).view.loc (c : Thread nD τ) ↦[(slot5 (Memref.whole cc0_scratch1) j).view.set]{fullShare} g)) f
theorem any_dst1 (c : Dev nD) (f) : (pt c cc0_scratch4 f : sProp 𝕄) ⊢ bigSep Finset.univ fun j => (chan C 1).dstAny c j := by
  rw [pt_cc0_scratch4]
  refine BI.bigSep_mono fun j _ => ?_
  exact BIClass.exists_intro (Φ := fun g => iprop((Memref.whole cc0_scratch4).view.loc (c : Thread nD τ) ↦[(slot4 (Memref.whole cc0_scratch4) j).view.set]{fullShare} g)) f
theorem any_dst2 (c : Dev nD) (f) : (pt c cc0_scratch6 f : sProp 𝕄) ⊢ bigSep Finset.univ fun j => (chan C 2).dstAny c j := by
  rw [pt_cc0_scratch6]
  refine BI.bigSep_mono fun j _ => ?_
  exact BIClass.exists_intro (Φ := fun g => iprop((Memref.whole cc0_scratch6).view.loc (c : Thread nD τ) ↦[(slot4 (Memref.whole cc0_scratch6) j).view.set]{fullShare} g)) f

end Cert.KernelIdeal.Run
-- ==== Proof.Glue.lean ====
/-
  The step rules with the rest of the state framed, and what the printed addresses come to.
-/
module

public import proofs.«01_k».proof.Proof.Steps
public import proofs.«01_k».proof.Proof.Slots
public import proofs.«01_k».proof.Proof.Gen.KernelIdeal

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

/-- The proof goal of a program on device c. -/
abbrev WPc (c : Dev nD) {α : Type} (p : ℙ α) (Q : α → sProp 𝕄) : sProp 𝕄 := wp frame (wpE (defs₀ (F := F)) 𝒱₀ (c : Thread nD τ) none) Set.univ p Q

/-- A step's rule under a frame. -/
theorem framed {P P' R W G : sProp 𝕄} (h : iprop(P ∗ (P' -∗ W)) ⊢ G) (hk : iprop(R ∗ P') ⊢ W) : iprop(R ∗ P) ⊢ G := by
  refine BIBase.Entails.trans ?_ h
  iintro ⟨HR, HP⟩
  isplitl [HP]
  · iexact HP
  iintro HP'
  iapply hk
  isplitl [HR]
  · iexact HR
  iexact HP'

/-- The frame's and the state's places exchanged. -/
theorem reframe {R P R' P' G : sProp 𝕄} (h : iprop(R ∗ P) ⊢ iprop(R' ∗ P')) (hk : iprop(R' ∗ P') ⊢ G) : iprop(R ∗ P) ⊢ G := BIBase.Entails.trans h hk

variable (C : Cts F) (K : GSem nD τ sig → ℕ)

/-- The device's number, as the program computes it. -/
abbrev V2 (c : Dev nD) : BitVec 32 := Scalar.remsi (Scalar.divsi (Dev.word c) 1#32) 8#32

/-- What every step may look at. -/
def Base : sProp 𝕄 := iprop(Recs (chan C) K ∗ levAts L lv)

/-- A rule that looks at the cells' invariants and the levels, under a frame. -/
theorem based {P P' R W G : sProp 𝕄} (h : iprop(Recs (chan C) K ∗ levAts L lv ∗ P ∗ (P' -∗ W)) ⊢ G)
    (hk : iprop(R ∗ (Base C K ∗ P')) ⊢ W) : iprop(R ∗ (Base C K ∗ P)) ⊢ G := by
  refine BIBase.Entails.trans ?_ h
  unfold Base at hk ⊢
  iintro ⟨HR, ⟨#HRecs, #HL⟩, HP⟩
  isplitr
  · iexact HRecs
  isplitr
  · iexact HL
  isplitl [HP]
  · iexact HP
  iintro HP'
  iapply hk
  isplitl [HR]
  · iexact HR
  isplitr
  · isplitr
    · iexact HRecs
    iexact HL
  iexact HP'

variable (c : Dev nD) {α : Type}

theorem f_send {Q : α → sProp 𝕄} {R : sProp 𝕄} (i : Fin 3) (j : Dev nD) {P : Prop} [Decidable P] (O : CellTallies nD τ sig Unit) {k : ℙ α}
    {e : P → TpuEff nD τ sig (Elt F) Λ₀ Proc.tc PUnit.{1}} (hC : P ↔ j ≠ c)
    (he : ∀ h, ∃ hsc hsrc hdst hsem, e h = .enqueueDma ((chan C i).src j) (.remote (Dev.tc j : Thread nD τ) ((chan C i).dst c) (.dma (sS i j)) hsc) (.dma (sR i c)) hsrc hdst hsem)
    (hk : iprop(R ∗ (Base C K ∗ St c (sendA (chan C) i c) (sendB (chan C) i c) (j.val + 1) ∗ Owe c (due (chan C) i c (j.val + 1) + O))) ⊢ WPc c k Q) :
    iprop(R ∗ (Base C K ∗ St c (sendA (chan C) i c) (sendB (chan C) i c) j.val ∗ Owe c (due (chan C) i c j.val + O)))
      ⊢ WPc c (dite P (fun h => Prog.op (e h) fun _ => k) (fun _ => k)) Q := by
  refine based C K ?_ hk
  refine BIBase.Entails.trans ?_ (step_send (chan C) K i c (moves C i) j hC (k := fun _ => k) (Q := Q) O he)
  iintro ⟨HR, -, ⟨HS, HO⟩, Hk⟩
  isplitl [HR]
  · iexact HR
  isplitl [HS]
  · iexact HS
  isplitl [HO]
  · iexact HO
  iexact Hk

theorem f_recv {Q : α → sProp 𝕄} {R : sProp 𝕄} (i : Fin 3) (j : Dev nD) {P : Prop} [Decidable P] {O : CellTallies nD τ sig Unit} {k : ℙ α}
    {e : P → TpuEff nD τ sig (Elt F) Λ₀ Proc.tc PUnit.{1}} (hO : Above (i.val + 2) O) (hC : P ↔ j ≠ c)
    (he : ∀ h, ∀ R : PUnit → sProp 𝕄, wpE (defs₀ (F := F)) 𝒱₀ (c : Thread nD τ) none Set.univ (e h) R = waitSpec (c : Thread nD τ) Set.univ (.dma (sR i j)) (chan C i).N R)
    (hk : iprop(R ∗ (Base C K ∗ St c (recvA (chan C) i c) (recvB (chan C) i c) (j.val + 1) ∗ Owe c O)) ⊢ WPc c k Q) :
    iprop(R ∗ (Base C K ∗ St c (recvA (chan C) i c) (recvB (chan C) i c) j.val ∗ Owe c O))
      ⊢ WPc c (dite P (fun h => Prog.op (e h) fun _ => k) (fun _ => k)) Q := by
  refine based C K ?_ hk
  refine BIBase.Entails.trans ?_ (step_recv (chan C) K i c j hC (k := fun _ => k) (Q := Q) hO he)
  iintro ⟨HR, HL, ⟨HS, HO⟩, Hk⟩
  isplitl [HR]
  · iexact HR
  isplitl [HL]
  · iexact HL
  isplitl [HS]
  · iexact HS
  isplitl [HO]
  · iexact HO
  iexact Hk

theorem f_fin {Q : α → sProp 𝕄} {R : sProp 𝕄} (j : Dev nD) {P : Prop} [Decidable P] {k : ℙ α}
    {e0 e1 e2 : P → TpuEff nD τ sig (Elt F) Λ₀ Proc.tc PUnit.{1}} (hC : P ↔ j ≠ c)
    (he0 : ∀ h, ∀ R : PUnit → sProp 𝕄, wpE (defs₀ (F := F)) 𝒱₀ (c : Thread nD τ) none Set.univ (e0 h) R = waitSpec (c : Thread nD τ) Set.univ (.dma (sS 0 j)) (chan C 0).N R)
    (he1 : ∀ h, ∀ R : PUnit → sProp 𝕄, wpE (defs₀ (F := F)) 𝒱₀ (c : Thread nD τ) none Set.univ (e1 h) R = waitSpec (c : Thread nD τ) Set.univ (.dma (sS 1 j)) (chan C 1).N R)
    (he2 : ∀ h, ∀ R : PUnit → sProp 𝕄, wpE (defs₀ (F := F)) 𝒱₀ (c : Thread nD τ) none Set.univ (e2 h) R = waitSpec (c : Thread nD τ) Set.univ (.dma (sS 2 j)) (chan C 2).N R)
    (hk : iprop(R ∗ (Base C K ∗ St c (fin3A (chan C) c) (fin3B (chan C) c) (j.val + 1) ∗ Owe c 0)) ⊢ WPc c k Q) :
    iprop(R ∗ (Base C K ∗ St c (fin3A (chan C) c) (fin3B (chan C) c) j.val ∗ Owe c 0))
      ⊢ WPc c (dite P (fun h => Prog.op (e0 h) fun _ => Prog.op (e1 h) fun _ => Prog.op (e2 h) fun _ => k) (fun _ => k)) Q := by
  refine based C K ?_ hk
  refine BIBase.Entails.trans ?_ (step_fin (chan C) K c j hC (k := fun _ => k) (Q := Q) he0 he1 he2)
  iintro ⟨HR, -, ⟨HS, HO⟩, Hk⟩
  isplitl [HR]
  · iexact HR
  isplitl [HS]
  · iexact HS
  isplitl [HO]
  · iexact HO
  iexact Hk

theorem f_local {Q : α → sProp 𝕄} {R : sProp 𝕄} (i : Fin 3) {k : PUnit.{1} → ℙ α} {e : TpuEff nD τ sig (Elt F) Λ₀ Proc.tc PUnit.{1}}
    (he : ∃ hsrc hdst hsem, e = .enqueueDma ((chan C i).src c) (.here ((chan C i).dst c)) (.dma sL) hsrc hdst hsem)
    (hk : iprop(R ∗ (Base C K ∗ cred (tallyAt (lCell c) () (chan C i).N))) ⊢ WPc c (k ⟨⟩) Q) :
    iprop(R ∗ (Base C K ∗ ((chan C i).srcPts c c ∗ (chan C i).dstAny c c ∗ dutyTok ER (lCell c) i.val (0 : Dev nD) ∗ reached ER (lCell c) i.val))) ⊢ WPc c (.op e k) Q := by
  refine based C K ?_ hk
  refine BIBase.Entails.trans ?_ (step_local (chan C) K i c (moves C i) (k := k) (Q := Q) he)
  iintro ⟨HR, -, ⟨H1, H2, H3, H4⟩, Hk⟩
  isplitl [HR]
  · iexact HR
  isplitl [H1]
  · iexact H1
  isplitl [H2]
  · iexact H2
  isplitl [H3]
  · iexact H3
  isplitl [H4]
  · iexact H4
  iexact Hk

theorem f_localWait {Q : α → sProp 𝕄} {R : sProp 𝕄} (i : Fin 3) {k : PUnit.{1} → ℙ α} {O : CellTallies nD τ sig Unit} {e : TpuEff nD τ sig (Elt F) Λ₀ Proc.tc PUnit.{1}} (hO : Above 0 O)
    (he : ∀ R : PUnit → sProp 𝕄, wpE (defs₀ (F := F)) 𝒱₀ (c : Thread nD τ) none Set.univ e R = waitSpec (c : Thread nD τ) Set.univ (.dma sL) (chan C i).N R)
    (hk : iprop(R ∗ (Base C K ∗ ((chan C i).dstPts c c ∗ (chan C i).srcPts c c ∗ atPos ER (lCell c) (i.val + 1) ∅ 0 ∗ reached ER (lCell c) (i.val + 1) ∗ Owe c O))) ⊢ WPc c (k ⟨⟩) Q) :
    iprop(R ∗ (Base C K ∗ (cred (tallyAt (lCell c) () (chan C i).N) ∗ atPos ER (lCell c) i.val ∅ 0 ∗ Owe c O))) ⊢ WPc c (.op e k) Q := by
  refine based C K ?_ hk
  refine BIBase.Entails.trans ?_ (step_localWait (chan C) K i c (k := k) (Q := Q) hO he)
  iintro ⟨HR, HL, ⟨H1, H2, H3⟩, Hk⟩
  isplitl [HR]
  · iexact HR
  isplitl [HL]
  · iexact HL
  isplitl [H1]
  · iexact H1
  isplitl [H2]
  · iexact H2
  isplitl [H3]
  · iexact H3
  iexact Hk

theorem f_signal {Q : α → sProp 𝕄} {R : sProp 𝕄} (d : Dev nD) {k : PUnit.{1} → ℙ α} (O : CellTallies nD τ sig Unit) {d' : Dev nD} {s : Sem sig} {w : ℤ} (hd : d' = d) (hs : s = sB) (hw : w = 1)
    (hk : iprop(R ∗ (Base C K ∗ (Sig (chan C) c (d.val + 1) ∗ Owe c (dueB (d.val + 1) + O)))) ⊢ WPc c (k ⟨⟩) Q) :
    iprop(R ∗ (Base C K ∗ (Sig (chan C) c d.val ∗ Owe c (dueB d.val + O)))) ⊢ WPc c (.op (.semSignal (d' : Thread nD τ) s w) k) Q := by
  rw [hd, hs, hw]
  refine based C K ?_ hk
  refine BIBase.Entails.trans ?_ (step_signal (chan C) K c d (k := k) (Q := Q) O)
  iintro ⟨HR, -, ⟨H1, H2⟩, Hk⟩
  isplitl [HR]
  · iexact HR
  isplitl [H1]
  · iexact H1
  isplitl [H2]
  · iexact H2
  iexact Hk

theorem f_barrier {Q : α → sProp 𝕄} {R : sProp 𝕄} {k : PUnit.{1} → ℙ α} {O : CellTallies nD τ sig Unit} (hO : Above 1 O) {s : Sem sig} {w : ℤ} (hs : s = sB) (hw : w = 8)
    (hk : iprop(R ∗ (Base C K ∗ ((bigSep Finset.univ fun p => barPay (chan C) c p) ∗ atPos ER (bCell c) 1 ∅ 0 ∗ Owe c O))) ⊢ WPc c (k ⟨⟩) Q) :
    iprop(R ∗ (Base C K ∗ (cred (tallyAt (bCell c) () 8) ∗ atPos ER (bCell c) 0 ∅ 0 ∗ Owe c O))) ⊢ WPc c (.op (.semWait s w) k) Q := by
  rw [hs, hw]
  refine based C K ?_ hk
  refine BIBase.Entails.trans ?_ (step_barrier (chan C) K c (k := k) (Q := Q) hO)
  iintro ⟨HR, HL, ⟨H1, H2, H3⟩, Hk⟩
  isplitl [HR]
  · iexact HR
  isplitl [HL]
  · iexact HL
  isplitl [H1]
  · iexact H1
  isplitl [H2]
  · iexact H2
  isplitl [H3]
  · iexact H3
  iexact Hk

/-! ## The printed addresses -/

theorem semS (a : DmaSems sig S8) (n : ℕ) (j : Dev nD) {o : Fin 1 → ℕ} {i} (e : o = ![j.val]) (h : ∀ k : Dev nD, ∀ i, ((a.slice (Rect.unit (s := S8) ![k.val] S1.size i)).squeeze S_ squeezes_S1_S_).sem.val = n + k.val) (m : DmaSem sig) (hm : m.val = n + j.val) :
    ((a.slice (Rect.unit (s := S8) o S1.size i)).squeeze S_ squeezes_S1_S_).sem = m := by
  subst e
  exact Fin.ext ((h j i).trans hm.symm)

theorem sem13 (k : Dev nD) (i) : ((cc0_scratch7.slice (Rect.unit (s := S8) ![k.val] S1.size i)).squeeze S_ squeezes_S1_S_).sem.val = 6 + k.val := by decide +revert
theorem sem14 (k : Dev nD) (i) : ((cc0_scratch8.slice (Rect.unit (s := S8) ![k.val] S1.size i)).squeeze S_ squeezes_S1_S_).sem.val = 14 + k.val := by decide +revert
theorem sem15 (k : Dev nD) (i) : ((cc0_scratch9.slice (Rect.unit (s := S8) ![k.val] S1.size i)).squeeze S_ squeezes_S1_S_).sem.val = 22 + k.val := by decide +revert
theorem sem16 (k : Dev nD) (i) : ((cc0_scratch10.slice (Rect.unit (s := S8) ![k.val] S1.size i)).squeeze S_ squeezes_S1_S_).sem.val = 30 + k.val := by decide +revert
theorem sem17 (k : Dev nD) (i) : ((cc0_scratch11.slice (Rect.unit (s := S8) ![k.val] S1.size i)).squeeze S_ squeezes_S1_S_).sem.val = 38 + k.val := by decide +revert
theorem sem18 (k : Dev nD) (i) : ((cc0_scratch12.slice (Rect.unit (s := S8) ![k.val] S1.size i)).squeeze S_ squeezes_S1_S_).sem.val = 46 + k.val := by decide +revert

/-- Two remote copies with the same source, device, destination and semaphores. -/
theorem enq_eq {sp sp' : Space} {s : Shape} {e : EltTy} {A A' : Memref sig .tc .vmem s e} {d d' : Dev nD} {B B' : Memref sig .tc .vmem s e} {m m' n n' : DmaSem sig}
    (hA : A = A') (hd : d = d') (hB : B = B') (hm : m = m') (hn : n = n') (h1 h2 h3 h4) :
    ∃ hsc hsrc hdst hsem, (.enqueueDma A (.remote (Dev.tc d : Thread nD τ) B (.dma m) h1) (.dma n) h2 h3 h4 : TpuEff nD τ sig (Elt F) Λ₀ Proc.tc PUnit.{1})
      = .enqueueDma A' (.remote (Dev.tc d' : Thread nD τ) B' (.dma m') hsc) (.dma n') hsrc hdst hsem := by
  subst hA hd hB hm hn
  exact ⟨_, _, _, _, rfl⟩
theorem enq_eq' {s : Shape} {e : EltTy} {A A' : Memref sig .tc .vmem s e} {B B' : Memref sig .tc .vmem s e} {n n' : DmaSem sig}
    (hA : A = A') (hB : B = B') (hn : n = n') (h2 h3 h4) :
    ∃ hsrc hdst hsem, (.enqueueDma A (.here B) (.dma n) h2 h3 h4 : TpuEff nD τ sig (Elt F) Λ₀ Proc.tc PUnit.{1})
      = .enqueueDma A' (.here B') (.dma n') hsrc hdst hsem := by
  subst hA hB hn
  exact ⟨_, _, _, rfl⟩

theorem sl5 (M : Memref sig .tc .vmem S8x2x2x256x256 .bf16) (j : Dev nD) {o : Fin 5 → ℕ} {i} (e : o = ![j.val, 0, 0, 0, 0]) :
    (M.slice (Rect.unit (s := S8x2x2x256x256) o S1x2x2x256x256.size i) (fun _ => rfl)).squeeze S2x2x256x256 squeezes_S1x2x2x256x256_S2x2x256x256 = slot5 M j := by
  subst e; rfl
theorem sl4 (M : Memref sig .tc .vmem S8x2x32x512 .bf16) (j : Dev nD) {o : Fin 4 → ℕ} {i} (e : o = ![j.val, 0, 0, 0]) :
    (M.slice (Rect.unit (s := S8x2x32x512) o S1x2x32x512.size i) (fun _ => rfl)).squeeze S2x32x512 squeezes_S1x2x32x512_S2x32x512 = slot4 M j := by
  subst e; rfl

theorem enq0 (j : Dev nD) {d : Dev nD} {o1 o2 : Fin 5 → ℕ} {i1 i2} {o3 o4 : Fin 1 → ℕ} {i3 i4} (hd : d = j) (e1 : o1 = ![j.val, 0, 0, 0, 0]) (e2 : o2 = ![c.val, 0, 0, 0, 0])
    (e3 : o3 = ![j.val]) (e4 : o4 = ![c.val]) (h1 h2 h3 h4) :
    ∃ hsc hsrc hdst hsem, (.enqueueDma (((Memref.whole cc0_scratch0).slice (Rect.unit (s := S8x2x2x256x256) o1 S1x2x2x256x256.size i1) (fun _ => rfl)).squeeze S2x2x256x256 squeezes_S1x2x2x256x256_S2x2x256x256)
        (.remote (Dev.tc d : Thread nD τ) (((Memref.whole cc0_scratch1).slice (Rect.unit (s := S8x2x2x256x256) o2 S1x2x2x256x256.size i2) (fun _ => rfl)).squeeze S2x2x256x256 squeezes_S1x2x2x256x256_S2x2x256x256)
          (.dma ((cc0_scratch7.slice (Rect.unit (s := S8) o3 S1.size i3)).squeeze S_ squeezes_S1_S_).sem) h1)
        (.dma ((cc0_scratch8.slice (Rect.unit (s := S8) o4 S1.size i4)).squeeze S_ squeezes_S1_S_).sem) h2 h3 h4 : TpuEff nD τ sig (Elt F) Λ₀ Proc.tc PUnit.{1})
      = .enqueueDma ((chan C 0).src j) (.remote (Dev.tc j : Thread nD τ) ((chan C 0).dst c) (.dma (sS 0 j)) hsc) (.dma (sR 0 c)) hsrc hdst hsem :=
  enq_eq (sp := .vmem) (sp' := .vmem) (sl5 _ _ e1) hd (sl5 _ _ e2) (semS _ 6 j e3 sem13 (sS 0 j) (val_sS 0 j)) (semS _ 14 c e4 sem14 (sR 0 c) (val_sR 0 c)) _ _ _ _

theorem enq1 (j : Dev nD) {d : Dev nD} {o1 o2 : Fin 4 → ℕ} {i1 i2} {o3 o4 : Fin 1 → ℕ} {i3 i4} (hd : d = j) (e1 : o1 = ![j.val, 0, 0, 0]) (e2 : o2 = ![c.val, 0, 0, 0])
    (e3 : o3 = ![j.val]) (e4 : o4 = ![c.val]) (h1 h2 h3 h4) :
    ∃ hsc hsrc hdst hsem, (.enqueueDma (((Memref.whole cc0_scratch3).slice (Rect.unit (s := S8x2x32x512) o1 S1x2x32x512.size i1) (fun _ => rfl)).squeeze S2x32x512 squeezes_S1x2x32x512_S2x32x512)
        (.remote (Dev.tc d : Thread nD τ) (((Memref.whole cc0_scratch4).slice (Rect.unit (s := S8x2x32x512) o2 S1x2x32x512.size i2) (fun _ => rfl)).squeeze S2x32x512 squeezes_S1x2x32x512_S2x32x512)
          (.dma ((cc0_scratch9.slice (Rect.unit (s := S8) o3 S1.size i3)).squeeze S_ squeezes_S1_S_).sem) h1)
        (.dma ((cc0_scratch10.slice (Rect.unit (s := S8) o4 S1.size i4)).squeeze S_ squeezes_S1_S_).sem) h2 h3 h4 : TpuEff nD τ sig (Elt F) Λ₀ Proc.tc PUnit.{1})
      = .enqueueDma ((chan C 1).src j) (.remote (Dev.tc j : Thread nD τ) ((chan C 1).dst c) (.dma (sS 1 j)) hsc) (.dma (sR 1 c)) hsrc hdst hsem :=
  enq_eq (sp := .vmem) (sp' := .vmem) (sl4 _ _ e1) hd (sl4 _ _ e2) (semS _ 22 j e3 sem15 (sS 1 j) (val_sS 1 j)) (semS _ 30 c e4 sem16 (sR 1 c) (val_sR 1 c)) _ _ _ _

theorem enq2 (j : Dev nD) {d : Dev nD} {o2 : Fin 4 → ℕ} {i2} {o3 o4 : Fin 1 → ℕ} {i3 i4} (hd : d = j) (e2 : o2 = ![c.val, 0, 0, 0])
    (e3 : o3 = ![j.val]) (e4 : o4 = ![c.val]) (h1 h2 h3 h4) :
    ∃ hsc hsrc hdst hsem, (.enqueueDma (Memref.whole cc0_scratch5)
        (.remote (Dev.tc d : Thread nD τ) (((Memref.whole cc0_scratch6).slice (Rect.unit (s := S8x2x32x512) o2 S1x2x32x512.size i2) (fun _ => rfl)).squeeze S2x32x512 squeezes_S1x2x32x512_S2x32x512)
          (.dma ((cc0_scratch11.slice (Rect.unit (s := S8) o3 S1.size i3)).squeeze S_ squeezes_S1_S_).sem) h1)
        (.dma ((cc0_scratch12.slice (Rect.unit (s := S8) o4 S1.size i4)).squeeze S_ squeezes_S1_S_).sem) h2 h3 h4 : TpuEff nD τ sig (Elt F) Λ₀ Proc.tc PUnit.{1})
      = .enqueueDma ((chan C 2).src j) (.remote (Dev.tc j : Thread nD τ) ((chan C 2).dst c) (.dma (sS 2 j)) hsc) (.dma (sR 2 c)) hsrc hdst hsem :=
  enq_eq (sp := .vmem) (sp' := .vmem) rfl hd (sl4 _ _ e2) (semS _ 38 j e3 sem17 (sS 2 j) (val_sS 2 j)) (semS _ 46 c e4 sem18 (sR 2 c) (val_sR 2 c)) _ _ _ _

end Cert.KernelIdeal.Run
-- ==== Proof.Addr.lean ====
/-
  What the printed conditions, offsets and waits come to.
-/
module

public import proofs.«01_k».proof.Proof.Glue

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

theorem cond1 (c : Dev nD) : k0_cond1 c = 1#1 ↔ (0 : Dev nD) ≠ c := by revert c; decide
theorem cond2 (c : Dev nD) : k0_cond2 c = 1#1 ↔ (1 : Dev nD) ≠ c := by revert c; decide
theorem cond3 (c : Dev nD) : k0_cond3 c = 1#1 ↔ (2 : Dev nD) ≠ c := by revert c; decide
theorem cond4 (c : Dev nD) : k0_cond4 c = 1#1 ↔ (3 : Dev nD) ≠ c := by revert c; decide
theorem cond5 (c : Dev nD) : k0_cond5 c = 1#1 ↔ (4 : Dev nD) ≠ c := by revert c; decide
theorem cond6 (c : Dev nD) : k0_cond6 c = 1#1 ↔ (5 : Dev nD) ≠ c := by revert c; decide
theorem cond7 (c : Dev nD) : k0_cond7 c = 1#1 ↔ (6 : Dev nD) ≠ c := by revert c; decide
theorem cond8 (c : Dev nD) : k0_cond8 c = 1#1 ↔ (7 : Dev nD) ≠ c := by revert c; decide
theorem cond17 (c : Dev nD) : k0_cond17 c = 1#1 ↔ (0 : Dev nD) ≠ c := by revert c; decide
theorem cond18 (c : Dev nD) : k0_cond18 c = 1#1 ↔ (1 : Dev nD) ≠ c := by revert c; decide
theorem cond19 (c : Dev nD) : k0_cond19 c = 1#1 ↔ (2 : Dev nD) ≠ c := by revert c; decide
theorem cond20 (c : Dev nD) : k0_cond20 c = 1#1 ↔ (3 : Dev nD) ≠ c := by revert c; decide
theorem cond21 (c : Dev nD) : k0_cond21 c = 1#1 ↔ (4 : Dev nD) ≠ c := by revert c; decide
theorem cond22 (c : Dev nD) : k0_cond22 c = 1#1 ↔ (5 : Dev nD) ≠ c := by revert c; decide
theorem cond23 (c : Dev nD) : k0_cond23 c = 1#1 ↔ (6 : Dev nD) ≠ c := by revert c; decide
theorem cond24 (c : Dev nD) : k0_cond24 c = 1#1 ↔ (7 : Dev nD) ≠ c := by revert c; decide
theorem cond33 (c : Dev nD) : k0_cond33 c = 1#1 ↔ (0 : Dev nD) ≠ c := by revert c; decide
theorem cond34 (c : Dev nD) : k0_cond34 c = 1#1 ↔ (1 : Dev nD) ≠ c := by revert c; decide
theorem cond35 (c : Dev nD) : k0_cond35 c = 1#1 ↔ (2 : Dev nD) ≠ c := by revert c; decide
theorem cond36 (c : Dev nD) : k0_cond36 c = 1#1 ↔ (3 : Dev nD) ≠ c := by revert c; decide
theorem cond37 (c : Dev nD) : k0_cond37 c = 1#1 ↔ (4 : Dev nD) ≠ c := by revert c; decide
theorem cond38 (c : Dev nD) : k0_cond38 c = 1#1 ↔ (5 : Dev nD) ≠ c := by revert c; decide
theorem cond39 (c : Dev nD) : k0_cond39 c = 1#1 ↔ (6 : Dev nD) ≠ c := by revert c; decide
theorem cond40 (c : Dev nD) : k0_cond40 c = 1#1 ↔ (7 : Dev nD) ≠ c := by revert c; decide
theorem cond49 (c : Dev nD) : k0_cond49 c = 1#1 ↔ (0 : Dev nD) ≠ c := by revert c; decide
theorem cond50 (c : Dev nD) : k0_cond50 c = 1#1 ↔ (1 : Dev nD) ≠ c := by revert c; decide
theorem cond51 (c : Dev nD) : k0_cond51 c = 1#1 ↔ (2 : Dev nD) ≠ c := by revert c; decide
theorem cond52 (c : Dev nD) : k0_cond52 c = 1#1 ↔ (3 : Dev nD) ≠ c := by revert c; decide
theorem cond53 (c : Dev nD) : k0_cond53 c = 1#1 ↔ (4 : Dev nD) ≠ c := by revert c; decide
theorem cond54 (c : Dev nD) : k0_cond54 c = 1#1 ↔ (5 : Dev nD) ≠ c := by revert c; decide
theorem cond55 (c : Dev nD) : k0_cond55 c = 1#1 ↔ (6 : Dev nD) ≠ c := by revert c; decide
theorem cond56 (c : Dev nD) : k0_cond56 c = 1#1 ↔ (7 : Dev nD) ≠ c := by revert c; decide
theorem rc0 (c : Dev nD) : Scalar.cmpi .ne (Scalar.extui (Scalar.cmpi .ne (V2 c) 0#32) : BitVec 32) 0#32 = 1#1 ↔ (0 : Dev nD) ≠ c := by revert c; decide
theorem rc1 (c : Dev nD) : Scalar.cmpi .ne (Scalar.extui (Scalar.cmpi .ne (V2 c) 1#32) : BitVec 32) 0#32 = 1#1 ↔ (1 : Dev nD) ≠ c := by revert c; decide
theorem rc2 (c : Dev nD) : Scalar.cmpi .ne (Scalar.extui (Scalar.cmpi .ne (V2 c) 2#32) : BitVec 32) 0#32 = 1#1 ↔ (2 : Dev nD) ≠ c := by revert c; decide
theorem rc3 (c : Dev nD) : Scalar.cmpi .ne (Scalar.extui (Scalar.cmpi .ne (V2 c) 3#32) : BitVec 32) 0#32 = 1#1 ↔ (3 : Dev nD) ≠ c := by revert c; decide
theorem rc4 (c : Dev nD) : Scalar.cmpi .ne (Scalar.extui (Scalar.cmpi .ne (V2 c) 4#32) : BitVec 32) 0#32 = 1#1 ↔ (4 : Dev nD) ≠ c := by revert c; decide
theorem rc5 (c : Dev nD) : Scalar.cmpi .ne (Scalar.extui (Scalar.cmpi .ne (V2 c) 5#32) : BitVec 32) 0#32 = 1#1 ↔ (5 : Dev nD) ≠ c := by revert c; decide
theorem rc6 (c : Dev nD) : Scalar.cmpi .ne (Scalar.extui (Scalar.cmpi .ne (V2 c) 6#32) : BitVec 32) 0#32 = 1#1 ↔ (6 : Dev nD) ≠ c := by revert c; decide
theorem rc7 (c : Dev nD) : Scalar.cmpi .ne (Scalar.extui (Scalar.cmpi .ne (V2 c) 7#32) : BitVec 32) 0#32 = 1#1 ↔ (7 : Dev nD) ≠ c := by revert c; decide
theorem off1 (c : Dev nD) : k0_off1 c = ![c.val] := by revert c; decide
theorem off2 (c : Dev nD) : k0_off2 c = ![c.val, 0, 0, 0, 0] := by revert c; decide
theorem off3 (c : Dev nD) : k0_off3 c = ![c.val] := by revert c; decide
theorem off4 (c : Dev nD) : k0_off4 c = ![c.val, 0, 0, 0, 0] := by revert c; decide
theorem off5 (c : Dev nD) : k0_off5 c = ![c.val] := by revert c; decide
theorem off6 (c : Dev nD) : k0_off6 c = ![c.val, 0, 0, 0, 0] := by revert c; decide
theorem off7 (c : Dev nD) : k0_off7 c = ![c.val] := by revert c; decide
theorem off8 (c : Dev nD) : k0_off8 c = ![c.val, 0, 0, 0, 0] := by revert c; decide
theorem off9 (c : Dev nD) : k0_off9 c = ![c.val] := by revert c; decide
theorem off10 (c : Dev nD) : k0_off10 c = ![c.val, 0, 0, 0, 0] := by revert c; decide
theorem off11 (c : Dev nD) : k0_off11 c = ![c.val] := by revert c; decide
theorem off12 (c : Dev nD) : k0_off12 c = ![c.val, 0, 0, 0, 0] := by revert c; decide
theorem off13 (c : Dev nD) : k0_off13 c = ![c.val] := by revert c; decide
theorem off14 (c : Dev nD) : k0_off14 c = ![c.val, 0, 0, 0, 0] := by revert c; decide
theorem off15 (c : Dev nD) : k0_off15 c = ![c.val] := by revert c; decide
theorem off16 (c : Dev nD) : k0_off16 c = ![c.val, 0, 0, 0, 0] := by revert c; decide
theorem off17 (c : Dev nD) : k0_off17 c = ![c.val, 0, 0, 0, 0] := by revert c; decide
theorem off18 (c : Dev nD) : k0_off18 c = ![c.val] := by revert c; decide
theorem off19 (c : Dev nD) : k0_off19 c = ![c.val, 0, 0, 0] := by revert c; decide
theorem off20 (c : Dev nD) : k0_off20 c = ![c.val] := by revert c; decide
theorem off21 (c : Dev nD) : k0_off21 c = ![c.val, 0, 0, 0] := by revert c; decide
theorem off22 (c : Dev nD) : k0_off22 c = ![c.val] := by revert c; decide
theorem off23 (c : Dev nD) : k0_off23 c = ![c.val, 0, 0, 0] := by revert c; decide
theorem off24 (c : Dev nD) : k0_off24 c = ![c.val] := by revert c; decide
theorem off25 (c : Dev nD) : k0_off25 c = ![c.val, 0, 0, 0] := by revert c; decide
theorem off26 (c : Dev nD) : k0_off26 c = ![c.val] := by revert c; decide
theorem off27 (c : Dev nD) : k0_off27 c = ![c.val, 0, 0, 0] := by revert c; decide
theorem off28 (c : Dev nD) : k0_off28 c = ![c.val] := by revert c; decide
theorem off29 (c : Dev nD) : k0_off29 c = ![c.val, 0, 0, 0] := by revert c; decide
theorem off30 (c : Dev nD) : k0_off30 c = ![c.val] := by revert c; decide
theorem off31 (c : Dev nD) : k0_off31 c = ![c.val, 0, 0, 0] := by revert c; decide
theorem off32 (c : Dev nD) : k0_off32 c = ![c.val] := by revert c; decide
theorem off33 (c : Dev nD) : k0_off33 c = ![c.val, 0, 0, 0] := by revert c; decide
theorem off34 (c : Dev nD) : k0_off34 c = ![c.val, 0, 0, 0] := by revert c; decide
theorem off35 (c : Dev nD) : k0_off35 c = ![c.val] := by revert c; decide
theorem off36 (c : Dev nD) : k0_off36 c = ![c.val, 0, 0, 0] := by revert c; decide
theorem off37 (c : Dev nD) : k0_off37 c = ![c.val] := by revert c; decide
theorem off38 (c : Dev nD) : k0_off38 c = ![c.val, 0, 0, 0] := by revert c; decide
theorem off39 (c : Dev nD) : k0_off39 c = ![c.val] := by revert c; decide
theorem off40 (c : Dev nD) : k0_off40 c = ![c.val, 0, 0, 0] := by revert c; decide
theorem off41 (c : Dev nD) : k0_off41 c = ![c.val] := by revert c; decide
theorem off42 (c : Dev nD) : k0_off42 c = ![c.val, 0, 0, 0] := by revert c; decide
theorem off43 (c : Dev nD) : k0_off43 c = ![c.val] := by revert c; decide
theorem off44 (c : Dev nD) : k0_off44 c = ![c.val, 0, 0, 0] := by revert c; decide
theorem off45 (c : Dev nD) : k0_off45 c = ![c.val] := by revert c; decide
theorem off46 (c : Dev nD) : k0_off46 c = ![c.val, 0, 0, 0] := by revert c; decide
theorem off47 (c : Dev nD) : k0_off47 c = ![c.val] := by revert c; decide
theorem off48 (c : Dev nD) : k0_off48 c = ![c.val, 0, 0, 0] := by revert c; decide
theorem off49 (c : Dev nD) : k0_off49 c = ![c.val] := by revert c; decide
theorem off50 (c : Dev nD) : k0_off50 c = ![c.val, 0, 0, 0] := by revert c; decide

variable (C : Cts F) (K : GSem nD τ sig → ℕ) (c : Dev nD)

theorem f_ret {α : Type} {a : α} {P : sProp 𝕄} {Q : α → sProp 𝕄} (hk : P ⊢ Q a) : P ⊢ WPc c (.ret a : ℙ α) Q :=
  BIBase.Entails.trans hk (le_wp_ret _ _ _ _ _)

/-- A wait for a copy is the wait on its semaphore for the copy's credit. -/
theorem wait_eq {sp sp' : Space} {s s' : Shape} {e e' : EltTy} {m m' : DmaSem sig} {A : Memref sig .tc sp s e} {B : Memref sig .tc sp' s' e'} {N : ℕ} (hm : m = m') (hN : B.view.dmaCredit = N) (h1 h2) (R : PUnit → sProp 𝕄) :
    wpE (defs₀ (F := F)) 𝒱₀ (c : Thread nD τ) none Set.univ (.waitDma2 m A B h1 h2) R = waitSpec (c : Thread nD τ) Set.univ (.dma m') N R := by
  subst hm hN; rfl

end Cert.KernelIdeal.Run
-- ==== Proof.Mem.lean ====
/-
  Loads and stores, under a frame. A buffer that is filled piece by piece is `Fill c m g p`: where p holds, it is g.
-/
module

public import proofs.«01_k».proof.Proof.Addr

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (c : Dev nD) {α : Type}

theorem get1 {A R : sProp 𝕄} : iprop(A ∗ R) ⊢ iprop(A ∗ (A -∗ (A ∗ R))) := by
  iintro ⟨HA, HR⟩
  isplitl [HA]
  · iexact HA
  iintro HA
  isplitl [HA] <;> iassumption
theorem get2 {A B R : sProp 𝕄} : iprop(B ∗ A ∗ R) ⊢ iprop(A ∗ (A -∗ (B ∗ A ∗ R))) := by
  iintro ⟨HB, HA, HR⟩
  isplitl [HA]
  · iexact HA
  iintro HA
  isplitl [HB]
  · iexact HB
  isplitl [HA] <;> iassumption
theorem get3 {A B D R : sProp 𝕄} : iprop(B ∗ D ∗ A ∗ R) ⊢ iprop(A ∗ (A -∗ (B ∗ D ∗ A ∗ R))) := by
  iintro ⟨HB, HD, HA, HR⟩
  isplitl [HA]
  · iexact HA
  iintro HA
  isplitl [HB]
  · iexact HB
  isplitl [HD]
  · iexact HD
  isplitl [HA] <;> iassumption

theorem f_load {sp : CoreSpace} {s : Shape} {e : EltTy} {m : Memref sig .tc sp s e} {r : LoadRect s} {hl : m.view.LoadsAt r} {k : (r.shape.Idx → Elt F e) → ℙ α}
    {f : Buf (Elt F) (m.view.loc (c : Thread nD τ))} {Q : α → sProp 𝕄} {R X : sProp 𝕄}
    (hR : R ⊢ iprop((m.view.loc (c : Thread nD τ) ↦{fullShare} f) ∗ ((m.view.loc (c : Thread nD τ) ↦{fullShare} f) -∗ R)))
    (hk : iprop(R ∗ X) ⊢ WPc c (k (m.view.readAt (Elt F) r f)) Q) : iprop(R ∗ X) ⊢ WPc c (.op (.load m r hl) k) Q := by
  refine BIBase.Entails.trans (sep_mono_left hR) ?_
  iintro ⟨⟨Hf, Hw⟩, HX⟩
  iapply (wp_load (defs := defs₀ (F := F)) 𝒱₀ (c : Thread nD τ) none Set.univ (m := m) (r := r) (f := f) (q := fullShare) (S := Finset.univ) (Finset.subset_univ _)) $$ [Hf]
  · iexact Hf
  iintro Hf
  iapply hk
  isplitr [HX]
  · iapply Hw; iexact Hf
  iexact HX

/-- Device c's m holds g wherever p says. -/
def Fill {sp : Space} {s : Shape} {e : EltTy} (m : Memref sig .tc sp s e) (g : s.Idx → Elt F e) (p : s.Idx → Prop) : sProp 𝕄 :=
  iprop(∃ f : Buf (Elt F) (m.view.loc (c : Thread nD τ)), (m.view.loc (c : Thread nD τ) ↦{fullShare} f) ∗ ⌜∀ x, p x → m.view.read (Elt F) f x = g x⌝)

theorem f_peek {sp : CoreSpace} {s : Shape} {e : EltTy} {m : Memref sig .tc sp s e} {r : LoadRect s} {hl : m.view.LoadsAt r} {k : (r.shape.Idx → Elt F e) → ℙ α}
    {g : s.Idx → Elt F e} {p : s.Idx → Prop} {Q : α → sProp 𝕄} {R X : sProp 𝕄}
    (hk : ∀ v, iprop((Fill c m g p ∗ R) ∗ X) ⊢ WPc c (k v) Q) : iprop((Fill c m g p ∗ R) ∗ X) ⊢ WPc c (.op (.load m r hl) k) Q := by
  unfold Fill at hk ⊢
  iintro ⟨⟨⟨%f, Hf, %h⟩, HR⟩, HX⟩
  iapply (wp_load (defs := defs₀ (F := F)) 𝒱₀ (c : Thread nD τ) none Set.univ (m := m) (r := r) (f := f) (q := fullShare) (S := Finset.univ) (Finset.subset_univ _)) $$ [Hf]
  · iexact Hf
  iintro Hf
  iapply (hk _)
  isplitr [HX]
  · isplitr [HR]
    · iexists f
      isplitl
      · iexact Hf
      ipureintro; exact h
    iexact HR
  iexact HX

theorem f_fill {sp : CoreSpace} {s : Shape} {e : EltTy} {m : Memref sig .tc sp s e} {off size : Fin s.rank → ℕ} {inb} {w : (Rect.unit (s := s) off size inb).shape.Idx → Elt F e} {hx hm} {k : PUnit → ℙ α}
    {g : s.Idx → Elt F e} {p : s.Idx → Prop} (p' : s.Idx → Prop) {Q : α → sProp 𝕄} {R X : sProp 𝕄}
    (hw : ∀ y, w y = g ((Rect.unit off size inb).emb y)) (hp : ∀ x, p' x → p x ∨ ∀ a, off a ≤ x a ∧ (x a : ℕ) < off a + size a)
    (hk : iprop((Fill c m g p' ∗ R) ∗ X) ⊢ WPc c (k ⟨⟩) Q) : iprop((Fill c m g p ∗ R) ∗ X) ⊢ WPc c (.op (.store m (Rect.unit off size inb) w Finset.univ hx hm) k) Q := by
  have key : ∀ f : Buf (Elt F) (m.view.loc (c : Thread nD τ)), (∀ x, p x → m.view.read (Elt F) f x = g x) →
      ∀ x, p' x → m.view.read (Elt F) ((m.access (Rect.unit off size inb)).write (Elt F) f w Finset.univ) x = g x := fun f h x hx' => by
    by_cases hin : ∀ a, off a ≤ x a ∧ (x a : ℕ) < off a + size a
    · obtain ⟨y, rfl⟩ : ∃ y, (Rect.unit off size inb).emb y = x := by
        have := (Rect.mem_set_unit (inb := inb)).mpr hin
        rw [← Rect.map_emb_univ] at this
        simpa using this
      exact (View.read_slice_write_emb (v := m.view) _ f w (Finset.mem_univ y)).trans (hw y)
    · refine (View.read_slice_write_of_not_mem (v := m.view) _ f w Finset.univ fun hmem => hin (Rect.mem_set_unit (inb := inb).mp ?_)).trans (h x ((hp x hx').resolve_right hin))
      rwa [← Rect.map_emb_univ]
  unfold Fill at hk ⊢
  iintro ⟨⟨⟨%f, Hf, %h⟩, HR⟩, HX⟩
  iapply (wp_store (defs := defs₀ (F := F)) 𝒱₀ (c : Thread nD τ) none Set.univ (m := m) (f := f) (S := Finset.univ) (Finset.subset_univ _)) $$ [Hf]
  · iexact Hf
  iintro Hf
  iapply hk
  isplitr [HX]
  · isplitr [HR]
    · iexists _
      isplitl
      · iexact Hf
      ipureintro; exact key f h
    iexact HR
  iexact HX

/-- Nothing is asked of a buffer to be filled. -/
theorem fill_none {sp : Space} {s : Shape} {e : EltTy} (m : Memref sig .tc sp s e) (g : s.Idx → Elt F e) (p : s.Idx → Prop) (hp : ∀ x, ¬ p x) (f : Buf (Elt F) (m.view.loc (c : Thread nD τ))) :
    (m.view.loc (c : Thread nD τ) ↦{fullShare} f : sProp 𝕄) ⊢ Fill c m g p := by
  unfold Fill
  iintro H
  iexists f
  isplitl
  · iexact H
  ipureintro; exact fun x hx => absurd hx (hp x)

/-- A buffer filled everywhere. -/
theorem fill_all (b : Ref sig .tc) (g : b.ty.Contents (Elt F)) (p : b.ty.shape.Idx → Prop) (hp : ∀ x, p x) :
    (Fill c (Memref.whole b) g p : sProp 𝕄) ⊢ pt c b g := by
  unfold Fill
  iintro ⟨%f, H, %h⟩
  have e : f = g := funext fun x => (h x (hp x))
  rw [e]
  iexact H
theorem fill_mono {sp : Space} {s : Shape} {e : EltTy} (m : Memref sig .tc sp s e) (g : s.Idx → Elt F e) (p p' : s.Idx → Prop) (hp : ∀ x, p' x → p x) :
    (Fill c m g p : sProp 𝕄) ⊢ Fill c m g p' := by
  unfold Fill
  iintro ⟨%f, H, %h⟩
  iexists f
  isplitl
  · iexact H
  ipureintro; exact fun x hx => h x (hp x hx)

end Cert.KernelIdeal.Run
-- ==== Proof.Vals.lean ====
/-
  What the buffers hold, from the five operands each device is given.
-/
module

public import proofs.«01_k».proof.Proof.Mem

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

open Idealize.ShloMosaic.ValueIdx (ix3 ix4)

/-- A device's operands: its input, its columns of the query weights, its keys and values, its rows of the output weights. -/
structure Ins (F : FTy → Type) where
  x : S2x256x512.Idx → Elt F .bf16
  wq : S512x256.Idx → Elt F .bf16
  k : S2x256x2048.Idx → Elt F .bf16
  v : S2x256x2048.Idx → Elt F .bf16
  wo : S256x512.Idx → Elt F .bf16

/-- Columns 256 j … of the keys and of the values, for device j. -/
def kvOf (I : Ins F) : S8x2x2x256x256.Idx → Elt F .bf16 := fun i =>
  (if (i 1).val = 0 then I.k else I.v) (ix3 (i 2) (i 3) (⟨256 * (i 0).val + (i 4).val, by have h0 : (i 0).val < 8 := (i 0).isLt; have h4 : (i 4).val < 256 := (i 4).isLt; omega⟩ : Fin 2048))

/-- Which keys a query may look at. -/
def mask : IVec S256x2048 1 := k0_pay26 (k0_pay23 (iota .tc S256x2048 32 [0] iota_S256x2048_d0_w32)) k0_pay24 k0_pay25 1#32

/-- The two batches' partial outputs. -/
def part0 (q : FVec F S256x256 .bf16) (r : Vec F S8x2x2x256x256 .bf16) (w : Vec F S256x512 .bf16) : FVec F S1x256x512 .f32 :=
  k0_pay49 q mask r (k0_pay27 w)
    (k0_pay36 q mask r (k0_pay28 r) (k0_pay29 r) (k0_pay30 r) (k0_pay31 r) (k0_pay32 r) (k0_pay33 r) (k0_pay34 r) (k0_pay35 r))
    (k0_pay39 q mask r (k0_pay37 r) (k0_pay38 r)) (k0_pay43 q mask r (k0_pay40 r) (k0_pay41 r) (k0_pay42 r))
    (k0_pay44 r) (k0_pay45 r) (k0_pay46 r) (k0_pay47 r) (k0_pay48 r)
def part1 (q : FVec F S256x256 .bf16) (r : Vec F S8x2x2x256x256 .bf16) (w : Vec F S256x512 .bf16) : FVec F S1x256x512 .f32 :=
  k0_pay72 q mask r (k0_pay27 w)
    (k0_pay58 q mask r (k0_pay50 r) (k0_pay51 r) (k0_pay52 r) (k0_pay53 r) (k0_pay54 r) (k0_pay55 r) (k0_pay56 r) (k0_pay57 r))
    (k0_pay61 q mask r (k0_pay59 r) (k0_pay60 r)) (k0_pay66 q mask r (k0_pay62 r) (k0_pay63 r) (k0_pay64 r) (k0_pay65 r))
    (k0_pay67 r) (k0_pay68 r) (k0_pay69 r) (k0_pay70 r) (k0_pay71 r)

/-- A device's partial output: its four heads', through its rows of the output weights. -/
def accOf (I : Ins F) (r : S8x2x2x256x256.Idx → Elt F .bf16) : S2x256x512.Idx → Elt F .f32 := fun i =>
  (if (i 0).val = 0 then part0 (k0_pay21 I.x I.wq) r I.wo else part1 (k0_pay22 I.x I.wq) r I.wo) (ix3 (0 : Fin 1) (i 1) (i 2))

/-- Rows 32 j … of it, for device j. -/
def rsOf (a : S2x256x512.Idx → Elt F .f32) : S8x2x32x512.Idx → Elt F .bf16 := fun i =>
  FloatOps.truncf .bf16 bitsLt_bf16_f32 (a (ix3 (i 1) (⟨32 * (i 0).val + (i 2).val, by have h0 : (i 0).val < 8 := (i 0).isLt; have h4 : (i 2).val < 32 := (i 2).isLt; omega⟩ : Fin 256) (i 3)))

/-- The sum of what a device received. -/
def agOf (r : S8x2x32x512.Idx → Elt F .bf16) : S2x32x512.Idx → Elt F .bf16 := k0_pay84 r k0_pay83

/-- The gathered slices, one under another. -/
def outOf (r : S8x2x32x512.Idx → Elt F .bf16) : S2x256x512.Idx → Elt F .f32 := fun i =>
  FloatOps.extf .f32 bitsLt_bf16_f32 (r (ix4 (⟨(i 1).val / 32, by have h1 : (i 1).val < 256 := (i 1).isLt; omega⟩ : Fin 8) (i 0) (⟨(i 1).val % 32, Nat.mod_lt _ (by decide)⟩ : Fin 32) (i 2)))

variable (I : Dev nD → Ins F)

/-- What device c has received of keys and values, and its partial output. -/
def kvAt (c : Dev nD) : S8x2x2x256x256.Idx → Elt F .bf16 := fun i => kvOf (I (i 0)) (Function.update i 0 c : S8x2x2x256x256.Idx)
def accAt (c : Dev nD) : S2x256x512.Idx → Elt F .f32 := accOf (I c) (kvAt I c)
def rsAt (c : Dev nD) : S8x2x32x512.Idx → Elt F .bf16 := fun i => rsOf (accAt I (i 0)) (Function.update i 0 c : S8x2x32x512.Idx)

/-- What the three exchanges carry. -/
def cts : Cts F where
  kv c := kvOf (I c)
  rs c := rsOf (accAt I c)
  ag c := agOf (rsAt I c)

/-- What every device ends with. -/
def outAt (c : Dev nD) : S2x256x512.Idx → Elt F .f32 := outOf ((cts I).agR c)

/-! ## The stored pieces are pieces of it -/

theorem cast5 {α : Type} (v : S2x256x256.Idx → α) (h h') (y : S1x1x2x256x256.Idx) :
    shapeCast S1x1x2x256x256 (shapeCast S2x256x256 v h) h' y = v (ix3 (y 2) (y 3) (y 4)) := by
  rw [shapeCast_self]
  refine Idealize.ShloMosaic.shapeCast_apply _ _ _ _ ?_
  have h0 : (y 0).val < 1 := (y 0).isLt
  have h1 : (y 1).val < 1 := (y 1).isLt
  refine (Shape.rowMajor_val_three (d := ![2, 256, 256]) _).trans (Eq.trans ?_ (Shape.rowMajor_val_five (d := ![1, 1, 2, 256, 256]) _).symm)
  show ((y 2).val * 256 + (y 3).val) * 256 + (y 4).val = ((((y 0).val * 1 + (y 1).val) * 2 + (y 2).val) * 256 + (y 3).val) * 256 + (y 4).val
  omega

theorem cast4 {α : Type} (v : S2x32x512.Idx → α) (h) (y : S1x2x32x512.Idx) : shapeCast S1x2x32x512 v h y = v (ix3 (y 1) (y 2) (y 3)) := by
  refine Idealize.ShloMosaic.shapeCast_apply _ _ _ _ ?_
  have h0 : (y 0).val < 1 := (y 0).isLt
  refine (Shape.rowMajor_val_three (d := ![2, 32, 512]) _).trans (Eq.trans ?_ (Shape.rowMajor_val_four (d := ![1, 2, 32, 512]) _).symm)
  show ((y 1).val * 32 + (y 2).val) * 512 + (y 3).val = (((y 0).val * 2 + (y 1).val) * 32 + (y 2).val) * 512 + (y 3).val
  omega

theorem cast3 {α : Type} (v : S1x2x32x512.Idx → α) (h) (y : S2x32x512.Idx) : shapeCast S2x32x512 v h y = v (ix4 (0 : Fin 1) (y 0) (y 1) (y 2)) := by
  refine Idealize.ShloMosaic.shapeCast_apply _ _ _ _ ?_
  refine (Shape.rowMajor_val_four (d := ![1, 2, 32, 512]) _).trans (Eq.trans ?_ (Shape.rowMajor_val_three (d := ![2, 32, 512]) _).symm)
  show ((0 * 2 + (y 0).val) * 32 + (y 1).val) * 512 + (y 2).val = ((y 0).val * 32 + (y 1).val) * 512 + (y 2).val
  omega

/-- Keys' columns for device j, as read and stored. -/
theorem kv_piece (J : Ins F) (t : Fin 2) (j : Fin 8) {o : Fin 3 → ℕ} (ho : o = ![0, 0, 256 * j.val]) {o' : Fin 5 → ℕ} (ho' : o' = ![j.val, t.val, 0, 0, 0]) (i i') (f : S2x256x2048.Idx → Elt F .bf16) (hf : f = if t.val = 0 then J.k else J.v)
    (v : S2x256x256.Idx → Elt F .bf16) (hv : v = fun x => f ((Rect.unit (s := S2x256x2048) o S2x256x256.size i).emb x)) (h h') (y : S1x1x2x256x256.Idx) :
    shapeCast S1x1x2x256x256 (shapeCast S2x256x256 v h) h' y = kvOf J ((Rect.unit (s := S8x2x2x256x256) o' S1x1x2x256x256.size i').emb y) := by
  subst ho ho' hf hv
  have h0 : (y 0).val < 1 := (y 0).isLt
  have h1 : (y 1).val < 1 := (y 1).isLt
  rw [cast5]
  have e (a : Fin 5) := rect_val (s := S8x2x2x256x256) ![j.val, t.val, 0, 0, 0] S1x1x2x256x256.size i' y a
  have e0 := e 0; have e1 := e 1; have e2 := e 2; have e3 := e 3; have e4 := e 4
  unfold kvOf
  have c1 : ((Rect.unit (s := S8x2x2x256x256) ![j.val, t.val, 0, 0, 0] S1x1x2x256x256.size i').emb y 1).val = t.val := by
    refine e1.trans ?_
    show t.val + (y 1).val = t.val
    omega
  rw [c1]
  refine congrArg _ (funext fun a => Fin.ext ?_)
  refine (rect_val (s := S2x256x2048) _ _ _ _ _).trans ?_
  match a with
  | 0 => exact e2.symm
  | 1 => exact e3.symm
  | 2 =>
    show 256 * j.val + (y 4).val = 256 * _ + _
    rw [e0, e4]
    show 256 * j.val + (y 4).val = 256 * (j.val + (y 0).val) + (0 + (y 4).val)
    omega

/-- Rows of the partial output for device j, as stored. -/
theorem rs_piece (a : S2x256x512.Idx → Elt F .f32) (j : Fin 8) {o : Fin 3 → ℕ} (ho : o = ![0, 32 * j.val, 0]) {o' : Fin 4 → ℕ} (ho' : o' = ![j.val, 0, 0, 0]) (i') (h h' h'') (y : S1x2x32x512.Idx) :
    shapeCast S1x2x32x512 (truncf (F := F) (φ := .f32) .bf16 (extractStridedSlice S2x32x512 o a h) h') h'' y = rsOf a ((Rect.unit (s := S8x2x32x512) o' S1x2x32x512.size i').emb y) := by
  subst ho ho'
  have h0 : (y 0).val < 1 := (y 0).isLt
  rw [cast4]
  have e (a : Fin 4) := rect_val (s := S8x2x32x512) ![j.val, 0, 0, 0] S1x2x32x512.size i' y a
  have e0 := e 0; have e1 := e 1; have e2 := e 2; have e3 := e 3
  unfold rsOf
  refine congrArg (fun z => FloatOps.truncf .bf16 bitsLt_bf16_f32 (a z)) (funext fun b => Fin.ext ?_)
  match b with
  | 0 => exact e1.symm
  | 1 =>
    show 32 * j.val + (y 2).val = 32 * _ + _
    rw [e0, e2]
    show 32 * j.val + (y 2).val = 32 * (j.val + (y 0).val) + (0 + (y 2).val)
    omega
  | 2 => exact e3.symm

/-- Slice j of the result, as stored. -/
theorem out_piece (r : S8x2x32x512.Idx → Elt F .bf16) (j : Fin 8) {o : Fin 4 → ℕ} (ho : o = ![j.val, 0, 0, 0]) {o' : Fin 3 → ℕ} (ho' : o' = ![0, 32 * j.val, 0]) (i') (h h' h'') (y : S2x32x512.Idx) :
    extf (F := F) (φ := .bf16) .f32 (shapeCast S2x32x512 (extractStridedSlice S1x2x32x512 o r h) h') h'' y = outOf r ((Rect.unit (s := S2x256x512) o' S2x32x512.size i').emb y) := by
  subst ho ho'
  have h1 : (y 1).val < 32 := (y 1).isLt
  have e (a : Fin 3) := rect_val (s := S2x256x512) ![0, 32 * j.val, 0] S2x32x512.size i' y a
  have e0 := e 0; have e1 := e 1; have e2 := e 2
  have e1' : ((Rect.unit (s := S2x256x512) ![0, 32 * j.val, 0] S2x32x512.size i').emb y 1).val = 32 * j.val + (y 1).val := e1
  unfold outOf
  refine congrArg (FloatOps.extf .f32 bitsLt_bf16_f32) ?_
  rw [cast3]
  refine congrArg r (funext fun b => Fin.ext ?_)
  match b with
  | 0 =>
    show j.val + 0 = _ / 32
    rw [e1']; omega
  | 1 => exact e0.symm
  | 2 =>
    show 0 + (y 1).val = _ % 32
    rw [e1']; omega
  | 3 => exact e2.symm

/-- A batch's partial output, as stored. -/
theorem acc_piece (J : Ins F) (r : S8x2x2x256x256.Idx → Elt F .bf16) (t : Fin 2) {o' : Fin 3 → ℕ} (ho' : o' = ![t.val, 0, 0]) (i') (w : S1x256x512.Idx → Elt F .f32)
    (hw : w = if t.val = 0 then part0 (k0_pay21 J.x J.wq) r J.wo else part1 (k0_pay22 J.x J.wq) r J.wo) (y : S1x256x512.Idx) :
    w y = accOf J r ((Rect.unit (s := S2x256x512) o' S1x256x512.size i').emb y) := by
  subst ho' hw
  have h0 : (y 0).val < 1 := (y 0).isLt
  have e (a : Fin 3) := rect_val (s := S2x256x512) ![t.val, 0, 0] S1x256x512.size i' y a
  have e0 := e 0; have e1 := e 1; have e2 := e 2
  have c0 : ((Rect.unit (s := S2x256x512) ![t.val, 0, 0] S1x256x512.size i').emb y 0).val = t.val := by
    refine e0.trans ?_
    show t.val + (y 0).val = t.val
    omega
  unfold accOf
  rw [c0]
  refine congrArg _ (funext fun a => Fin.ext ?_)
  match a with
  | 0 => show (y 0).val = 0; omega
  | 1 => exact (e1.trans (Nat.zero_add _)).symm
  | 2 => exact (e2.trans (Nat.zero_add _)).symm

end Cert.KernelIdeal.Run
-- ==== Proof.Mid.lean ====
/-
  The parts of the body that compute, or copy from a device to itself.
-/
module

public import proofs.«01_k».proof.Proof.Vals

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (C : Cts F) (K : GSem nD τ sig → ℕ) (c : Dev nD) {α : Type}

theorem f_loadW {sp : CoreSpace} {s : Shape} {e : EltTy} {m : Memref sig .tc sp s e} {r : LoadRect s} {hl : m.view.LoadsAt r} {k : (r.shape.Idx → Elt F e) → ℙ α}
    {f : Buf (Elt F) (m.view.loc (c : Thread nD τ))} {v : r.shape.Idx → Elt F e} {Q : α → sProp 𝕄} {R X : sProp 𝕄}
    (hR : R ⊢ iprop((m.view.loc (c : Thread nD τ) ↦{fullShare} f) ∗ ((m.view.loc (c : Thread nD τ) ↦{fullShare} f) -∗ R))) (hv : m.view.readAt (Elt F) r f = v)
    (hk : iprop(R ∗ X) ⊢ WPc c (k v) Q) : iprop(R ∗ X) ⊢ WPc c (.op (.load m r hl) k) Q :=
  f_load c hR (hv ▸ hk)

theorem getN1 {A B R : sProp 𝕄} : iprop((A ∗ B) ∗ R) ⊢ iprop(A ∗ (A -∗ ((A ∗ B) ∗ R))) := by
  iintro ⟨⟨HA, HB⟩, HR⟩
  isplitl [HA]
  · iexact HA
  iintro HA
  isplitr [HR]
  · isplitl [HA] <;> iassumption
  iexact HR
theorem getN2 {A B R : sProp 𝕄} : iprop((B ∗ A) ∗ R) ⊢ iprop(A ∗ (A -∗ ((B ∗ A) ∗ R))) := by
  iintro ⟨⟨HB, HA⟩, HR⟩
  isplitl [HA]
  · iexact HA
  iintro HA
  isplitr [HR]
  · isplitl [HB] <;> iassumption
  iexact HR

/-- Before the wait for the local copy, and after it. -/
theorem loc_in {A T S O R B D : sProp 𝕄} : iprop((A ∗ T ∗ S ∗ O ∗ R) ∗ (B ∗ D)) ⊢ iprop((A ∗ S ∗ R) ∗ (B ∗ (D ∗ T ∗ O))) := by
  iintro ⟨⟨HA, HT, HS, HO, HR⟩, HB, HD⟩
  isplitl [HA HS HR]
  · isplitl [HA]
    · iexact HA
    isplitl [HS] <;> iassumption
  isplitl [HB]
  · iexact HB
  isplitl [HD]
  · iexact HD
  isplitl [HT] <;> iassumption
theorem loc_out {A S R B D E T G O : sProp 𝕄} : iprop((A ∗ S ∗ R) ∗ (B ∗ (D ∗ E ∗ T ∗ G ∗ O))) ⊢ iprop((A ∗ D ∗ E ∗ T ∗ G ∗ R) ∗ (B ∗ (S ∗ O))) := by
  iintro ⟨⟨HA, HS, HR⟩, HB, HD, HE, HT, HG, HO⟩
  isplitr [HB HS HO]
  · isplitl [HA]
    · iexact HA
    isplitl [HD]
    · iexact HD
    isplitl [HE]
    · iexact HE
    isplitl [HT]
    · iexact HT
    isplitl [HG] <;> iassumption
  isplitl [HB]
  · iexact HB
  isplitl [HS] <;> iassumption
theorem loc_start {A T S L R B D O : sProp 𝕄} : iprop((A ∗ T ∗ S ∗ L ∗ R) ∗ (B ∗ (D ∗ O))) ⊢ iprop((A ∗ T ∗ S ∗ O ∗ (D ∗ R)) ∗ (B ∗ L)) := by
  iintro ⟨⟨HA, HT, HS, HL, HR⟩, HB, HD, HO⟩
  isplitr [HB HL]
  · isplitl [HA]
    · iexact HA
    isplitl [HT]
    · iexact HT
    isplitl [HS]
    · iexact HS
    isplitl [HO]
    · iexact HO
    isplitl [HD] <;> iassumption
  isplitl [HB] <;> iassumption

/-- What the local copy of an exchange needs, and what it leaves. -/
abbrev LocB (i : Fin 3) : sProp 𝕄 := iprop((chan C i).srcPts c c ∗ (chan C i).dstAny c c ∗ dutyTok ER (lCell c) i.val (0 : Dev nD) ∗ reached ER (lCell c) i.val)

/-- The first n slots, batches, slices. -/
def rsP (n : ℕ) (i : S8x2x32x512.Idx) : Prop := (i 0).val < n
def accP (n : ℕ) (i : S2x256x512.Idx) : Prop := (i 0).val < n
def outP (n : ℕ) (i : S2x256x512.Idx) : Prop := (i 1).val < 32 * n

theorem rs_cover (j : Fin 8) {n : ℕ} {o' : Fin 4 → ℕ} (ho' : o' = ![j.val, 0, 0, 0]) (hn : n = j.val) (x : S8x2x32x512.Idx) (h : rsP (n + 1) x) :
    rsP n x ∨ ∀ a, o' a ≤ x a ∧ (x a : ℕ) < o' a + S1x2x32x512.size a := by
  subst ho' hn
  unfold rsP at h ⊢
  have h1 : (x 1).val < 2 := (x 1).isLt
  have h2 : (x 2).val < 32 := (x 2).isLt
  have h3 : (x 3).val < 512 := (x 3).isLt
  by_cases e : (x 0).val < j.val
  · exact .inl e
  · refine .inr fun a => ?_
    match a with
    | 0 => exact ⟨(show j.val ≤ (x 0).val by omega), (show (x 0).val < j.val + 1 by omega)⟩
    | 1 => exact ⟨Nat.zero_le _, (show (x 1).val < 0 + 2 by omega)⟩
    | 2 => exact ⟨Nat.zero_le _, (show (x 2).val < 0 + 32 by omega)⟩
    | 3 => exact ⟨Nat.zero_le _, (show (x 3).val < 0 + 512 by omega)⟩
theorem acc_cover (t : Fin 2) {n : ℕ} {o' : Fin 3 → ℕ} (ho' : o' = ![t.val, 0, 0]) (hn : n = t.val) (x : S2x256x512.Idx) (h : accP (n + 1) x) :
    accP n x ∨ ∀ a, o' a ≤ x a ∧ (x a : ℕ) < o' a + S1x256x512.size a := by
  subst ho' hn
  unfold accP at h ⊢
  have h1 : (x 1).val < 256 := (x 1).isLt
  have h2 : (x 2).val < 512 := (x 2).isLt
  by_cases e : (x 0).val < t.val
  · exact .inl e
  · refine .inr fun a => ?_
    match a with
    | 0 => exact ⟨(show t.val ≤ (x 0).val by omega), (show (x 0).val < t.val + 1 by omega)⟩
    | 1 => exact ⟨Nat.zero_le _, (show (x 1).val < 0 + 256 by omega)⟩
    | 2 => exact ⟨Nat.zero_le _, (show (x 2).val < 0 + 512 by omega)⟩
theorem out_cover (j : Fin 8) {n : ℕ} {o' : Fin 3 → ℕ} (ho' : o' = ![0, 32 * j.val, 0]) (hn : n = j.val) (x : S2x256x512.Idx) (h : outP (n + 1) x) :
    outP n x ∨ ∀ a, o' a ≤ x a ∧ (x a : ℕ) < o' a + S2x32x512.size a := by
  subst ho' hn
  unfold outP at h ⊢
  have h0 : (x 0).val < 2 := (x 0).isLt
  have h2 : (x 2).val < 512 := (x 2).isLt
  by_cases e : (x 1).val < 32 * j.val
  · exact .inl e
  · refine .inr fun a => ?_
    match a with
    | 0 => exact ⟨Nat.zero_le _, (show (x 0).val < 0 + 2 by omega)⟩
    | 1 => exact ⟨(show 32 * j.val ≤ (x 1).val by omega), (show (x 1).val < 32 * j.val + 32 by omega)⟩
    | 2 => exact ⟨Nat.zero_le _, (show (x 2).val < 0 + 512 by omega)⟩
theorem ag_cover {o' : Fin 3 → ℕ} (ho' : o' = ![0, 0, 0]) (x : S2x32x512.Idx) : False ∨ ∀ a, o' a ≤ x a ∧ (x a : ℕ) < o' a + S2x32x512.size a := by
  subst ho'
  refine .inr fun a => ?_
  match a with
  | 0 => exact ⟨Nat.zero_le _, (Nat.zero_add 2).symm ▸ (x 0).isLt⟩
  | 1 => exact ⟨Nat.zero_le _, (Nat.zero_add 32).symm ▸ (x 1).isLt⟩
  | 2 => exact ⟨Nat.zero_le _, (Nat.zero_add 512).symm ▸ (x 2).isLt⟩
theorem ag_piece (g : S2x32x512.Idx → Elt F .bf16) {o' : Fin 3 → ℕ} (ho' : o' = ![0, 0, 0]) (i') (y : S2x32x512.Idx) : g y = g ((Rect.unit (s := S2x32x512) o' S2x32x512.size i').emb y) := by
  subst ho'
  refine congrArg g (funext fun a => Fin.ext ?_)
  have e := rect_val (s := S2x32x512) ![0, 0, 0] S2x32x512.size i' y a
  refine Eq.trans ?_ e.symm
  match a with
  | 0 => exact (Nat.zero_add _).symm
  | 1 => exact (Nat.zero_add _).symm
  | 2 => exact (Nat.zero_add _).symm

/-- The partial output, the slices to send, the slice to gather, and the result, so far. -/
abbrev Acc (J : Ins F) (r : S8x2x2x256x256.Idx → Elt F .bf16) (n : ℕ) : sProp 𝕄 := Fill c (Memref.whole cc0_scratch2) (accOf J r) (accP n)
abbrev Rs (a : S2x256x512.Idx → Elt F .f32) (n : ℕ) : sProp 𝕄 := Fill c (Memref.whole cc0_scratch3) (rsOf a) (rsP n)
abbrev Ag (g : S2x32x512.Idx → Elt F .bf16) (p : Prop) : sProp 𝕄 := Fill c (Memref.whole cc0_scratch5) g (fun _ => p)
abbrev Out (r : S8x2x32x512.Idx → Elt F .bf16) (n : ℕ) : sProp 𝕄 := Fill c (win0_5.stage 0) (outOf r) (outP n)

theorem due_end' (X : Fin 3 → Chan F) (i : Fin 3) (c : Dev nD) (O : CellTallies nD τ sig Unit) : due X i c 8 + O = O := by rw [due_end, zero_add]
theorem loc_start' (X : Fin 3 → Chan F) (i : Fin 3) (O : CellTallies nD τ sig Unit) {A T S L R B D : sProp 𝕄} :
    iprop((A ∗ T ∗ S ∗ L ∗ R) ∗ (B ∗ (D ∗ Owe c (due X i c 8 + O)))) ⊢ iprop((A ∗ T ∗ S ∗ Owe c O ∗ (D ∗ R)) ∗ (B ∗ L)) := by
  rw [due_end' X i c O]; exact loc_start

set_option maxHeartbeats 4000000 in
theorem part7_spec {Q : (Σ' (v135 : FVec F S256x256 .bf16) (v139 : FVec F S256x256 .bf16), BitVec 32) → sProp 𝕄} {R : sProp 𝕄} (J : Ins F) (O : CellTallies nD τ sig Unit) (hO : Above 2 O)
    (hk : iprop(((pt c cc0_stg0_0 J.x ∗ pt c cc0_stg1_0 J.wq) ∗ (chan C 0).dstPts c c ∗ (chan C 0).srcPts c c ∗ atPos ER (lCell c) 1 ∅ 0 ∗ reached ER (lCell c) 1 ∗ R) ∗ (Base C K ∗ St c (recvA (chan C) 0 c) (recvB (chan C) 0 c) 2 ∗ Owe c O)) ⊢ Q ⟨k0_pay21 J.x J.wq, k0_pay22 J.x J.wq, 2#32⟩) :
    iprop(((pt c cc0_stg0_0 J.x ∗ pt c cc0_stg1_0 J.wq) ∗ atPos ER (lCell c) 0 ∅ 0 ∗ St c (recvA (chan C) 0 c) (recvB (chan C) 0 c) 0 ∗ Owe c O ∗ R) ∗ (Base C K ∗ LocB C c 0)) ⊢ WPc c (onBufs (k0_part7 (F := F)) c (V2 c)) Q := by
  unfold onBufs
  rw [k0_part7_eq_skeleton]
  unfold k0_part7_skel
  simp only [semSignalWord, semWaitWord, Prog.lift, Prog.bind_op, Prog.bind_ret, Prog.pure_eq_ret, Prog.bind_assoc]
  refine f_local C K c 0 (enq_eq' (sl5 _ _ (off17 c)) (sl5 _ _ (off17 c)) rfl _ _ _) ?_
  refine f_loadW c (m := win0_0.stage 0) getN1 (Memref.readAt_unit_zero (Elt F) cc0_stg0_0 (by decide) _ _) ?_
  refine f_loadW c (m := win0_1.stage 0) getN2 (Memref.readAt_unit_zero (Elt F) cc0_stg1_0 (by decide) _ _) ?_
  refine reframe loc_in ?_
  refine f_localWait C K c 0 (hO.mono (Nat.zero_le _)) (fun R => wait_eq c rfl rfl _ _ R) ?_
  refine reframe loc_out ?_
  refine f_recv C K c 0 0 hO (rc0 c) (fun _ R => wait_eq c (semS _ 14 0 rfl sem14 (sR 0 0) (val_sR 0 0)) rfl _ _ R) ?_
  refine f_recv C K c 0 1 hO (rc1 c) (fun _ R => wait_eq c (semS _ 14 1 rfl sem14 (sR 0 1) (val_sR 0 1)) rfl _ _ R) ?_
  exact f_ret c hk

set_option maxHeartbeats 4000000 in
theorem part10_spec {Q : (Σ' (v241 : IVec S256x2048 1) (v242 : Vec F S8x2x2x256x256 .bf16) (v244 : FVec F S256x512 .bf16) (v246 : FVec F S256x64 .bf16) (v248 : FVec F S256x64 .bf16) (v250 : FVec F S256x64 .bf16) (v252 : FVec F S256x64 .bf16) (v254 : FVec F S256x64 .bf16) (v256 : FVec F S256x64 .bf16) (v258 : FVec F S256x64 .bf16), FVec F S1x1x1x256x64 .bf16) → sProp 𝕄} {R X : sProp 𝕄} (J : Ins F) (r : S8x2x2x256x256.Idx → Elt F .bf16) (v192 v195 : IVec S256x2048 32) (v214 : IVec S256x2048 1) (c1 : BitVec 32)
    (hk : iprop((pt c cc0_scratch1 r ∗ pt c cc0_stg4_0 J.wo ∗ R) ∗ X) ⊢ Q ⟨k0_pay26 v192 v195 v214 c1, r, k0_pay27 J.wo, k0_pay28 r, k0_pay29 r, k0_pay30 r, k0_pay31 r, k0_pay32 r, k0_pay33 r, k0_pay34 r, k0_pay35 r⟩) :
    iprop((pt c cc0_scratch1 r ∗ pt c cc0_stg4_0 J.wo ∗ R) ∗ X) ⊢ WPc c (onBufs (k0_part10 (F := F)) v192 v195 v214 c1) Q := by
  unfold onBufs
  rw [k0_part10_eq_skeleton]
  unfold k0_part10_skel
  simp only [semSignalWord, semWaitWord, Prog.lift, Prog.bind_op, Prog.bind_ret, Prog.pure_eq_ret, Prog.bind_assoc]
  refine f_loadW c get1 (Memref.readAt_unit_zero (Elt F) cc0_scratch1 (by decide) _ _) ?_
  refine f_loadW c (m := win0_4.stage 0) get2 (Memref.readAt_unit_zero (Elt F) cc0_stg4_0 (by decide) _ _) ?_
  exact f_ret c hk

set_option maxHeartbeats 4000000 in
theorem part14_spec {Q : (Σ' (v456 : FVec F S256x64 .bf16) (v458 : FVec F S256x64 .bf16) (v460 : FVec F S256x64 .bf16) (v462 : FVec F S256x64 .bf16) (v464 : FVec F S256x64 .bf16) (v466 : FVec F S256x64 .bf16) (v468 : FVec F S256x64 .bf16), FVec F S256x64 .bf16) → sProp 𝕄} {R X : sProp 𝕄} (J : Ins F) (r : S8x2x2x256x256.Idx → Elt F .bf16) (v135 : FVec F S256x256 .bf16) (v241 : IVec S256x2048 1) (v242 : Vec F S8x2x2x256x256 .bf16) (v244 : FVec F S256x512 .bf16) (v295 : FVec F S256x64 .f32) (v346 : FVec F S256x64 .f32) (v397 : FVec F S256x64 .f32) (v414 : FVec F S2048x64 .bf16) (v416 : FVec F S256x64 .bf16) (v418 : FVec F S256x64 .bf16) (v420 : FVec F S256x64 .bf16) (v421 : FVec F S1x1x1x256x64 .bf16) (hv : k0_pay49 v135 v241 v242 v244 v295 v346 v397 v414 v416 v418 v420 v421 = part0 (k0_pay21 J.x J.wq) r J.wo)
    (hk : iprop((Acc c J r 1 ∗ R) ∗ X) ⊢ Q ⟨k0_pay50 v242, k0_pay51 v242, k0_pay52 v242, k0_pay53 v242, k0_pay54 v242, k0_pay55 v242, k0_pay56 v242, k0_pay57 v242⟩) :
    iprop((Acc c J r 0 ∗ R) ∗ X) ⊢ WPc c (onBufs (k0_part14 (F := F)) v135 v241 v242 v244 v295 v346 v397 v414 v416 v418 v420 v421) Q := by
  unfold onBufs
  rw [k0_part14_eq_skeleton]
  unfold k0_part14_skel
  simp only [semSignalWord, semWaitWord, Prog.lift, Prog.bind_op, Prog.bind_ret, Prog.pure_eq_ret, Prog.bind_assoc]
  refine f_peek c (fun _ => ?_)
  refine f_fill c (accP 1) (fun y => acc_piece J r 0 rfl _ _ hv y) (acc_cover 0 rfl rfl) ?_
  exact f_ret c hk

theorem acc_done {J : Ins F} {r : S8x2x2x256x256.Idx → Elt F .bf16} {A R X : sProp 𝕄} : iprop((Acc c J r 2 ∗ A ∗ R) ∗ X) ⊢ iprop((A ∗ pt c cc0_scratch2 (accOf J r) ∗ R) ∗ X) := by
  iintro ⟨⟨H1, HA, HR⟩, HX⟩
  isplitr [HX]
  · isplitl [HA]
    · iexact HA
    isplitl [H1]
    · iapply (fill_all c cc0_scratch2 (accOf J r) (accP 2) (fun x => (x 0).isLt)) $$ [H1]
      iexact H1
    iexact HR
  iexact HX

set_option maxHeartbeats 4000000 in
theorem part18_spec {Q : (Σ' (v665 : Vec F S2x256x512 .f32), FVec F S2x32x512 .bf16) → sProp 𝕄} {R X : sProp 𝕄} (J : Ins F) (r : S8x2x2x256x256.Idx → Elt F .bf16) (v139 : FVec F S256x256 .bf16) (v241 : IVec S256x2048 1) (v242 : Vec F S8x2x2x256x256 .bf16) (v244 : FVec F S256x512 .bf16) (v505 : FVec F S256x64 .f32) (v556 : FVec F S256x64 .f32) (v607 : FVec F S256x64 .f32) (v624 : FVec F S2048x64 .bf16) (v626 : FVec F S256x64 .bf16) (v628 : FVec F S256x64 .bf16) (v630 : FVec F S256x64 .bf16) (v632 : FVec F S256x64 .bf16) (hv : k0_pay72 v139 v241 v242 v244 v505 v556 v607 v624 v626 v628 v630 v632 = part1 (k0_pay22 J.x J.wq) r J.wo)
    (hk : iprop((Rs c (accOf J r) 1 ∗ pt c cc0_scratch2 (accOf J r) ∗ R) ∗ X) ⊢ Q ⟨accOf J r, k0_pay74 (accOf J r)⟩) :
    iprop((Acc c J r 1 ∗ Rs c (accOf J r) 0 ∗ R) ∗ X) ⊢ WPc c (onBufs (k0_part18 (F := F)) v139 v241 v242 v244 v505 v556 v607 v624 v626 v628 v630 v632) Q := by
  unfold onBufs
  rw [k0_part18_eq_skeleton]
  unfold k0_part18_skel
  simp only [semSignalWord, semWaitWord, Prog.lift, Prog.bind_op, Prog.bind_ret, Prog.pure_eq_ret, Prog.bind_assoc]
  refine f_peek c (fun _ => ?_)
  refine f_fill c (accP 2) (fun y => acc_piece J r 1 rfl _ _ hv y) (acc_cover 1 rfl rfl) ?_
  refine reframe (acc_done c) ?_
  refine f_loadW c get2 (Memref.readAt_unit_zero (Elt F) cc0_scratch2 (by decide) _ _) ?_
  refine f_peek c (fun _ => ?_)
  refine f_fill c (rsP 1) (fun y => rs_piece _ 0 rfl rfl _ _ _ _ y) (rs_cover 0 rfl rfl) ?_
  exact f_ret c hk

set_option maxHeartbeats 4000000 in
theorem part19_spec {Q : (FVec F S2x32x512 .bf16) → sProp 𝕄} {R X : sProp 𝕄} (a : S2x256x512.Idx → Elt F .f32) (v672 : FVec F S2x32x512 .bf16) (hv : v672 = k0_pay74 a)
    (hk : iprop((Rs c a 7 ∗ R) ∗ X) ⊢ Q (k0_pay81 a)) :
    iprop((Rs c a 1 ∗ R) ∗ X) ⊢ WPc c (onBufs (k0_part19 (F := F)) a v672) Q := by
  unfold onBufs
  rw [k0_part19_eq_skeleton]
  unfold k0_part19_skel
  simp only [semSignalWord, semWaitWord, Prog.lift, Prog.bind_op, Prog.bind_ret, Prog.pure_eq_ret, Prog.bind_assoc]
  rw [hv]
  refine f_peek c (fun _ => ?_)
  refine f_fill c (rsP 2) (fun y => rs_piece _ 1 rfl rfl _ _ _ _ y) (rs_cover 1 rfl rfl) ?_
  refine f_peek c (fun _ => ?_)
  refine f_fill c (rsP 3) (fun y => rs_piece _ 2 rfl rfl _ _ _ _ y) (rs_cover 2 rfl rfl) ?_
  refine f_peek c (fun _ => ?_)
  refine f_fill c (rsP 4) (fun y => rs_piece _ 3 rfl rfl _ _ _ _ y) (rs_cover 3 rfl rfl) ?_
  refine f_peek c (fun _ => ?_)
  refine f_fill c (rsP 5) (fun y => rs_piece _ 4 rfl rfl _ _ _ _ y) (rs_cover 4 rfl rfl) ?_
  refine f_peek c (fun _ => ?_)
  refine f_fill c (rsP 6) (fun y => rs_piece _ 5 rfl rfl _ _ _ _ y) (rs_cover 5 rfl rfl) ?_
  refine f_peek c (fun _ => ?_)
  refine f_fill c (rsP 7) (fun y => rs_piece _ 6 rfl rfl _ _ _ _ y) (rs_cover 6 rfl rfl) ?_
  exact f_ret c hk

set_option maxHeartbeats 4000000 in
theorem part20_spec {Q : BitVec 32 → sProp 𝕄} {R R' X : sProp 𝕄} (a : S2x256x512.Idx → Elt F .f32) (v702 : FVec F S2x32x512 .bf16) (hv : v702 = k0_pay81 a) (O : CellTallies nD τ sig Unit) (hmid : iprop((Rs c a 8 ∗ R) ∗ (Base C K ∗ X)) ⊢ iprop(R' ∗ (Base C K ∗ St c (sendA (chan C) 1 c) (sendB (chan C) 1 c) 0 ∗ Owe c (due (chan C) 1 c 0 + O))))
    (hk : iprop(R' ∗ (Base C K ∗ St c (sendA (chan C) 1 c) (sendB (chan C) 1 c) 6 ∗ Owe c (due (chan C) 1 c 6 + O))) ⊢ Q (Scalar.extui (Scalar.cmpi .ne (V2 c) 6#32))) :
    iprop((Rs c a 7 ∗ R) ∗ (Base C K ∗ X)) ⊢ WPc c (onBufs (k0_part20 (F := F)) c (V2 c) v702) Q := by
  unfold onBufs
  rw [k0_part20_eq_skeleton]
  unfold k0_part20_skel
  simp only [semSignalWord, semWaitWord, Prog.lift, Prog.bind_op, Prog.bind_ret, Prog.pure_eq_ret, Prog.bind_assoc]
  rw [hv]
  refine f_peek c (fun _ => ?_)
  refine f_fill c (rsP 8) (fun y => rs_piece _ 7 rfl rfl _ _ _ _ y) (rs_cover 7 rfl rfl) ?_
  refine reframe hmid ?_
  refine f_send C K c 1 0 O (cond17 c) (fun h => enq1 C c 0 (Fin.ext (show k0_dev17 = 0 by decide)) rfl (off19 c) rfl (off18 c) _ _ _ _) ?_
  refine f_send C K c 1 1 O (cond18 c) (fun h => enq1 C c 1 (Fin.ext (show k0_dev18 = 1 by decide)) rfl (off21 c) rfl (off20 c) _ _ _ _) ?_
  refine f_send C K c 1 2 O (cond19 c) (fun h => enq1 C c 2 (Fin.ext (show k0_dev19 = 2 by decide)) rfl (off23 c) rfl (off22 c) _ _ _ _) ?_
  refine f_send C K c 1 3 O (cond20 c) (fun h => enq1 C c 3 (Fin.ext (show k0_dev20 = 3 by decide)) rfl (off25 c) rfl (off24 c) _ _ _ _) ?_
  refine f_send C K c 1 4 O (cond21 c) (fun h => enq1 C c 4 (Fin.ext (show k0_dev21 = 4 by decide)) rfl (off27 c) rfl (off26 c) _ _ _ _) ?_
  refine f_send C K c 1 5 O (cond22 c) (fun h => enq1 C c 5 (Fin.ext (show k0_dev22 = 5 by decide)) rfl (off29 c) rfl (off28 c) _ _ _ _) ?_
  exact f_ret c hk

set_option maxHeartbeats 4000000 in
theorem part21_spec {Q : BitVec 32 → sProp 𝕄} {A R : sProp 𝕄} (O : CellTallies nD τ sig Unit) (hO : Above 3 O) (v725 : BitVec 32) (hv : v725 = Scalar.extui (Scalar.cmpi .ne (V2 c) 6#32))
    (hk : iprop((A ∗ (chan C 1).dstPts c c ∗ (chan C 1).srcPts c c ∗ atPos ER (lCell c) 2 ∅ 0 ∗ reached ER (lCell c) 2 ∗ St c (sendA (chan C) 1 c) (sendB (chan C) 1 c) 8 ∗ R) ∗ (Base C K ∗ St c (recvA (chan C) 1 c) (recvB (chan C) 1 c) 2 ∗ Owe c O)) ⊢ Q (Scalar.extui (Scalar.cmpi .ne (V2 c) 2#32))) :
    iprop((A ∗ atPos ER (lCell c) 1 ∅ 0 ∗ St c (recvA (chan C) 1 c) (recvB (chan C) 1 c) 0 ∗ LocB C c 1 ∗ R) ∗ (Base C K ∗ St c (sendA (chan C) 1 c) (sendB (chan C) 1 c) 6 ∗ Owe c (due (chan C) 1 c 6 + O))) ⊢ WPc c (onBufs (k0_part21 (F := F)) c (V2 c) v725) Q := by
  unfold onBufs
  rw [k0_part21_eq_skeleton]
  unfold k0_part21_skel
  simp only [semSignalWord, semWaitWord, Prog.lift, Prog.bind_op, Prog.bind_ret, Prog.pure_eq_ret, Prog.bind_assoc]
  refine f_send C K c 1 6 O (cond23 c) (fun h => enq1 C c 6 (Fin.ext (show k0_dev23 = 6 by decide)) rfl (off31 c) rfl (off30 c) _ _ _ _) ?_
  refine f_send C K c 1 7 O (cond24 c) (fun h => enq1 C c 7 (Fin.ext (show k0_dev24 = 7 by decide)) rfl (off33 c) rfl (off32 c) _ _ _ _) ?_
  refine reframe (loc_start' c (chan C) 1 O) ?_
  refine f_local C K c 1 (enq_eq' (sl4 _ _ (off34 c)) (sl4 _ _ (off34 c)) rfl _ _ _) ?_
  refine reframe loc_in ?_
  refine f_localWait C K c 1 (hO.mono (Nat.zero_le _)) (fun R => wait_eq c rfl rfl _ _ R) ?_
  refine reframe loc_out ?_
  refine f_recv C K c 1 0 hO (rc0 c) (fun _ R => wait_eq c (semS _ 30 0 rfl sem16 (sR 1 0) (val_sR 1 0)) rfl _ _ R) ?_
  refine f_recv C K c 1 1 hO (rc1 c) (fun _ R => wait_eq c (semS _ 30 1 rfl sem16 (sR 1 1) (val_sR 1 1)) rfl _ _ R) ?_
  exact f_ret c hk

set_option maxHeartbeats 4000000 in
theorem part22_spec {Q : (Σ' (v762 : Vec F S8x2x32x512 .bf16), FVec F S2x32x512 .f32) → sProp 𝕄} {R R' X : sProp 𝕄} (O : CellTallies nD τ sig Unit) (hO : Above 3 O) (v745 : BitVec 32) (hv : v745 = Scalar.extui (Scalar.cmpi .ne (V2 c) 2#32)) (r : S8x2x32x512.Idx → Elt F .bf16) (hmid : iprop(R ∗ (Base C K ∗ St c (recvA (chan C) 1 c) (recvB (chan C) 1 c) 8 ∗ Owe c O)) ⊢ iprop((pt c cc0_scratch4 r ∗ R') ∗ X))
    (hk : iprop((pt c cc0_scratch4 r ∗ R') ∗ X) ⊢ Q ⟨r, k0_pay83⟩) :
    iprop(R ∗ (Base C K ∗ St c (recvA (chan C) 1 c) (recvB (chan C) 1 c) 2 ∗ Owe c O)) ⊢ WPc c (onBufs (k0_part22 (F := F)) (V2 c) v745) Q := by
  unfold onBufs
  rw [k0_part22_eq_skeleton]
  unfold k0_part22_skel
  simp only [semSignalWord, semWaitWord, Prog.lift, Prog.bind_op, Prog.bind_ret, Prog.pure_eq_ret, Prog.bind_assoc]
  rw [hv]
  refine f_recv C K c 1 2 hO (rc2 c) (fun _ R => wait_eq c (semS _ 30 2 rfl sem16 (sR 1 2) (val_sR 1 2)) rfl _ _ R) ?_
  refine f_recv C K c 1 3 hO (rc3 c) (fun _ R => wait_eq c (semS _ 30 3 rfl sem16 (sR 1 3) (val_sR 1 3)) rfl _ _ R) ?_
  refine f_recv C K c 1 4 hO (rc4 c) (fun _ R => wait_eq c (semS _ 30 4 rfl sem16 (sR 1 4) (val_sR 1 4)) rfl _ _ R) ?_
  refine f_recv C K c 1 5 hO (rc5 c) (fun _ R => wait_eq c (semS _ 30 5 rfl sem16 (sR 1 5) (val_sR 1 5)) rfl _ _ R) ?_
  refine f_recv C K c 1 6 hO (rc6 c) (fun _ R => wait_eq c (semS _ 30 6 rfl sem16 (sR 1 6) (val_sR 1 6)) rfl _ _ R) ?_
  refine f_recv C K c 1 7 hO (rc7 c) (fun _ R => wait_eq c (semS _ 30 7 rfl sem16 (sR 1 7) (val_sR 1 7)) rfl _ _ R) ?_
  refine reframe hmid ?_
  refine f_loadW c get1 (Memref.readAt_unit_zero (Elt F) cc0_scratch4 (by decide) _ _) ?_
  exact f_ret c hk

set_option maxHeartbeats 4000000 in
theorem part23_spec {Q : PUnit.{1} → sProp 𝕄} {R R' X : sProp 𝕄} (O : CellTallies nD τ sig Unit) (r : S8x2x32x512.Idx → Elt F .bf16) (v763 : FVec F S2x32x512 .f32) (hv : v763 = k0_pay83) (hmid : iprop((Ag c (agOf r) True ∗ R) ∗ (Base C K ∗ X)) ⊢ iprop(R' ∗ (Base C K ∗ St c (sendA (chan C) 2 c) (sendB (chan C) 2 c) 0 ∗ Owe c (due (chan C) 2 c 0 + O))))
    (hk : iprop(R' ∗ (Base C K ∗ St c (sendA (chan C) 2 c) (sendB (chan C) 2 c) 2 ∗ Owe c (due (chan C) 2 c 2 + O))) ⊢ Q ⟨⟩) :
    iprop((Ag c (agOf r) False ∗ R) ∗ (Base C K ∗ X)) ⊢ WPc c (onBufs (k0_part23 (F := F)) c (V2 c) r v763) Q := by
  unfold onBufs
  rw [k0_part23_eq_skeleton]
  unfold k0_part23_skel
  simp only [semSignalWord, semWaitWord, Prog.lift, Prog.bind_op, Prog.bind_ret, Prog.pure_eq_ret, Prog.bind_assoc]
  rw [hv]
  refine f_peek c (fun _ => ?_)
  refine f_fill c (fun _ => True) (fun y => ag_piece (agOf r) rfl _ y) (fun x _ => ag_cover rfl x) ?_
  refine reframe hmid ?_
  refine f_send C K c 2 0 O (cond33 c) (fun h => enq2 C c 0 (Fin.ext (show k0_dev25 = 0 by decide)) (off36 c) rfl (off35 c) _ _ _ _) ?_
  refine f_send C K c 2 1 O (cond34 c) (fun h => enq2 C c 1 (Fin.ext (show k0_dev26 = 1 by decide)) (off38 c) rfl (off37 c) _ _ _ _) ?_
  exact f_ret c hk

set_option maxHeartbeats 4000000 in
theorem part24_spec {Q : BitVec 32 → sProp 𝕄} {A R : sProp 𝕄} (O : CellTallies nD τ sig Unit) (hO : Above 4 O)
    (hk : iprop((A ∗ (chan C 2).dstPts c c ∗ (chan C 2).srcPts c c ∗ atPos ER (lCell c) 3 ∅ 0 ∗ reached ER (lCell c) 3 ∗ St c (sendA (chan C) 2 c) (sendB (chan C) 2 c) 8 ∗ R) ∗ (Base C K ∗ St c (recvA (chan C) 2 c) (recvB (chan C) 2 c) 1 ∗ Owe c O)) ⊢ Q (Scalar.extui (Scalar.cmpi .ne (V2 c) 1#32))) :
    iprop((A ∗ atPos ER (lCell c) 2 ∅ 0 ∗ St c (recvA (chan C) 2 c) (recvB (chan C) 2 c) 0 ∗ LocB C c 2 ∗ R) ∗ (Base C K ∗ St c (sendA (chan C) 2 c) (sendB (chan C) 2 c) 2 ∗ Owe c (due (chan C) 2 c 2 + O))) ⊢ WPc c (onBufs (k0_part24 (F := F)) c (V2 c)) Q := by
  unfold onBufs
  rw [k0_part24_eq_skeleton]
  unfold k0_part24_skel
  simp only [semSignalWord, semWaitWord, Prog.lift, Prog.bind_op, Prog.bind_ret, Prog.pure_eq_ret, Prog.bind_assoc]
  refine f_send C K c 2 2 O (cond35 c) (fun h => enq2 C c 2 (Fin.ext (show k0_dev27 = 2 by decide)) (off40 c) rfl (off39 c) _ _ _ _) ?_
  refine f_send C K c 2 3 O (cond36 c) (fun h => enq2 C c 3 (Fin.ext (show k0_dev28 = 3 by decide)) (off42 c) rfl (off41 c) _ _ _ _) ?_
  refine f_send C K c 2 4 O (cond37 c) (fun h => enq2 C c 4 (Fin.ext (show k0_dev29 = 4 by decide)) (off44 c) rfl (off43 c) _ _ _ _) ?_
  refine f_send C K c 2 5 O (cond38 c) (fun h => enq2 C c 5 (Fin.ext (show k0_dev30 = 5 by decide)) (off46 c) rfl (off45 c) _ _ _ _) ?_
  refine f_send C K c 2 6 O (cond39 c) (fun h => enq2 C c 6 (Fin.ext (show k0_dev31 = 6 by decide)) (off48 c) rfl (off47 c) _ _ _ _) ?_
  refine f_send C K c 2 7 O (cond40 c) (fun h => enq2 C c 7 (Fin.ext (show k0_dev32 = 7 by decide)) (off50 c) rfl (off49 c) _ _ _ _) ?_
  refine reframe (loc_start' c (chan C) 2 O) ?_
  refine f_local C K c 2 (enq_eq' (rfl) (sl4 _ _ (off34 c)) rfl _ _ _) ?_
  refine reframe loc_in ?_
  refine f_localWait C K c 2 (hO.mono (Nat.zero_le _)) (fun R => wait_eq c rfl rfl _ _ R) ?_
  refine reframe loc_out ?_
  refine f_recv C K c 2 0 hO (rc0 c) (fun _ R => wait_eq c (semS _ 46 0 rfl sem18 (sR 2 0) (val_sR 2 0)) rfl _ _ R) ?_
  exact f_ret c hk

set_option maxHeartbeats 4000000 in
theorem part26_spec {Q : (Σ' (v852 : Vec F S8x2x32x512 .bf16), FVec F S2x32x512 .f32) → sProp 𝕄} {R X : sProp 𝕄} (r : S8x2x32x512.Idx → Elt F .bf16)
    (hk : iprop((Out c r 6 ∗ pt c cc0_scratch6 r ∗ R) ∗ X) ⊢ Q ⟨r, k0_pay91 r⟩) :
    iprop((Out c r 0 ∗ pt c cc0_scratch6 r ∗ R) ∗ X) ⊢ WPc c (onBufs (k0_part26 (F := F)) ) Q := by
  unfold onBufs
  rw [k0_part26_eq_skeleton]
  unfold k0_part26_skel
  simp only [semSignalWord, semWaitWord, Prog.lift, Prog.bind_op, Prog.bind_ret, Prog.pure_eq_ret, Prog.bind_assoc]
  refine f_loadW c get2 (Memref.readAt_unit_zero (Elt F) cc0_scratch6 (by decide) _ _) ?_
  refine f_peek c (fun _ => ?_)
  refine f_fill c (outP 1) (fun y => out_piece r 0 rfl rfl _ _ _ _ y) (out_cover 0 rfl rfl) ?_
  refine f_peek c (fun _ => ?_)
  refine f_fill c (outP 2) (fun y => out_piece r 1 rfl rfl _ _ _ _ y) (out_cover 1 rfl rfl) ?_
  refine f_peek c (fun _ => ?_)
  refine f_fill c (outP 3) (fun y => out_piece r 2 rfl rfl _ _ _ _ y) (out_cover 2 rfl rfl) ?_
  refine f_peek c (fun _ => ?_)
  refine f_fill c (outP 4) (fun y => out_piece r 3 rfl rfl _ _ _ _ y) (out_cover 3 rfl rfl) ?_
  refine f_peek c (fun _ => ?_)
  refine f_fill c (outP 5) (fun y => out_piece r 4 rfl rfl _ _ _ _ y) (out_cover 4 rfl rfl) ?_
  refine f_peek c (fun _ => ?_)
  refine f_fill c (outP 6) (fun y => out_piece r 5 rfl rfl _ _ _ _ y) (out_cover 5 rfl rfl) ?_
  refine f_peek c (fun _ => ?_)
  exact f_ret c hk

set_option maxHeartbeats 4000000 in
theorem part27_spec {Q : BitVec 32 → sProp 𝕄} {R : sProp 𝕄} (r : S8x2x32x512.Idx → Elt F .bf16) (v879 : FVec F S2x32x512 .f32) (hv : v879 = k0_pay91 r)
    (hk : iprop((Out c r 8 ∗ R) ∗ (Base C K ∗ St c (fin3A (chan C) c) (fin3B (chan C) c) 4 ∗ Owe c 0)) ⊢ Q (Scalar.extui (Scalar.cmpi .ne (V2 c) 4#32))) :
    iprop((Out c r 6 ∗ R) ∗ (Base C K ∗ St c (fin3A (chan C) c) (fin3B (chan C) c) 0 ∗ Owe c 0)) ⊢ WPc c (onBufs (k0_part27 (F := F)) c (V2 c) r v879) Q := by
  unfold onBufs
  rw [k0_part27_eq_skeleton]
  unfold k0_part27_skel
  simp only [semSignalWord, semWaitWord, Prog.lift, Prog.bind_op, Prog.bind_ret, Prog.pure_eq_ret, Prog.bind_assoc]
  rw [hv]
  refine f_fill c (outP 7) (fun y => out_piece r 6 rfl rfl _ _ _ _ y) (out_cover 6 rfl rfl) ?_
  refine f_peek c (fun _ => ?_)
  refine f_fill c (outP 8) (fun y => out_piece r 7 rfl rfl _ _ _ _ y) (out_cover 7 rfl rfl) ?_
  refine f_fin C K c 0 (cond49 c) (fun _ R => wait_eq c (semS _ 6 0 rfl sem13 (sS 0 0) (val_sS 0 0)) rfl _ _ R) (fun _ R => wait_eq c (semS _ 22 0 rfl sem15 (sS 1 0) (val_sS 1 0)) rfl _ _ R) (fun _ R => wait_eq c (semS _ 38 0 rfl sem17 (sS 2 0) (val_sS 2 0)) rfl _ _ R) ?_
  refine f_fin C K c 1 (cond50 c) (fun _ R => wait_eq c (semS _ 6 1 rfl sem13 (sS 0 1) (val_sS 0 1)) rfl _ _ R) (fun _ R => wait_eq c (semS _ 22 1 rfl sem15 (sS 1 1) (val_sS 1 1)) rfl _ _ R) (fun _ R => wait_eq c (semS _ 38 1 rfl sem17 (sS 2 1) (val_sS 2 1)) rfl _ _ R) ?_
  refine f_fin C K c 2 (cond51 c) (fun _ R => wait_eq c (semS _ 6 2 rfl sem13 (sS 0 2) (val_sS 0 2)) rfl _ _ R) (fun _ R => wait_eq c (semS _ 22 2 rfl sem15 (sS 1 2) (val_sS 1 2)) rfl _ _ R) (fun _ R => wait_eq c (semS _ 38 2 rfl sem17 (sS 2 2) (val_sS 2 2)) rfl _ _ R) ?_
  refine f_fin C K c 3 (cond52 c) (fun _ R => wait_eq c (semS _ 6 3 rfl sem13 (sS 0 3) (val_sS 0 3)) rfl _ _ R) (fun _ R => wait_eq c (semS _ 22 3 rfl sem15 (sS 1 3) (val_sS 1 3)) rfl _ _ R) (fun _ R => wait_eq c (semS _ 38 3 rfl sem17 (sS 2 3) (val_sS 2 3)) rfl _ _ R) ?_
  exact f_ret c hk

end Cert.KernelIdeal.Run
-- ==== Proof.Phase.lean ====
/-
  What one exchange leaves, regrouped for what follows it.
-/
module

public import proofs.«01_k».proof.Proof.Mid

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (C : Cts F) (c : Dev nD)

theorem fin3 (Φ : Fin 3 → sProp 𝕄) : bigSep Finset.univ Φ = iprop(Φ 0 ∗ Φ 1 ∗ Φ 2) := by
  rw [bs_at (Finset.mem_univ (0 : Fin 3)), bs_at (i := (1 : Fin 3)) (by decide), bs_at (i := (2 : Fin 3)) (by decide),
    show ((Finset.univ.erase (0 : Fin 3)).erase 1).erase 2 = ∅ by decide]
  congr 2
  exact emp_r _

/-- The right to send each piece of an exchange; a slot in every peer to send it to; the positions on the semaphores of what was sent. -/
def Toks (i : Fin 3) : sProp 𝕄 := peers c fun j => iprop((dutyTok ER (sCell c i j) 0 (0 : Dev nD) ∗ reached ER (sCell c i j) 0) ∗ dutyTok ER (rCell j i c) 0 (0 : Dev nD))
def Dst (i : Fin 3) : sProp 𝕄 := bigSep Finset.univ fun p => iprop((chan C i).dstAny p c ∗ reached ER (rCell p i c) 0)
def FPos (i : Fin 3) (n : ℕ) : sProp 𝕄 := peers c fun j => atPos ER (sCell c i j) n ∅ 0
def RPos (i : Fin 3) (n : ℕ) : sProp 𝕄 := peers c fun j => atPos ER (rCell c i j) n ∅ 0

theorem ph_bar : (bigSep Finset.univ fun p => barPay (chan C) c p : sProp 𝕄) = iprop(Dst C c 0 ∗ Dst C c 1 ∗ Dst C c 2) := by
  unfold Dst
  rw [← bs_sep, ← bs_sep]
  exact BI.bigSep_congr fun p _ => fin3 _

theorem ph_send (i : Fin 3) : iprop((bigSep Finset.univ fun j => (chan C i).srcPts c j) ∗ Toks c i ∗ Dst C c i)
    ⊢ iprop(St c (sendA (chan C) i c) (sendB (chan C) i c) 0 ∗ (chan C i).srcPts c c ∗ (chan C i).dstAny c c) := by
  unfold Dst Toks
  rw [peers_split c fun j => (chan C i).srcPts c j, peers_split c fun p => iprop((chan C i).dstAny p c ∗ reached ER (rCell p i c) 0), st_zero]
  have e : iprop((peers c fun j => (chan C i).srcPts c j) ∗ (peers c fun j => iprop((dutyTok ER (sCell c i j) 0 (0 : Dev nD) ∗ reached ER (sCell c i j) 0) ∗ dutyTok ER (rCell j i c) 0 (0 : Dev nD)))
      ∗ (peers c fun p => iprop((chan C i).dstAny p c ∗ reached ER (rCell p i c) 0))) ⊢ peers c (sendB (chan C) i c) := by
    rw [← peers_sep, ← peers_sep]
    refine peers_mono fun j _ => ?_
    unfold sendB
    iintro ⟨H1, ⟨H2, H3⟩, H4⟩
    isplitl [H1]
    · iexact H1
    isplitl [H2]
    · iexact H2
    isplitl [H3] <;> iassumption
  iintro ⟨⟨H1, H2⟩, H3, ⟨H4, H5⟩, H6⟩
  isplitl [H2 H3 H6]
  · iapply e
    isplitl [H2]
    · iexact H2
    isplitl [H3] <;> iassumption
  isplitl [H1] <;> iassumption

theorem ph_recv (i : Fin 3) : iprop(St c (recvA (chan C) i c) (recvB (chan C) i c) 8 ∗ (chan C i).dstPts c c) ⊢ iprop((bigSep Finset.univ fun j => (chan C i).dstPts c j) ∗ RPos c i 1) := by
  unfold RPos
  rw [peers_split c fun j => (chan C i).dstPts c j, st_end]
  have e : peers c (recvA (chan C) i c) = iprop((peers c fun j => (chan C i).dstPts c j) ∗ (peers c fun j => atPos ER (rCell c i j) 1 ∅ 0)) := peers_sep c _ _
  rw [e]
  iintro ⟨⟨H1, H2⟩, H3⟩
  isplitr [H2]
  · isplitl [H3] <;> iassumption
  iexact H2

theorem ph_fin0 : iprop(St c (sendA (chan C) 0 c) (sendB (chan C) 0 c) 8 ∗ St c (sendA (chan C) 1 c) (sendB (chan C) 1 c) 8 ∗ St c (sendA (chan C) 2 c) (sendB (chan C) 2 c) 8
    ∗ (FPos c 0 0 ∗ FPos c 1 0 ∗ FPos c 2 0)) ⊢ St c (fin3A (chan C) c) (fin3B (chan C) c) 0 := by
  unfold FPos
  rw [st_end, st_end, st_end, st_zero, ← peers_sep, ← peers_sep, ← peers_sep, ← peers_sep, ← peers_sep]
  refine peers_mono fun j _ => ?_
  unfold fin3B finB sendA
  iintro ⟨H1, H2, H3, H4, H5, H6⟩
  isplitl [H1 H4]
  · isplitl [H1] <;> iassumption
  isplitl [H2 H5]
  · isplitl [H2] <;> iassumption
  isplitl [H3] <;> iassumption

theorem ph_fin1 : iprop(St c (fin3A (chan C) c) (fin3B (chan C) c) 8 ∗ (chan C 0).srcPts c c ∗ (chan C 1).srcPts c c ∗ (chan C 2).srcPts c c)
    ⊢ iprop((pt c cc0_scratch0 (C.kv c) ∗ pt c cc0_scratch3 (C.rs c) ∗ pt c cc0_scratch5 (C.ag c)) ∗ (FPos c 0 1 ∗ FPos c 1 1 ∗ FPos c 2 1)) := by
  unfold FPos
  rw [pt_src0, pt_src1, pt_src2, peers_split c fun j => (chan C 0).srcPts c j, peers_split c fun j => (chan C 1).srcPts c j, peers_split c fun j => (chan C 2).srcPts c j, st_end]
  have e : peers c (fin3A (chan C) c) = iprop(((peers c fun j => (chan C 0).srcPts c j) ∗ (peers c fun j => atPos ER (sCell c 0 j) 1 ∅ 0))
      ∗ ((peers c fun j => (chan C 1).srcPts c j) ∗ (peers c fun j => atPos ER (sCell c 1 j) 1 ∅ 0)) ∗ ((peers c fun j => (chan C 2).srcPts c j) ∗ (peers c fun j => atPos ER (sCell c 2 j) 1 ∅ 0))) := by
    rw [← peers_sep, ← peers_sep, ← peers_sep, ← peers_sep, ← peers_sep]
    rfl
  rw [e]
  iintro ⟨⟨⟨H1, H2⟩, ⟨H3, H4⟩, H5, H6⟩, H7, H8, H9⟩
  isplitr [H2 H4 H6]
  · isplitl [H1 H7]
    · isplitl [H7] <;> iassumption
    isplitl [H3 H8]
    · isplitl [H8] <;> iassumption
    isplitl [H9] <;> iassumption
  isplitl [H2]
  · iexact H2
  isplitl [H4] <;> iassumption

end Cert.KernelIdeal.Run
-- ==== Proof.Pack.lean ====
/-
  The parts of the body that pack the keys and values.
-/
module

public import proofs.«01_k».proof.Proof.Vals

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (c : Dev nD) (J : Ins F)

theorem f_device {α : Type} {k : Dev nD → ℙ α} {P : sProp 𝕄} {Q : α → sProp 𝕄} (hk : P ⊢ WPc c (k c) Q) : P ⊢ WPc c (.op .deviceId k) Q :=
  BIBase.Entails.trans hk (Entails.of_eq (wp_deviceId 𝒱₀ (c : Thread nD τ) none Set.univ).symm)

/-- A piece of the columns of a device's keys or values. -/
abbrev cols (f : S2x256x2048.Idx → Elt F .bf16) (o : Fin 3 → ℕ) (i : ∀ a, o a + S2x256x256.size a ≤ S2x256x2048.size a) : S2x256x256.Idx → Elt F .bf16 :=
  fun x => f ((Rect.unit (s := S2x256x2048) o S2x256x256.size i).emb x)

/-- The first n pieces of the packed keys and values. -/
def kvP (n : ℕ) (i : S8x2x2x256x256.Idx) : Prop := 2 * (i 0).val + (i 1).val < n

theorem kv_cover (j : Fin 8) (t : Fin 2) {n : ℕ} {o' : Fin 5 → ℕ} (ho' : o' = ![j.val, t.val, 0, 0, 0]) (hn : n = 2 * j.val + t.val) (x : S8x2x2x256x256.Idx) (h : kvP (n + 1) x) :
    kvP n x ∨ ∀ a, o' a ≤ x a ∧ (x a : ℕ) < o' a + S1x1x2x256x256.size a := by
  subst ho' hn
  unfold kvP at h ⊢
  have h1 : (x 1).val < 2 := (x 1).isLt
  have h2 : (x 2).val < 2 := (x 2).isLt
  have h3 : (x 3).val < 256 := (x 3).isLt
  have h4 : (x 4).val < 256 := (x 4).isLt
  have ht := t.isLt
  by_cases e : 2 * (x 0).val + (x 1).val < 2 * j.val + t.val
  · exact .inl e
  · refine .inr fun a => ?_
    match a with
    | 0 => exact ⟨(show j.val ≤ (x 0).val by omega), (show (x 0).val < j.val + 1 by omega)⟩
    | 1 => exact ⟨(show t.val ≤ (x 1).val by omega), (show (x 1).val < t.val + 1 by omega)⟩
    | 2 => exact ⟨Nat.zero_le _, (show (x 2).val < 0 + 2 by omega)⟩
    | 3 => exact ⟨Nat.zero_le _, (show (x 3).val < 0 + 256 by omega)⟩
    | 4 => exact ⟨Nat.zero_le _, (show (x 4).val < 0 + 256 by omega)⟩

/-- The packed keys and values so far, and where they come from. -/
abbrev Pack (n : ℕ) : sProp 𝕄 := Fill c (Memref.whole cc0_scratch0) (kvOf J) (kvP n)
abbrev Ks : sProp 𝕄 := pt c cc0_stg2_0 J.k
abbrev Vs : sProp 𝕄 := pt c cc0_stg3_0 J.v

set_option maxHeartbeats 4000000 in
theorem part1_spec  {Q : (Σ' (d0 : Dev nD) (v2 : BitVec 32), FVec F S2x256x256 .bf16) → sProp 𝕄} {R X : sProp 𝕄}
    (hk : iprop((Pack c J 3 ∗ Ks c J ∗ Vs c J ∗ R) ∗ X) ⊢ Q ⟨c, V2 c, k0_pay4 (cols J.v ![0, 0, 256] inb_S2x256x2048_S2x256x256_0_0_256)⟩) :
    iprop((Pack c J 0 ∗ Ks c J ∗ Vs c J ∗ R) ∗ X) ⊢ WPc c (onBufs (k0_part1 (F := F)) ) Q := by
  unfold onBufs
  rw [k0_part1_eq_skeleton]
  unfold k0_part1_skel
  simp only [semSignalWord, semWaitWord, Prog.lift, Prog.bind_op, Prog.bind_ret, Prog.pure_eq_ret, Prog.bind_assoc]
  refine f_device c ?_
  refine f_load c (m := win0_2.stage 0) get2 ?_
  refine f_peek c (fun _ => ?_)
  refine f_fill c (kvP 1) (fun y => kv_piece J 0 0 rfl rfl _ _ _ rfl _ rfl _ _ y) (kv_cover 0 0 rfl rfl) ?_
  refine f_load c (m := win0_3.stage 0) get3 ?_
  refine f_peek c (fun _ => ?_)
  refine f_fill c (kvP 2) (fun y => kv_piece J 1 0 rfl rfl _ _ _ rfl _ rfl _ _ y) (kv_cover 0 1 rfl rfl) ?_
  refine f_load c (m := win0_2.stage 0) get2 ?_
  refine f_peek c (fun _ => ?_)
  refine f_fill c (kvP 3) (fun y => kv_piece J 0 1 rfl rfl _ _ _ rfl _ rfl _ _ y) (kv_cover 1 0 rfl rfl) ?_
  refine f_load c (m := win0_3.stage 0) get3 ?_
  refine f_peek c (fun _ => ?_)
  exact f_ret c hk

set_option maxHeartbeats 4000000 in
theorem part2_spec (v19 : FVec F S2x256x256 .bf16) (hv : v19 = k0_pay4 (cols J.v ![0, 0, 256] inb_S2x256x2048_S2x256x256_0_0_256)) {Q : PUnit.{1} → sProp 𝕄} {R X : sProp 𝕄}
    (hk : iprop((Pack c J 8 ∗ Ks c J ∗ Vs c J ∗ R) ∗ X) ⊢ Q ⟨⟩) :
    iprop((Pack c J 3 ∗ Ks c J ∗ Vs c J ∗ R) ∗ X) ⊢ WPc c (onBufs (k0_part2 (F := F)) v19) Q := by
  unfold onBufs
  rw [k0_part2_eq_skeleton]
  unfold k0_part2_skel
  simp only [semSignalWord, semWaitWord, Prog.lift, Prog.bind_op, Prog.bind_ret, Prog.pure_eq_ret, Prog.bind_assoc]
  rw [hv]
  refine f_fill c (kvP 4) (fun y => kv_piece J 1 1 rfl rfl _ _ _ rfl _ rfl _ _ y) (kv_cover 1 1 rfl rfl) ?_
  refine f_load c (m := win0_2.stage 0) get2 ?_
  refine f_peek c (fun _ => ?_)
  refine f_fill c (kvP 5) (fun y => kv_piece J 0 2 rfl rfl _ _ _ rfl _ rfl _ _ y) (kv_cover 2 0 rfl rfl) ?_
  refine f_load c (m := win0_3.stage 0) get3 ?_
  refine f_peek c (fun _ => ?_)
  refine f_fill c (kvP 6) (fun y => kv_piece J 1 2 rfl rfl _ _ _ rfl _ rfl _ _ y) (kv_cover 2 1 rfl rfl) ?_
  refine f_load c (m := win0_2.stage 0) get2 ?_
  refine f_peek c (fun _ => ?_)
  refine f_fill c (kvP 7) (fun y => kv_piece J 0 3 rfl rfl _ _ _ rfl _ rfl _ _ y) (kv_cover 3 0 rfl rfl) ?_
  refine f_load c (m := win0_3.stage 0) get3 ?_
  refine f_peek c (fun _ => ?_)
  refine f_fill c (kvP 8) (fun y => kv_piece J 1 3 rfl rfl _ _ _ rfl _ rfl _ _ y) (kv_cover 3 1 rfl rfl) ?_
  exact f_ret c hk

set_option maxHeartbeats 4000000 in
theorem part3_spec  {Q : (FVec F S2x256x256 .bf16) → sProp 𝕄} {R X : sProp 𝕄}
    (hk : iprop((Pack c J 12 ∗ Ks c J ∗ Vs c J ∗ R) ∗ X) ⊢ Q (k0_pay14 (cols J.k ![0, 0, 1536] inb_S2x256x2048_S2x256x256_0_0_1536))) :
    iprop((Pack c J 8 ∗ Ks c J ∗ Vs c J ∗ R) ∗ X) ⊢ WPc c (onBufs (k0_part3 (F := F)) ) Q := by
  unfold onBufs
  rw [k0_part3_eq_skeleton]
  unfold k0_part3_skel
  simp only [semSignalWord, semWaitWord, Prog.lift, Prog.bind_op, Prog.bind_ret, Prog.pure_eq_ret, Prog.bind_assoc]
  refine f_load c (m := win0_2.stage 0) get2 ?_
  refine f_peek c (fun _ => ?_)
  refine f_fill c (kvP 9) (fun y => kv_piece J 0 4 rfl rfl _ _ _ rfl _ rfl _ _ y) (kv_cover 4 0 rfl rfl) ?_
  refine f_load c (m := win0_3.stage 0) get3 ?_
  refine f_peek c (fun _ => ?_)
  refine f_fill c (kvP 10) (fun y => kv_piece J 1 4 rfl rfl _ _ _ rfl _ rfl _ _ y) (kv_cover 4 1 rfl rfl) ?_
  refine f_load c (m := win0_2.stage 0) get2 ?_
  refine f_peek c (fun _ => ?_)
  refine f_fill c (kvP 11) (fun y => kv_piece J 0 5 rfl rfl _ _ _ rfl _ rfl _ _ y) (kv_cover 5 0 rfl rfl) ?_
  refine f_load c (m := win0_3.stage 0) get3 ?_
  refine f_peek c (fun _ => ?_)
  refine f_fill c (kvP 12) (fun y => kv_piece J 1 5 rfl rfl _ _ _ rfl _ rfl _ _ y) (kv_cover 5 1 rfl rfl) ?_
  refine f_load c (m := win0_2.stage 0) get2 ?_
  exact f_ret c hk

set_option maxHeartbeats 4000000 in
theorem part4_spec (v64 : FVec F S2x256x256 .bf16) (hv : v64 = k0_pay14 (cols J.k ![0, 0, 1536] inb_S2x256x2048_S2x256x256_0_0_1536)) (C : Cts F) (K : GSem nD τ sig → ℕ) (O : CellTallies nD τ sig Unit) {Q : (Σ' (v83 : Sems sig S_), BitVec 32) → sProp 𝕄} {R : sProp 𝕄}
    (hk : iprop((Pack c J 16 ∗ Ks c J ∗ Vs c J ∗ R) ∗ (Base C K ∗ (Sig (chan C) c 1 ∗ Owe c (dueB 1 + O)))) ⊢ Q ⟨SemArray.scalar (sig.barrier 0 rfl), 1#32⟩) :
    iprop((Pack c J 12 ∗ Ks c J ∗ Vs c J ∗ R) ∗ (Base C K ∗ (Sig (chan C) c 0 ∗ Owe c (dueB 0 + O)))) ⊢ WPc c (onBufs (k0_part4 (F := F)) v64) Q := by
  unfold onBufs
  rw [k0_part4_eq_skeleton]
  unfold k0_part4_skel
  simp only [semSignalWord, semWaitWord, Prog.lift, Prog.bind_op, Prog.bind_ret, Prog.pure_eq_ret, Prog.bind_assoc]
  rw [hv]
  refine f_peek c (fun _ => ?_)
  refine f_fill c (kvP 13) (fun y => kv_piece J 0 6 rfl rfl _ _ _ rfl _ rfl _ _ y) (kv_cover 6 0 rfl rfl) ?_
  refine f_load c (m := win0_3.stage 0) get3 ?_
  refine f_peek c (fun _ => ?_)
  refine f_fill c (kvP 14) (fun y => kv_piece J 1 6 rfl rfl _ _ _ rfl _ rfl _ _ y) (kv_cover 6 1 rfl rfl) ?_
  refine f_load c (m := win0_2.stage 0) get2 ?_
  refine f_peek c (fun _ => ?_)
  refine f_fill c (kvP 15) (fun y => kv_piece J 0 7 rfl rfl _ _ _ rfl _ rfl _ _ y) (kv_cover 7 0 rfl rfl) ?_
  refine f_load c (m := win0_3.stage 0) get3 ?_
  refine f_peek c (fun _ => ?_)
  refine f_fill c (kvP 16) (fun y => kv_piece J 1 7 rfl rfl _ _ _ rfl _ rfl _ _ y) (kv_cover 7 1 rfl rfl) ?_
  refine f_signal C K c 0 _ (by decide) (by decide) (by decide) ?_
  exact f_ret c hk

end Cert.KernelIdeal.Run
-- ==== Proof.Regroup.lean ====
/-
  What the body holds between its parts, regrouped; and its parts that only compute.
-/
module

public import proofs.«01_k».proof.Proof.Phase
public import proofs.«01_k».proof.Proof.Pack

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (c : Dev nD)
theorem pack_done (I : Dev nD → Ins F) : (Pack c (I c) 16 : sProp 𝕄) ⊢ bigSep Finset.univ fun j => (chan (cts I) 0).srcPts c j := by
  rw [← pt_src0]
  refine fill_all c cc0_scratch0 (kvOf (I c)) (kvP 16) fun x => ?_
  have h0 : ((x : S8x2x2x256x256.Idx) 0).val < 8 := (x 0).isLt
  have h1 : ((x : S8x2x2x256x256.Idx) 1).val < 2 := (x 1).isLt
  show 2 * ((x : S8x2x2x256x256.Idx) 0).val + ((x : S8x2x2x256x256.Idx) 1).val < 16
  omega
theorem rs_done (I : Dev nD → Ins F) : (Rs c (accAt I c) 8 : sProp 𝕄) ⊢ bigSep Finset.univ fun j => (chan (cts I) 1).srcPts c j := by
  rw [← pt_src1]
  exact fill_all c cc0_scratch3 (rsOf (accAt I c)) (rsP 8) fun x => (x 0).isLt
theorem ag_done (I : Dev nD → Ins F) : (Ag c (agOf (rsAt I c)) True : sProp 𝕄) ⊢ bigSep Finset.univ fun j => (chan (cts I) 2).srcPts c j := by
  rw [← pt_src2]
  exact fill_all c cc0_scratch5 (agOf (rsAt I c)) (fun _ => True) fun _ => trivial
theorem out_done (I : Dev nD → Ins F) : (Out c ((cts I).agR c) 8 : sProp 𝕄) ⊢ pt c cc0_stg5_0 (outAt I c) := by
  refine fill_all c cc0_stg5_0 (outAt I c) (outP 8) fun x => ?_
  have h1 : ((x : S2x256x512.Idx) 1).val < 256 := (x 1).isLt
  show ((x : S2x256x512.Idx) 1).val < 32 * 8
  omega
theorem recv_done0 (I : Dev nD → Ins F) : iprop(St c (recvA (chan (cts I)) 0 c) (recvB (chan (cts I)) 0 c) 8 ∗ (chan (cts I) 0).dstPts c c) ⊢ iprop(pt c cc0_scratch1 ((cts I).kvR c) ∗ RPos c 0 1) := by
  rw [pt_dst0]; exact ph_recv (cts I) c 0
theorem recv_done1 (I : Dev nD → Ins F) : iprop(St c (recvA (chan (cts I)) 1 c) (recvB (chan (cts I)) 1 c) 8 ∗ (chan (cts I) 1).dstPts c c) ⊢ iprop(pt c cc0_scratch4 ((cts I).rsR c) ∗ RPos c 1 1) := by
  rw [pt_dst1]; exact ph_recv (cts I) c 1
theorem recv_done2 (I : Dev nD → Ins F) : iprop(St c (recvA (chan (cts I)) 2 c) (recvB (chan (cts I)) 2 c) 8 ∗ (chan (cts I) 2).dstPts c c) ⊢ iprop(pt c cc0_scratch6 ((cts I).agR c) ∗ RPos c 2 1) := by
  rw [pt_dst2]; exact ph_recv (cts I) c 2

theorem pm_a  {BC BP PK R X mk mv : sProp 𝕄} : iprop((PK ∗ mk ∗ mv ∗ (BC ∗ BP ∗ R)) ∗ X) ⊢ iprop(((PK ∗ mk ∗ mv ∗ R) ∗ BC ∗ BP) ∗ X) := by
  iintro ⟨⟨HPK, Hmk, Hmv, ⟨HBC, HBP, HR⟩⟩, HX⟩
  isplitl [HPK Hmk Hmv HR HBC HBP]
  · isplitl [HPK Hmk Hmv HR]
    · isplitl [HPK]
      · iexact HPK
      isplitl [Hmk]
      · iexact Hmk
      isplitl [Hmv]
      · iexact Hmv
      iexact HR
    isplitl [HBC]
    · iexact HBC
    iexact HBP
  iexact HX

theorem pm_bar (I : Dev nD → Ins F) (K : GSem nD τ sig → ℕ) (O : CellTallies nD τ sig Unit)  : iprop((Pack c (I c) 16 ∗ Ks c (I c) ∗ Vs c (I c) ∗ ((Toks c 0 ∗ (pt c cc0_stg0_0 (I c).x ∗ pt c cc0_stg1_0 (I c).wq) ∗ atPos ER (lCell c) 0 ∅ 0 ∗ reached ER (lCell c) 0 ∗ dutyTok ER (lCell c) 0 (0 : Dev nD) ∗ St c (recvA (chan (cts I)) 0 c) (recvB (chan (cts I)) 0 c) 0) ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0))) ∗ (Base (cts I) K ∗ ((bigSep Finset.univ fun p => barPay (chan (cts I)) c p) ∗ atPos ER (bCell c) 1 ∅ 0 ∗ Owe c (due (chan (cts I)) 0 c 0 + O)))) ⊢ iprop((Ks c (I c) ∗ Vs c (I c) ∗ atPos ER (bCell c) 1 ∅ 0 ∗ Dst (cts I) c 1 ∗ Dst (cts I) c 2 ∗ (pt c cc0_stg0_0 (I c).x ∗ pt c cc0_stg1_0 (I c).wq) ∗ atPos ER (lCell c) 0 ∅ 0 ∗ reached ER (lCell c) 0 ∗ dutyTok ER (lCell c) 0 (0 : Dev nD) ∗ St c (recvA (chan (cts I)) 0 c) (recvB (chan (cts I)) 0 c) 0 ∗ (chan (cts I) 0).srcPts c c ∗ (chan (cts I) 0).dstAny c c ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0)) ∗ (Base (cts I) K ∗ St c (sendA (chan (cts I)) 0 c) (sendB (chan (cts I)) 0 c) 0 ∗ Owe c (due (chan (cts I)) 0 c 0 + O))) := by
  iintro ⟨⟨HPK, Hmk, Hmv, ⟨⟨HT0, ⟨Hmx, Hmq⟩, Hla0, Hlr0, HL0, HVB0⟩, ⟨Hmo, HA0, HQ0, HT1, HL1, HVB1⟩, ⟨HG0, HT2, HL2, HVB2, HU0⟩, ⟨HS0, HS1, HS2⟩⟩⟩, ⟨HBs, ⟨HBARS, HBP1, HOW0⟩⟩⟩
  ihave ⟨Hsrc0⟩ := pack_done c I $$ [HPK]
  · iexact HPK
  ihave ⟨HD0, HD1, HD2⟩ := (Entails.of_eq (ph_bar (cts I) c)) $$ [HBARS]
  · iexact HBARS
  ihave ⟨HSB0, Hsc0, Hdc0⟩ := ph_send (cts I) c 0 $$ [Hsrc0 HT0 HD0]
  · isplitl [Hsrc0]
    · iexact Hsrc0
    isplitl [HT0]
    · iexact HT0
    iexact HD0
  isplitl [Hmk Hmv HBP1 HD1 HD2 Hmx Hmq Hla0 Hlr0 HL0 HVB0 Hsc0 Hdc0 Hmo HA0 HQ0 HT1 HL1 HVB1 HG0 HT2 HL2 HVB2 HU0 HS0 HS1 HS2]
  · isplitl [Hmk]
    · iexact Hmk
    isplitl [Hmv]
    · iexact Hmv
    isplitl [HBP1]
    · iexact HBP1
    isplitl [HD1]
    · iexact HD1
    isplitl [HD2]
    · iexact HD2
    isplitl [Hmx Hmq]
    · isplitl [Hmx]
      · iexact Hmx
      iexact Hmq
    isplitl [Hla0]
    · iexact Hla0
    isplitl [Hlr0]
    · iexact Hlr0
    isplitl [HL0]
    · iexact HL0
    isplitl [HVB0]
    · iexact HVB0
    isplitl [Hsc0]
    · iexact Hsc0
    isplitl [Hdc0]
    · iexact Hdc0
    isplitl [Hmo HA0 HQ0 HT1 HL1 HVB1]
    · isplitl [Hmo]
      · iexact Hmo
      isplitl [HA0]
      · iexact HA0
      isplitl [HQ0]
      · iexact HQ0
      isplitl [HT1]
      · iexact HT1
      isplitl [HL1]
      · iexact HL1
      iexact HVB1
    isplitl [HG0 HT2 HL2 HVB2 HU0]
    · isplitl [HG0]
      · iexact HG0
      isplitl [HT2]
      · iexact HT2
      isplitl [HL2]
      · iexact HL2
      isplitl [HVB2]
      · iexact HVB2
      iexact HU0
    isplitl [HS0]
    · iexact HS0
    isplitl [HS1]
    · iexact HS1
    iexact HS2
  isplitl [HBs]
  · iexact HBs
  isplitl [HSB0]
  · iexact HSB0
  iexact HOW0

theorem pm_c (I : Dev nD → Ins F) (K : GSem nD τ sig → ℕ) (O : CellTallies nD τ sig Unit)  : iprop((Ks c (I c) ∗ Vs c (I c) ∗ atPos ER (bCell c) 1 ∅ 0 ∗ Dst (cts I) c 1 ∗ Dst (cts I) c 2 ∗ (pt c cc0_stg0_0 (I c).x ∗ pt c cc0_stg1_0 (I c).wq) ∗ atPos ER (lCell c) 0 ∅ 0 ∗ reached ER (lCell c) 0 ∗ dutyTok ER (lCell c) 0 (0 : Dev nD) ∗ St c (recvA (chan (cts I)) 0 c) (recvB (chan (cts I)) 0 c) 0 ∗ (chan (cts I) 0).srcPts c c ∗ (chan (cts I) 0).dstAny c c ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0)) ∗ (Base (cts I) K ∗ St c (sendA (chan (cts I)) 0 c) (sendB (chan (cts I)) 0 c) 8 ∗ Owe c (due (chan (cts I)) 0 c 8 + O))) ⊢ iprop(((pt c cc0_stg0_0 (I c).x ∗ pt c cc0_stg1_0 (I c).wq) ∗ atPos ER (lCell c) 0 ∅ 0 ∗ St c (recvA (chan (cts I)) 0 c) (recvB (chan (cts I)) 0 c) 0 ∗ Owe c O ∗ (St c (sendA (chan (cts I)) 0 c) (sendB (chan (cts I)) 0 c) 8 ∗ Ks c (I c) ∗ Vs c (I c) ∗ atPos ER (bCell c) 1 ∅ 0 ∗ Dst (cts I) c 1 ∗ Dst (cts I) c 2 ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0))) ∗ (Base (cts I) K ∗ ((chan (cts I) 0).srcPts c c ∗ (chan (cts I) 0).dstAny c c ∗ dutyTok ER (lCell c) 0 (0 : Dev nD) ∗ reached ER (lCell c) 0))) := by
  iintro ⟨⟨Hmk, Hmv, HBP1, HD1, HD2, ⟨Hmx, Hmq⟩, Hla0, Hlr0, HL0, HVB0, Hsc0, Hdc0, ⟨Hmo, HA0, HQ0, HT1, HL1, HVB1⟩, ⟨HG0, HT2, HL2, HVB2, HU0⟩, ⟨HS0, HS1, HS2⟩⟩, ⟨HBs, HSE0, HOE0⟩⟩
  ihave HO_ := (Entails.of_eq (congrArg (Owe c) (due_end' (chan (cts I)) 0 c O))) $$ [HOE0]
  · iexact HOE0
  isplitl [Hmx Hmq Hla0 HVB0 HO_ HSE0 Hmk Hmv HBP1 HD1 HD2 Hmo HA0 HQ0 HT1 HL1 HVB1 HG0 HT2 HL2 HVB2 HU0 HS0 HS1 HS2]
  · isplitl [Hmx Hmq]
    · isplitl [Hmx]
      · iexact Hmx
      iexact Hmq
    isplitl [Hla0]
    · iexact Hla0
    isplitl [HVB0]
    · iexact HVB0
    isplitl [HO_]
    · iexact HO_
    isplitl [HSE0]
    · iexact HSE0
    isplitl [Hmk]
    · iexact Hmk
    isplitl [Hmv]
    · iexact Hmv
    isplitl [HBP1]
    · iexact HBP1
    isplitl [HD1]
    · iexact HD1
    isplitl [HD2]
    · iexact HD2
    isplitl [Hmo HA0 HQ0 HT1 HL1 HVB1]
    · isplitl [Hmo]
      · iexact Hmo
      isplitl [HA0]
      · iexact HA0
      isplitl [HQ0]
      · iexact HQ0
      isplitl [HT1]
      · iexact HT1
      isplitl [HL1]
      · iexact HL1
      iexact HVB1
    isplitl [HG0 HT2 HL2 HVB2 HU0]
    · isplitl [HG0]
      · iexact HG0
      isplitl [HT2]
      · iexact HT2
      isplitl [HL2]
      · iexact HL2
      isplitl [HVB2]
      · iexact HVB2
      iexact HU0
    isplitl [HS0]
    · iexact HS0
    isplitl [HS1]
    · iexact HS1
    iexact HS2
  isplitl [HBs]
  · iexact HBs
  isplitl [Hsc0]
  · iexact Hsc0
  isplitl [Hdc0]
  · iexact Hdc0
  isplitl [HL0]
  · iexact HL0
  iexact Hlr0

theorem pm_d (I : Dev nD → Ins F) (K : GSem nD τ sig → ℕ) (O : CellTallies nD τ sig Unit)  : iprop(((pt c cc0_stg0_0 (I c).x ∗ pt c cc0_stg1_0 (I c).wq) ∗ (chan (cts I) 0).dstPts c c ∗ (chan (cts I) 0).srcPts c c ∗ atPos ER (lCell c) 1 ∅ 0 ∗ reached ER (lCell c) 1 ∗ (St c (sendA (chan (cts I)) 0 c) (sendB (chan (cts I)) 0 c) 8 ∗ Ks c (I c) ∗ Vs c (I c) ∗ atPos ER (bCell c) 1 ∅ 0 ∗ Dst (cts I) c 1 ∗ Dst (cts I) c 2 ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0))) ∗ (Base (cts I) K ∗ St c (recvA (chan (cts I)) 0 c) (recvB (chan (cts I)) 0 c) 8 ∗ Owe c O)) ⊢ iprop((pt c cc0_scratch1 ((cts I).kvR c) ∗ pt c cc0_stg4_0 (I c).wo ∗ (Acc c (I c) (kvAt I c) 0 ∗ Rs c (accAt I c) 0 ∗ Toks c 1 ∗ dutyTok ER (lCell c) 1 (0 : Dev nD) ∗ St c (recvA (chan (cts I)) 1 c) (recvB (chan (cts I)) 1 c) 0 ∗ (pt c cc0_stg0_0 (I c).x ∗ pt c cc0_stg1_0 (I c).wq) ∗ (chan (cts I) 0).srcPts c c ∗ atPos ER (lCell c) 1 ∅ 0 ∗ reached ER (lCell c) 1 ∗ St c (sendA (chan (cts I)) 0 c) (sendB (chan (cts I)) 0 c) 8 ∗ Ks c (I c) ∗ Vs c (I c) ∗ atPos ER (bCell c) 1 ∅ 0 ∗ Dst (cts I) c 1 ∗ Dst (cts I) c 2 ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0) ∗ RPos c 0 1)) ∗ (Base (cts I) K ∗ Owe c O)) := by
  iintro ⟨⟨⟨Hmx, Hmq⟩, Hdp0, Hsc0, Hla1, Hlr1, ⟨HSE0, Hmk, Hmv, HBP1, HD1, HD2, ⟨Hmo, HA0, HQ0, HT1, HL1, HVB1⟩, ⟨HG0, HT2, HL2, HVB2, HU0⟩, ⟨HS0, HS1, HS2⟩⟩⟩, ⟨HBs, HVE0, HO_⟩⟩
  ihave ⟨Hp1, HR0⟩ := recv_done0 c I $$ [HVE0 Hdp0]
  · isplitl [HVE0]
    · iexact HVE0
    iexact Hdp0
  isplitl [Hp1 Hmo HA0 HQ0 HT1 HL1 HVB1 Hmx Hmq Hsc0 Hla1 Hlr1 HSE0 Hmk Hmv HBP1 HD1 HD2 HG0 HT2 HL2 HVB2 HU0 HS0 HS1 HS2 HR0]
  · isplitl [Hp1]
    · iexact Hp1
    isplitl [Hmo]
    · iexact Hmo
    isplitl [HA0]
    · iexact HA0
    isplitl [HQ0]
    · iexact HQ0
    isplitl [HT1]
    · iexact HT1
    isplitl [HL1]
    · iexact HL1
    isplitl [HVB1]
    · iexact HVB1
    isplitl [Hmx Hmq]
    · isplitl [Hmx]
      · iexact Hmx
      iexact Hmq
    isplitl [Hsc0]
    · iexact Hsc0
    isplitl [Hla1]
    · iexact Hla1
    isplitl [Hlr1]
    · iexact Hlr1
    isplitl [HSE0]
    · iexact HSE0
    isplitl [Hmk]
    · iexact Hmk
    isplitl [Hmv]
    · iexact Hmv
    isplitl [HBP1]
    · iexact HBP1
    isplitl [HD1]
    · iexact HD1
    isplitl [HD2]
    · iexact HD2
    isplitl [HG0 HT2 HL2 HVB2 HU0]
    · isplitl [HG0]
      · iexact HG0
      isplitl [HT2]
      · iexact HT2
      isplitl [HL2]
      · iexact HL2
      isplitl [HVB2]
      · iexact HVB2
      iexact HU0
    isplitl [HS0 HS1 HS2]
    · isplitl [HS0]
      · iexact HS0
      isplitl [HS1]
      · iexact HS1
      iexact HS2
    iexact HR0
  isplitl [HBs]
  · iexact HBs
  iexact HO_

theorem pm_e  {A B P R W X : sProp 𝕄} : iprop((P ∗ W ∗ (A ∗ B ∗ R)) ∗ X) ⊢ iprop((A ∗ B ∗ P ∗ W ∗ R) ∗ X) := by
  iintro ⟨⟨HP, HW, ⟨HA, HB, HR⟩⟩, HX⟩
  isplitl [HA HB HP HW HR]
  · isplitl [HA]
    · iexact HA
    isplitl [HB]
    · iexact HB
    isplitl [HP]
    · iexact HP
    isplitl [HW]
    · iexact HW
    iexact HR
  iexact HX

theorem pm_f (I : Dev nD → Ins F) (K : GSem nD τ sig → ℕ) (O : CellTallies nD τ sig Unit)  : iprop((Rs c (accAt I c) 8 ∗ pt c cc0_scratch2 (accAt I c) ∗ pt c cc0_scratch1 ((cts I).kvR c) ∗ pt c cc0_stg4_0 (I c).wo ∗ (Toks c 1 ∗ dutyTok ER (lCell c) 1 (0 : Dev nD) ∗ St c (recvA (chan (cts I)) 1 c) (recvB (chan (cts I)) 1 c) 0 ∗ (pt c cc0_stg0_0 (I c).x ∗ pt c cc0_stg1_0 (I c).wq) ∗ (chan (cts I) 0).srcPts c c ∗ atPos ER (lCell c) 1 ∅ 0 ∗ reached ER (lCell c) 1 ∗ St c (sendA (chan (cts I)) 0 c) (sendB (chan (cts I)) 0 c) 8 ∗ Ks c (I c) ∗ Vs c (I c) ∗ atPos ER (bCell c) 1 ∅ 0 ∗ Dst (cts I) c 1 ∗ Dst (cts I) c 2 ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0) ∗ RPos c 0 1)) ∗ (Base (cts I) K ∗ Owe c (due (chan (cts I)) 1 c 0 + O))) ⊢ iprop((pt c cc0_scratch1 ((cts I).kvR c) ∗ atPos ER (lCell c) 1 ∅ 0 ∗ St c (recvA (chan (cts I)) 1 c) (recvB (chan (cts I)) 1 c) 0 ∗ ((chan (cts I) 1).srcPts c c ∗ (chan (cts I) 1).dstAny c c ∗ dutyTok ER (lCell c) 1 (0 : Dev nD) ∗ reached ER (lCell c) 1) ∗ (pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ Dst (cts I) c 2 ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0) ∗ RPos c 0 1)) ∗ (Base (cts I) K ∗ St c (sendA (chan (cts I)) 1 c) (sendB (chan (cts I)) 1 c) 0 ∗ Owe c (due (chan (cts I)) 1 c 0 + O))) := by
  iintro ⟨⟨HQ8, Hp2, Hp1, Hmo, ⟨HT1, HL1, HVB1, ⟨Hmx, Hmq⟩, Hsc0, Hla1, Hlr1, HSE0, Hmk, Hmv, HBP1, HD1, HD2, ⟨HG0, HT2, HL2, HVB2, HU0⟩, ⟨HS0, HS1, HS2⟩, HR0⟩⟩, ⟨HBs, HOW1⟩⟩
  ihave ⟨Hsrc1⟩ := rs_done c I $$ [HQ8]
  · iexact HQ8
  ihave ⟨HSB1, Hsc1, Hdc1⟩ := ph_send (cts I) c 1 $$ [Hsrc1 HT1 HD1]
  · isplitl [Hsrc1]
    · iexact Hsrc1
    isplitl [HT1]
    · iexact HT1
    iexact HD1
  isplitl [Hp1 Hla1 HVB1 Hsc1 Hdc1 HL1 Hlr1 Hp2 Hmo Hmx Hmq Hsc0 HSE0 Hmk Hmv HBP1 HD2 HG0 HT2 HL2 HVB2 HU0 HS0 HS1 HS2 HR0]
  · isplitl [Hp1]
    · iexact Hp1
    isplitl [Hla1]
    · iexact Hla1
    isplitl [HVB1]
    · iexact HVB1
    isplitl [Hsc1 Hdc1 HL1 Hlr1]
    · isplitl [Hsc1]
      · iexact Hsc1
      isplitl [Hdc1]
      · iexact Hdc1
      isplitl [HL1]
      · iexact HL1
      iexact Hlr1
    isplitl [Hp2]
    · iexact Hp2
    isplitl [Hmo]
    · iexact Hmo
    isplitl [Hmx Hmq]
    · isplitl [Hmx]
      · iexact Hmx
      iexact Hmq
    isplitl [Hsc0]
    · iexact Hsc0
    isplitl [HSE0]
    · iexact HSE0
    isplitl [Hmk]
    · iexact Hmk
    isplitl [Hmv]
    · iexact Hmv
    isplitl [HBP1]
    · iexact HBP1
    isplitl [HD2]
    · iexact HD2
    isplitl [HG0 HT2 HL2 HVB2 HU0]
    · isplitl [HG0]
      · iexact HG0
      isplitl [HT2]
      · iexact HT2
      isplitl [HL2]
      · iexact HL2
      isplitl [HVB2]
      · iexact HVB2
      iexact HU0
    isplitl [HS0 HS1 HS2]
    · isplitl [HS0]
      · iexact HS0
      isplitl [HS1]
      · iexact HS1
      iexact HS2
    iexact HR0
  isplitl [HBs]
  · iexact HBs
  isplitl [HSB1]
  · iexact HSB1
  iexact HOW1

theorem pm_g (I : Dev nD → Ins F) (K : GSem nD τ sig → ℕ) (O : CellTallies nD τ sig Unit)  : iprop((pt c cc0_scratch1 ((cts I).kvR c) ∗ (chan (cts I) 1).dstPts c c ∗ (chan (cts I) 1).srcPts c c ∗ atPos ER (lCell c) 2 ∅ 0 ∗ reached ER (lCell c) 2 ∗ St c (sendA (chan (cts I)) 1 c) (sendB (chan (cts I)) 1 c) 8 ∗ (pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ Dst (cts I) c 2 ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0) ∗ RPos c 0 1)) ∗ (Base (cts I) K ∗ St c (recvA (chan (cts I)) 1 c) (recvB (chan (cts I)) 1 c) 8 ∗ Owe c O)) ⊢ iprop((pt c cc0_scratch4 ((cts I).rsR c) ∗ (Ag c (agOf (rsAt I c)) False ∗ Out c ((cts I).agR c) 0 ∗ Toks c 2 ∗ dutyTok ER (lCell c) 2 (0 : Dev nD) ∗ St c (recvA (chan (cts I)) 2 c) (recvB (chan (cts I)) 2 c) 0 ∗ pt c cc0_scratch1 ((cts I).kvR c) ∗ (chan (cts I) 1).srcPts c c ∗ atPos ER (lCell c) 2 ∅ 0 ∗ reached ER (lCell c) 2 ∗ St c (sendA (chan (cts I)) 1 c) (sendB (chan (cts I)) 1 c) 8 ∗ pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ Dst (cts I) c 2 ∗ (FPos c 0 0 ∗ FPos c 1 0 ∗ FPos c 2 0) ∗ RPos c 0 1 ∗ RPos c 1 1)) ∗ (Base (cts I) K ∗ Owe c O)) := by
  iintro ⟨⟨Hp1, Hdp1, Hsc1, Hla2, Hlr2, HSE1, ⟨Hp2, Hmo, ⟨Hmx, Hmq⟩, Hsc0, HSE0, Hmk, Hmv, HBP1, HD2, ⟨HG0, HT2, HL2, HVB2, HU0⟩, ⟨HS0, HS1, HS2⟩, HR0⟩⟩, ⟨HBs, HVE1, HO_⟩⟩
  ihave ⟨Hp4, HR1⟩ := recv_done1 c I $$ [HVE1 Hdp1]
  · isplitl [HVE1]
    · iexact HVE1
    iexact Hdp1
  isplitl [Hp4 HG0 HU0 HT2 HL2 HVB2 Hp1 Hsc1 Hla2 Hlr2 HSE1 Hp2 Hmo Hmx Hmq Hsc0 HSE0 Hmk Hmv HBP1 HD2 HS0 HS1 HS2 HR0 HR1]
  · isplitl [Hp4]
    · iexact Hp4
    isplitl [HG0]
    · iexact HG0
    isplitl [HU0]
    · iexact HU0
    isplitl [HT2]
    · iexact HT2
    isplitl [HL2]
    · iexact HL2
    isplitl [HVB2]
    · iexact HVB2
    isplitl [Hp1]
    · iexact Hp1
    isplitl [Hsc1]
    · iexact Hsc1
    isplitl [Hla2]
    · iexact Hla2
    isplitl [Hlr2]
    · iexact Hlr2
    isplitl [HSE1]
    · iexact HSE1
    isplitl [Hp2]
    · iexact Hp2
    isplitl [Hmo]
    · iexact Hmo
    isplitl [Hmx Hmq]
    · isplitl [Hmx]
      · iexact Hmx
      iexact Hmq
    isplitl [Hsc0]
    · iexact Hsc0
    isplitl [HSE0]
    · iexact HSE0
    isplitl [Hmk]
    · iexact Hmk
    isplitl [Hmv]
    · iexact Hmv
    isplitl [HBP1]
    · iexact HBP1
    isplitl [HD2]
    · iexact HD2
    isplitl [HS0 HS1 HS2]
    · isplitl [HS0]
      · iexact HS0
      isplitl [HS1]
      · iexact HS1
      iexact HS2
    isplitl [HR0]
    · iexact HR0
    iexact HR1
  isplitl [HBs]
  · iexact HBs
  iexact HO_

theorem pm_h  {A B R X : sProp 𝕄} : iprop((A ∗ (B ∗ R)) ∗ X) ⊢ iprop((B ∗ A ∗ R) ∗ X) := by
  iintro ⟨⟨HA, ⟨HB, HR⟩⟩, HX⟩
  isplitl [HB HA HR]
  · isplitl [HB]
    · iexact HB
    isplitl [HA]
    · iexact HA
    iexact HR
  iexact HX

theorem pm_i (I : Dev nD → Ins F) (K : GSem nD τ sig → ℕ) (O : CellTallies nD τ sig Unit)  : iprop((Ag c (agOf (rsAt I c)) True ∗ pt c cc0_scratch4 ((cts I).rsR c) ∗ (Out c ((cts I).agR c) 0 ∗ Toks c 2 ∗ dutyTok ER (lCell c) 2 (0 : Dev nD) ∗ St c (recvA (chan (cts I)) 2 c) (recvB (chan (cts I)) 2 c) 0 ∗ pt c cc0_scratch1 ((cts I).kvR c) ∗ (chan (cts I) 1).srcPts c c ∗ atPos ER (lCell c) 2 ∅ 0 ∗ reached ER (lCell c) 2 ∗ St c (sendA (chan (cts I)) 1 c) (sendB (chan (cts I)) 1 c) 8 ∗ pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ Dst (cts I) c 2 ∗ (FPos c 0 0 ∗ FPos c 1 0 ∗ FPos c 2 0) ∗ RPos c 0 1 ∗ RPos c 1 1)) ∗ (Base (cts I) K ∗ Owe c (due (chan (cts I)) 2 c 0 + O))) ⊢ iprop((Out c ((cts I).agR c) 0 ∗ atPos ER (lCell c) 2 ∅ 0 ∗ St c (recvA (chan (cts I)) 2 c) (recvB (chan (cts I)) 2 c) 0 ∗ ((chan (cts I) 2).srcPts c c ∗ (chan (cts I) 2).dstAny c c ∗ dutyTok ER (lCell c) 2 (0 : Dev nD) ∗ reached ER (lCell c) 2) ∗ (pt c cc0_scratch4 ((cts I).rsR c) ∗ pt c cc0_scratch1 ((cts I).kvR c) ∗ (chan (cts I) 1).srcPts c c ∗ St c (sendA (chan (cts I)) 1 c) (sendB (chan (cts I)) 1 c) 8 ∗ pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ (FPos c 0 0 ∗ FPos c 1 0 ∗ FPos c 2 0) ∗ RPos c 0 1 ∗ RPos c 1 1)) ∗ (Base (cts I) K ∗ St c (sendA (chan (cts I)) 2 c) (sendB (chan (cts I)) 2 c) 0 ∗ Owe c (due (chan (cts I)) 2 c 0 + O))) := by
  iintro ⟨⟨HG1, Hp4, ⟨HU0, HT2, HL2, HVB2, Hp1, Hsc1, Hla2, Hlr2, HSE1, Hp2, Hmo, ⟨Hmx, Hmq⟩, Hsc0, HSE0, Hmk, Hmv, HBP1, HD2, ⟨HS0, HS1, HS2⟩, HR0, HR1⟩⟩, ⟨HBs, HOW2⟩⟩
  ihave ⟨Hsrc2⟩ := ag_done c I $$ [HG1]
  · iexact HG1
  ihave ⟨HSB2, Hsc2, Hdc2⟩ := ph_send (cts I) c 2 $$ [Hsrc2 HT2 HD2]
  · isplitl [Hsrc2]
    · iexact Hsrc2
    isplitl [HT2]
    · iexact HT2
    iexact HD2
  isplitl [HU0 Hla2 HVB2 Hsc2 Hdc2 HL2 Hlr2 Hp4 Hp1 Hsc1 HSE1 Hp2 Hmo Hmx Hmq Hsc0 HSE0 Hmk Hmv HBP1 HS0 HS1 HS2 HR0 HR1]
  · isplitl [HU0]
    · iexact HU0
    isplitl [Hla2]
    · iexact Hla2
    isplitl [HVB2]
    · iexact HVB2
    isplitl [Hsc2 Hdc2 HL2 Hlr2]
    · isplitl [Hsc2]
      · iexact Hsc2
      isplitl [Hdc2]
      · iexact Hdc2
      isplitl [HL2]
      · iexact HL2
      iexact Hlr2
    isplitl [Hp4]
    · iexact Hp4
    isplitl [Hp1]
    · iexact Hp1
    isplitl [Hsc1]
    · iexact Hsc1
    isplitl [HSE1]
    · iexact HSE1
    isplitl [Hp2]
    · iexact Hp2
    isplitl [Hmo]
    · iexact Hmo
    isplitl [Hmx Hmq]
    · isplitl [Hmx]
      · iexact Hmx
      iexact Hmq
    isplitl [Hsc0]
    · iexact Hsc0
    isplitl [HSE0]
    · iexact HSE0
    isplitl [Hmk]
    · iexact Hmk
    isplitl [Hmv]
    · iexact Hmv
    isplitl [HBP1]
    · iexact HBP1
    isplitl [HS0 HS1 HS2]
    · isplitl [HS0]
      · iexact HS0
      isplitl [HS1]
      · iexact HS1
      iexact HS2
    isplitl [HR0]
    · iexact HR0
    iexact HR1
  isplitl [HBs]
  · iexact HBs
  isplitl [HSB2]
  · iexact HSB2
  iexact HOW2

theorem pm_j (I : Dev nD → Ins F) (K : GSem nD τ sig → ℕ)  : iprop((Out c ((cts I).agR c) 0 ∗ (chan (cts I) 2).dstPts c c ∗ (chan (cts I) 2).srcPts c c ∗ atPos ER (lCell c) 3 ∅ 0 ∗ reached ER (lCell c) 3 ∗ St c (sendA (chan (cts I)) 2 c) (sendB (chan (cts I)) 2 c) 8 ∗ (pt c cc0_scratch4 ((cts I).rsR c) ∗ pt c cc0_scratch1 ((cts I).kvR c) ∗ (chan (cts I) 1).srcPts c c ∗ St c (sendA (chan (cts I)) 1 c) (sendB (chan (cts I)) 1 c) 8 ∗ pt c cc0_scratch2 (accAt I c) ∗ pt c cc0_stg4_0 (I c).wo ∗ (pt c cc0_stg0_0 (I c).x ∗ pt c cc0_stg1_0 (I c).wq) ∗ (chan (cts I) 0).srcPts c c ∗ St c (sendA (chan (cts I)) 0 c) (sendB (chan (cts I)) 0 c) 8 ∗ Ks c (I c) ∗ Vs c (I c) ∗ atPos ER (bCell c) 1 ∅ 0 ∗ (FPos c 0 0 ∗ FPos c 1 0 ∗ FPos c 2 0) ∗ RPos c 0 1 ∗ RPos c 1 1)) ∗ (Base (cts I) K ∗ St c (recvA (chan (cts I)) 2 c) (recvB (chan (cts I)) 2 c) 8 ∗ Owe c 0)) ⊢ iprop((Out c ((cts I).agR c) 0 ∗ pt c cc0_scratch6 ((cts I).agR c) ∗ ((chan (cts I) 2).srcPts c c ∗ atPos ER (lCell c) 3 ∅ 0 ∗ pt c cc0_scratch4 ((cts I).rsR c) ∗ pt c cc0_scratch1 ((cts I).kvR c) ∗ (chan (cts I) 1).srcPts c c ∗ pt c cc0_scratch2 (accAt I c) ∗ pt c cc0_stg4_0 (I c).wo ∗ (pt c cc0_stg0_0 (I c).x ∗ pt c cc0_stg1_0 (I c).wq) ∗ (chan (cts I) 0).srcPts c c ∗ Ks c (I c) ∗ Vs c (I c) ∗ atPos ER (bCell c) 1 ∅ 0 ∗ RPos c 0 1 ∗ RPos c 1 1 ∗ RPos c 2 1)) ∗ (Base (cts I) K ∗ (St c (fin3A (chan (cts I)) c) (fin3B (chan (cts I)) c) 0 ∗ Owe c 0))) := by
  iintro ⟨⟨HU0, Hdp2, Hsc2, Hla3, Hlr3, HSE2, ⟨Hp4, Hp1, Hsc1, HSE1, Hp2, Hmo, ⟨Hmx, Hmq⟩, Hsc0, HSE0, Hmk, Hmv, HBP1, ⟨HS0, HS1, HS2⟩, HR0, HR1⟩⟩, ⟨HBs, HVE2, HZ0⟩⟩
  ihave ⟨Hp6, HR2⟩ := recv_done2 c I $$ [HVE2 Hdp2]
  · isplitl [HVE2]
    · iexact HVE2
    iexact Hdp2
  ihave HF0_ := ph_fin0 (cts I) c $$ [HSE0 HSE1 HSE2 HS0 HS1 HS2]
  · isplitl [HSE0]
    · iexact HSE0
    isplitl [HSE1]
    · iexact HSE1
    isplitl [HSE2]
    · iexact HSE2
    isplitl [HS0]
    · iexact HS0
    isplitl [HS1]
    · iexact HS1
    iexact HS2
  isplitl [HU0 Hp6 Hsc2 Hla3 Hp4 Hp1 Hsc1 Hp2 Hmo Hmx Hmq Hsc0 Hmk Hmv HBP1 HR0 HR1 HR2]
  · isplitl [HU0]
    · iexact HU0
    isplitl [Hp6]
    · iexact Hp6
    isplitl [Hsc2]
    · iexact Hsc2
    isplitl [Hla3]
    · iexact Hla3
    isplitl [Hp4]
    · iexact Hp4
    isplitl [Hp1]
    · iexact Hp1
    isplitl [Hsc1]
    · iexact Hsc1
    isplitl [Hp2]
    · iexact Hp2
    isplitl [Hmo]
    · iexact Hmo
    isplitl [Hmx Hmq]
    · isplitl [Hmx]
      · iexact Hmx
      iexact Hmq
    isplitl [Hsc0]
    · iexact Hsc0
    isplitl [Hmk]
    · iexact Hmk
    isplitl [Hmv]
    · iexact Hmv
    isplitl [HBP1]
    · iexact HBP1
    isplitl [HR0]
    · iexact HR0
    isplitl [HR1]
    · iexact HR1
    iexact HR2
  isplitl [HBs]
  · iexact HBs
  isplitl [HF0_]
  · iexact HF0_
  iexact HZ0

theorem pm_k (I : Dev nD → Ins F) (K : GSem nD τ sig → ℕ)  : iprop((Out c ((cts I).agR c) 8 ∗ pt c cc0_scratch6 ((cts I).agR c) ∗ ((chan (cts I) 2).srcPts c c ∗ atPos ER (lCell c) 3 ∅ 0 ∗ pt c cc0_scratch4 ((cts I).rsR c) ∗ pt c cc0_scratch1 ((cts I).kvR c) ∗ (chan (cts I) 1).srcPts c c ∗ pt c cc0_scratch2 (accAt I c) ∗ pt c cc0_stg4_0 (I c).wo ∗ (pt c cc0_stg0_0 (I c).x ∗ pt c cc0_stg1_0 (I c).wq) ∗ (chan (cts I) 0).srcPts c c ∗ Ks c (I c) ∗ Vs c (I c) ∗ atPos ER (bCell c) 1 ∅ 0 ∗ RPos c 0 1 ∗ RPos c 1 1 ∗ RPos c 2 1)) ∗ (Base (cts I) K ∗ (St c (fin3A (chan (cts I)) c) (fin3B (chan (cts I)) c) 8 ∗ Owe c 0))) ⊢ iprop(((pt c cc0_stg0_0 (I c).x ∗ pt c cc0_stg1_0 (I c).wq) ∗ Ks c (I c) ∗ Vs c (I c) ∗ pt c cc0_stg4_0 (I c).wo ∗ pt c cc0_stg5_0 (outAt I c)) ∗ (pt c cc0_scratch0 ((cts I).kv c) ∗ pt c cc0_scratch1 ((cts I).kvR c) ∗ pt c cc0_scratch2 (accAt I c) ∗ pt c cc0_scratch3 ((cts I).rs c) ∗ pt c cc0_scratch4 ((cts I).rsR c) ∗ pt c cc0_scratch5 ((cts I).ag c) ∗ pt c cc0_scratch6 ((cts I).agR c)) ∗ atPos ER (bCell c) 1 ∅ 0 ∗ (FPos c 0 1 ∗ FPos c 1 1 ∗ FPos c 2 1) ∗ (RPos c 0 1 ∗ RPos c 1 1 ∗ RPos c 2 1) ∗ atPos ER (lCell c) 3 ∅ 0 ∗ Owe c 0) := by
  iintro ⟨⟨HU8, Hp6, ⟨Hsc2, Hla3, Hp4, Hp1, Hsc1, Hp2, Hmo, ⟨Hmx, Hmq⟩, Hsc0, Hmk, Hmv, HBP1, HR0, HR1, HR2⟩⟩, ⟨HBs, ⟨HF8, HZ0⟩⟩⟩
  ihave ⟨⟨Hp0, Hp3, Hp5⟩, ⟨HSS0, HSS1, HSS2⟩⟩ := ph_fin1 (cts I) c $$ [HF8 Hsc0 Hsc1 Hsc2]
  · isplitl [HF8]
    · iexact HF8
    isplitl [Hsc0]
    · iexact Hsc0
    isplitl [Hsc1]
    · iexact Hsc1
    iexact Hsc2
  ihave Hpo := out_done c I $$ [HU8]
  · iexact HU8
  isplitl [Hmx Hmq Hmk Hmv Hmo Hpo]
  · isplitl [Hmx Hmq]
    · isplitl [Hmx]
      · iexact Hmx
      iexact Hmq
    isplitl [Hmk]
    · iexact Hmk
    isplitl [Hmv]
    · iexact Hmv
    isplitl [Hmo]
    · iexact Hmo
    iexact Hpo
  isplitl [Hp0 Hp1 Hp2 Hp3 Hp4 Hp5 Hp6]
  · isplitl [Hp0]
    · iexact Hp0
    isplitl [Hp1]
    · iexact Hp1
    isplitl [Hp2]
    · iexact Hp2
    isplitl [Hp3]
    · iexact Hp3
    isplitl [Hp4]
    · iexact Hp4
    isplitl [Hp5]
    · iexact Hp5
    iexact Hp6
  isplitl [HBP1]
  · iexact HBP1
  isplitl [HSS0 HSS1 HSS2]
  · isplitl [HSS0]
    · iexact HSS0
    isplitl [HSS1]
    · iexact HSS1
    iexact HSS2
  isplitl [HR0 HR1 HR2]
  · isplitl [HR0]
    · iexact HR0
    isplitl [HR1]
    · iexact HR1
    iexact HR2
  isplitl [Hla3]
  · iexact Hla3
  iexact HZ0

set_option maxHeartbeats 4000000 in
theorem part9_spec (v168 : IVec S256x2048 32) {Q : (Σ' (v192 : IVec S256x2048 32) (v195 : IVec S256x2048 32) (v214 : IVec S256x2048 1), BitVec 32) → sProp 𝕄} {P : sProp 𝕄} (hk : P ⊢ Q (⟨k0_pay23 v168, k0_pay24, k0_pay25, 1#32⟩)) : P ⊢ WPc c (onBufs (k0_part9 (F := F)) v168) Q := by
  unfold onBufs
  rw [k0_part9_eq_skeleton]
  unfold k0_part9_skel
  exact f_ret c hk

set_option maxHeartbeats 4000000 in
theorem part11_spec (v135 : FVec F S256x256 .bf16) (v241 : IVec S256x2048 1) (v242 : Vec F S8x2x2x256x256 .bf16) (v246 : FVec F S256x64 .bf16) (v248 : FVec F S256x64 .bf16) (v250 : FVec F S256x64 .bf16) (v252 : FVec F S256x64 .bf16) (v254 : FVec F S256x64 .bf16) (v256 : FVec F S256x64 .bf16) (v258 : FVec F S256x64 .bf16) (v259 : FVec F S1x1x1x256x64 .bf16) {Q : (Σ' (v295 : FVec F S256x64 .f32) (v312 : FVec F S2048x64 .bf16), FVec F S1x1x1x256x64 .bf16) → sProp 𝕄} {P : sProp 𝕄} (hk : P ⊢ Q (⟨k0_pay36 v135 v241 v242 v246 v248 v250 v252 v254 v256 v258 v259, k0_pay37 v242, k0_pay38 v242⟩)) : P ⊢ WPc c (onBufs (k0_part11 (F := F)) v135 v241 v242 v246 v248 v250 v252 v254 v256 v258 v259) Q := by
  unfold onBufs
  rw [k0_part11_eq_skeleton]
  unfold k0_part11_skel
  exact f_ret c hk

set_option maxHeartbeats 4000000 in
theorem part12_spec (v135 : FVec F S256x256 .bf16) (v241 : IVec S256x2048 1) (v242 : Vec F S8x2x2x256x256 .bf16) (v312 : FVec F S2048x64 .bf16) (v313 : FVec F S1x1x1x256x64 .bf16) {Q : (Σ' (v346 : FVec F S256x64 .f32) (v363 : FVec F S2048x64 .bf16) (v365 : FVec F S256x64 .bf16), FVec F S256x64 .bf16) → sProp 𝕄} {P : sProp 𝕄} (hk : P ⊢ Q (⟨k0_pay39 v135 v241 v242 v312 v313, k0_pay40 v242, k0_pay41 v242, k0_pay42 v242⟩)) : P ⊢ WPc c (onBufs (k0_part12 (F := F)) v135 v241 v242 v312 v313) Q := by
  unfold onBufs
  rw [k0_part12_eq_skeleton]
  unfold k0_part12_skel
  exact f_ret c hk

set_option maxHeartbeats 4000000 in
theorem part13_spec (v135 : FVec F S256x256 .bf16) (v241 : IVec S256x2048 1) (v242 : Vec F S8x2x2x256x256 .bf16) (v363 : FVec F S2048x64 .bf16) (v365 : FVec F S256x64 .bf16) (v367 : FVec F S256x64 .bf16) {Q : (Σ' (v397 : FVec F S256x64 .f32) (v414 : FVec F S2048x64 .bf16) (v416 : FVec F S256x64 .bf16) (v418 : FVec F S256x64 .bf16) (v420 : FVec F S256x64 .bf16), FVec F S1x1x1x256x64 .bf16) → sProp 𝕄} {P : sProp 𝕄} (hk : P ⊢ Q (⟨k0_pay43 v135 v241 v242 v363 v365 v367, k0_pay44 v242, k0_pay45 v242, k0_pay46 v242, k0_pay47 v242, k0_pay48 v242⟩)) : P ⊢ WPc c (onBufs (k0_part13 (F := F)) v135 v241 v242 v363 v365 v367) Q := by
  unfold onBufs
  rw [k0_part13_eq_skeleton]
  unfold k0_part13_skel
  exact f_ret c hk

set_option maxHeartbeats 4000000 in
theorem part15_spec (v139 : FVec F S256x256 .bf16) (v241 : IVec S256x2048 1) (v242 : Vec F S8x2x2x256x256 .bf16) (v456 : FVec F S256x64 .bf16) (v458 : FVec F S256x64 .bf16) (v460 : FVec F S256x64 .bf16) (v462 : FVec F S256x64 .bf16) (v464 : FVec F S256x64 .bf16) (v466 : FVec F S256x64 .bf16) (v468 : FVec F S256x64 .bf16) (v470 : FVec F S256x64 .bf16) {Q : (Σ' (v505 : FVec F S256x64 .f32) (v522 : FVec F S2048x64 .bf16), FVec F S256x64 .bf16) → sProp 𝕄} {P : sProp 𝕄} (hk : P ⊢ Q (⟨k0_pay58 v139 v241 v242 v456 v458 v460 v462 v464 v466 v468 v470, k0_pay59 v242, k0_pay60 v242⟩)) : P ⊢ WPc c (onBufs (k0_part15 (F := F)) v139 v241 v242 v456 v458 v460 v462 v464 v466 v468 v470) Q := by
  unfold onBufs
  rw [k0_part15_eq_skeleton]
  unfold k0_part15_skel
  exact f_ret c hk

set_option maxHeartbeats 4000000 in
theorem part16_spec (v139 : FVec F S256x256 .bf16) (v241 : IVec S256x2048 1) (v242 : Vec F S8x2x2x256x256 .bf16) (v522 : FVec F S2048x64 .bf16) (v524 : FVec F S256x64 .bf16) {Q : (Σ' (v556 : FVec F S256x64 .f32) (v573 : FVec F S2048x64 .bf16) (v575 : FVec F S256x64 .bf16) (v577 : FVec F S256x64 .bf16), FVec F S1x1x1x256x64 .bf16) → sProp 𝕄} {P : sProp 𝕄} (hk : P ⊢ Q (⟨k0_pay61 v139 v241 v242 v522 v524, k0_pay62 v242, k0_pay63 v242, k0_pay64 v242, k0_pay65 v242⟩)) : P ⊢ WPc c (onBufs (k0_part16 (F := F)) v139 v241 v242 v522 v524) Q := by
  unfold onBufs
  rw [k0_part16_eq_skeleton]
  unfold k0_part16_skel
  exact f_ret c hk

set_option maxHeartbeats 4000000 in
theorem part17_spec (v139 : FVec F S256x256 .bf16) (v241 : IVec S256x2048 1) (v242 : Vec F S8x2x2x256x256 .bf16) (v573 : FVec F S2048x64 .bf16) (v575 : FVec F S256x64 .bf16) (v577 : FVec F S256x64 .bf16) (v578 : FVec F S1x1x1x256x64 .bf16) {Q : (Σ' (v607 : FVec F S256x64 .f32) (v624 : FVec F S2048x64 .bf16) (v626 : FVec F S256x64 .bf16) (v628 : FVec F S256x64 .bf16) (v630 : FVec F S256x64 .bf16), FVec F S256x64 .bf16) → sProp 𝕄} {P : sProp 𝕄} (hk : P ⊢ Q (⟨k0_pay66 v139 v241 v242 v573 v575 v577 v578, k0_pay67 v242, k0_pay68 v242, k0_pay69 v242, k0_pay70 v242, k0_pay71 v242⟩)) : P ⊢ WPc c (onBufs (k0_part17 (F := F)) v139 v241 v242 v573 v575 v577 v578) Q := by
  unfold onBufs
  rw [k0_part17_eq_skeleton]
  unfold k0_part17_skel
  exact f_ret c hk
end Cert.KernelIdeal.Run
-- ==== Proof.Talk.lean ====
/-
  The parts of the body that only talk.
-/
module

public import proofs.«01_k».proof.Proof.Mem

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (C : Cts F) (K : GSem nD τ sig → ℕ) (c : Dev nD)

theorem bar_turn {R A B P : sProp 𝕄} (O : CellTallies nD τ sig Unit) :
    iprop((R ∗ A ∗ B) ∗ (Base C K ∗ (P ∗ Owe c (dueB 8 + O)))) ⊢ iprop(R ∗ (Base C K ∗ (A ∗ B ∗ Owe c O))) := by
  rw [dueB_end, zero_add]
  iintro ⟨⟨HR, HA, HB⟩, HX, -, HO⟩
  isplitl [HR]; · iexact HR
  isplitl [HX]; · iexact HX
  isplitl [HA]; · iexact HA
  isplitl [HB] <;> iassumption

theorem part5_spec (v83 : Sems sig S_) (hv : v83.sem = sB) (c1 : BitVec 32) {Q : BitVec 1 → sProp 𝕄} {R R' : sProp 𝕄} (O : CellTallies nD τ sig Unit) (hO : Above 1 O)
    (hmid : iprop(R ∗ (Base C K ∗ ((bigSep Finset.univ fun p => barPay (chan C) c p) ∗ atPos ER (bCell c) 1 ∅ 0 ∗ Owe c (due (chan C) 0 c 0 + O)))) ⊢
      iprop(R' ∗ (Base C K ∗ St c (sendA (chan C) 0 c) (sendB (chan C) 0 c) 0 ∗ Owe c (due (chan C) 0 c 0 + O))))
    (hk : iprop(R' ∗ (Base C K ∗ St c (sendA (chan C) 0 c) (sendB (chan C) 0 c) 1 ∗ Owe c (due (chan C) 0 c 1 + O))) ⊢ Q (Scalar.cmpi .ne (V2 c) 1#32)) :
    iprop((R ∗ cred (tallyAt (bCell c) () 8) ∗ atPos ER (bCell c) 0 ∅ 0) ∗ (Base C K ∗ (Sig (chan C) c 1 ∗ Owe c (dueB 1 + (due (chan C) 0 c 0 + O)))))
      ⊢ WPc c (onBufs (k0_part5 (F := F)) c (V2 c) v83 c1) Q := by
  unfold onBufs
  rw [k0_part5_eq_skeleton]
  unfold k0_part5_skel
  simp only [semSignalWord, semWaitWord, Prog.lift, Prog.bind_op, Prog.bind_ret, Prog.pure_eq_ret, Prog.bind_assoc]
  refine f_signal C K c 1 _ (by decide) hv (by decide) ?_
  refine f_signal C K c 2 _ (by decide) hv (by decide) ?_
  refine f_signal C K c 3 _ (by decide) hv (by decide) ?_
  refine f_signal C K c 4 _ (by decide) hv (by decide) ?_
  refine f_signal C K c 5 _ (by decide) hv (by decide) ?_
  refine f_signal C K c 6 _ (by decide) hv (by decide) ?_
  refine f_signal C K c 7 _ (by decide) hv (by decide) ?_
  refine reframe (bar_turn C K c _) ?_
  refine f_barrier C K c ((due_above (chan C) 0 c 0).mono (by decide) |>.add hO) hv (by decide) ?_
  refine reframe hmid ?_
  refine f_send C K c 0 0 O (cond1 c) (fun h => enq0 C c 0 (Fin.ext (show k0_dev9 = 0 by decide)) rfl (off2 c) rfl (off1 c) _ _ _ _) ?_
  exact f_ret c hk

set_option maxHeartbeats 4000000 in
theorem part6_spec {Q : PUnit.{1} → sProp 𝕄} {R : sProp 𝕄} (O : CellTallies nD τ sig Unit) (v103 : BitVec 1)
    (hk : iprop(R ∗ (Base C K ∗ St c (sendA (chan C) 0 c) (sendB (chan C) 0 c) 8 ∗ Owe c (due (chan C) 0 c 8 + O))) ⊢ Q ⟨⟩) :
    iprop(R ∗ (Base C K ∗ St c (sendA (chan C) 0 c) (sendB (chan C) 0 c) 1 ∗ Owe c (due (chan C) 0 c 1 + O))) ⊢ WPc c (onBufs (k0_part6 (F := F)) c (V2 c) v103) Q := by
  unfold onBufs
  rw [k0_part6_eq_skeleton]
  unfold k0_part6_skel
  simp only [semSignalWord, semWaitWord, Prog.lift, Prog.bind_op, Prog.bind_ret, Prog.pure_eq_ret, Prog.bind_assoc]
  refine f_send C K c 0 1 O (cond2 c) (fun h => enq0 C c 1 (Fin.ext (show k0_dev10 = 1 by decide)) rfl (off4 c) rfl (off3 c) _ _ _ _) ?_
  refine f_send C K c 0 2 O (cond3 c) (fun h => enq0 C c 2 (Fin.ext (show k0_dev11 = 2 by decide)) rfl (off6 c) rfl (off5 c) _ _ _ _) ?_
  refine f_send C K c 0 3 O (cond4 c) (fun h => enq0 C c 3 (Fin.ext (show k0_dev12 = 3 by decide)) rfl (off8 c) rfl (off7 c) _ _ _ _) ?_
  refine f_send C K c 0 4 O (cond5 c) (fun h => enq0 C c 4 (Fin.ext (show k0_dev13 = 4 by decide)) rfl (off10 c) rfl (off9 c) _ _ _ _) ?_
  refine f_send C K c 0 5 O (cond6 c) (fun h => enq0 C c 5 (Fin.ext (show k0_dev14 = 5 by decide)) rfl (off12 c) rfl (off11 c) _ _ _ _) ?_
  refine f_send C K c 0 6 O (cond7 c) (fun h => enq0 C c 6 (Fin.ext (show k0_dev15 = 6 by decide)) rfl (off14 c) rfl (off13 c) _ _ _ _) ?_
  refine f_send C K c 0 7 O (cond8 c) (fun h => enq0 C c 7 (Fin.ext (show k0_dev16 = 7 by decide)) rfl (off16 c) rfl (off15 c) _ _ _ _) ?_
  exact f_ret c hk

set_option maxHeartbeats 4000000 in
theorem part8_spec {Q : IVec S256x2048 32 → sProp 𝕄} {R : sProp 𝕄} (O : CellTallies nD τ sig Unit) (hO : Above 2 O)
    (hk : iprop(R ∗ (Base C K ∗ St c (recvA (chan C) 0 c) (recvB (chan C) 0 c) 8 ∗ Owe c O)) ⊢ Q (iota .tc S256x2048 32 [0] iota_S256x2048_d0_w32)) :
    iprop(R ∗ (Base C K ∗ St c (recvA (chan C) 0 c) (recvB (chan C) 0 c) 2 ∗ Owe c O)) ⊢ WPc c (onBufs (k0_part8 (F := F)) (V2 c) 2#32) Q := by
  unfold onBufs
  rw [k0_part8_eq_skeleton]
  unfold k0_part8_skel
  simp only [semSignalWord, semWaitWord, Prog.lift, Prog.bind_op, Prog.bind_ret, Prog.pure_eq_ret, Prog.bind_assoc]
  refine f_recv C K c 0 2 hO (rc2 c) (fun _ R => wait_eq c (semS _ 14 2 rfl sem14 (sR 0 2) (val_sR 0 2)) rfl _ _ R) ?_
  refine f_recv C K c 0 3 hO (rc3 c) (fun _ R => wait_eq c (semS _ 14 3 rfl sem14 (sR 0 3) (val_sR 0 3)) rfl _ _ R) ?_
  refine f_recv C K c 0 4 hO (rc4 c) (fun _ R => wait_eq c (semS _ 14 4 rfl sem14 (sR 0 4) (val_sR 0 4)) rfl _ _ R) ?_
  refine f_recv C K c 0 5 hO (rc5 c) (fun _ R => wait_eq c (semS _ 14 5 rfl sem14 (sR 0 5) (val_sR 0 5)) rfl _ _ R) ?_
  refine f_recv C K c 0 6 hO (rc6 c) (fun _ R => wait_eq c (semS _ 14 6 rfl sem14 (sR 0 6) (val_sR 0 6)) rfl _ _ R) ?_
  refine f_recv C K c 0 7 hO (rc7 c) (fun _ R => wait_eq c (semS _ 14 7 rfl sem14 (sR 0 7) (val_sR 0 7)) rfl _ _ R) ?_
  exact f_ret c hk

set_option maxHeartbeats 4000000 in
theorem part25_spec {Q : PUnit.{1} → sProp 𝕄} {R : sProp 𝕄} (O : CellTallies nD τ sig Unit) (hO : Above 4 O)
    (hk : iprop(R ∗ (Base C K ∗ St c (recvA (chan C) 2 c) (recvB (chan C) 2 c) 8 ∗ Owe c O)) ⊢ Q ⟨⟩) :
    iprop(R ∗ (Base C K ∗ St c (recvA (chan C) 2 c) (recvB (chan C) 2 c) 1 ∗ Owe c O)) ⊢ WPc c (onBufs (k0_part25 (F := F)) (V2 c) (Scalar.extui (Scalar.cmpi .ne (V2 c) 1#32))) Q := by
  unfold onBufs
  rw [k0_part25_eq_skeleton]
  unfold k0_part25_skel
  simp only [semSignalWord, semWaitWord, Prog.lift, Prog.bind_op, Prog.bind_ret, Prog.pure_eq_ret, Prog.bind_assoc]
  refine f_recv C K c 2 1 hO (rc1 c) (fun _ R => wait_eq c (semS _ 46 1 rfl sem18 (sR 2 1) (val_sR 2 1)) rfl _ _ R) ?_
  refine f_recv C K c 2 2 hO (rc2 c) (fun _ R => wait_eq c (semS _ 46 2 rfl sem18 (sR 2 2) (val_sR 2 2)) rfl _ _ R) ?_
  refine f_recv C K c 2 3 hO (rc3 c) (fun _ R => wait_eq c (semS _ 46 3 rfl sem18 (sR 2 3) (val_sR 2 3)) rfl _ _ R) ?_
  refine f_recv C K c 2 4 hO (rc4 c) (fun _ R => wait_eq c (semS _ 46 4 rfl sem18 (sR 2 4) (val_sR 2 4)) rfl _ _ R) ?_
  refine f_recv C K c 2 5 hO (rc5 c) (fun _ R => wait_eq c (semS _ 46 5 rfl sem18 (sR 2 5) (val_sR 2 5)) rfl _ _ R) ?_
  refine f_recv C K c 2 6 hO (rc6 c) (fun _ R => wait_eq c (semS _ 46 6 rfl sem18 (sR 2 6) (val_sR 2 6)) rfl _ _ R) ?_
  refine f_recv C K c 2 7 hO (rc7 c) (fun _ R => wait_eq c (semS _ 46 7 rfl sem18 (sR 2 7) (val_sR 2 7)) rfl _ _ R) ?_
  exact f_ret c hk

end Cert.KernelIdeal.Run
-- ==== Proof.Body.lean ====
/-
  The body: what it needs and what it leaves, on one device.
-/
module

public import proofs.«01_k».proof.Proof.Regroup
public import proofs.«01_k».proof.Proof.Talk

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (I : Dev nD → Ins F) (K : GSem nD τ sig → ℕ) (c : Dev nD)

theorem f_bind {α β : Type} {p : ℙ α} {k : α → ℙ β} {P : sProp 𝕄} {Q : β → sProp 𝕄} (h : P ⊢ WPc c p (fun a => WPc c (k a) Q)) : P ⊢ WPc c (p >>= k) Q :=
  BIBase.Entails.trans h (Entails.of_eq (wp_bind _ _ _ _ _ _).symm)

theorem h3 : Above 3 (due (chan (cts I)) 2 c 0 + 0) := ((due_above (chan (cts I)) 2 c 0).mono (by decide)).add (above_zero _)
theorem h2 : Above 2 (due (chan (cts I)) 1 c 0 + (due (chan (cts I)) 2 c 0 + 0)) := ((due_above (chan (cts I)) 1 c 0).mono (by decide)).add ((h3 I c).mono (by decide))
theorem h1 : Above 1 (due (chan (cts I)) 1 c 0 + (due (chan (cts I)) 2 c 0 + 0)) := (h2 I c).mono (by decide)

/-- What a device enters the body with, and leaves it with. -/
def Enter : sProp 𝕄 := iprop((Pack c (I c) 0 ∗ Ks c (I c) ∗ Vs c (I c) ∗ (cred (tallyAt (bCell c) () 8) ∗ atPos ER (bCell c) 0 ∅ 0 ∗ (Toks c 0 ∗ (pt c cc0_stg0_0 (I c).x ∗ pt c cc0_stg1_0 (I c).wq) ∗ atPos ER (lCell c) 0 ∅ 0 ∗ reached ER (lCell c) 0 ∗ dutyTok ER (lCell c) 0 (0 : Dev nD) ∗ St c (recvA (chan (cts I)) 0 c) (recvB (chan (cts I)) 0 c) 0) ∗ (pt c cc0_stg4_0 (I c).wo ∗ Acc c (I c) (kvAt I c) 0 ∗ Rs c (accAt I c) 0 ∗ Toks c 1 ∗ dutyTok ER (lCell c) 1 (0 : Dev nD) ∗ St c (recvA (chan (cts I)) 1 c) (recvB (chan (cts I)) 1 c) 0) ∗ (Ag c (agOf (rsAt I c)) False ∗ Toks c 2 ∗ dutyTok ER (lCell c) 2 (0 : Dev nD) ∗ St c (recvA (chan (cts I)) 2 c) (recvB (chan (cts I)) 2 c) 0 ∗ Out c ((cts I).agR c) 0) ∗ (FPos c 0 0 ∗ FPos c 1 0 ∗ FPos c 2 0))) ∗ (Base (cts I) K ∗ (Sig (chan (cts I)) c 0 ∗ Owe c (dueB 0 + (due (chan (cts I)) 0 c 0 + (due (chan (cts I)) 1 c 0 + (due (chan (cts I)) 2 c 0 + 0)))))))
def Leave : sProp 𝕄 := iprop(((pt c cc0_stg0_0 (I c).x ∗ pt c cc0_stg1_0 (I c).wq) ∗ Ks c (I c) ∗ Vs c (I c) ∗ pt c cc0_stg4_0 (I c).wo ∗ pt c cc0_stg5_0 (outAt I c)) ∗ (pt c cc0_scratch0 ((cts I).kv c) ∗ pt c cc0_scratch1 ((cts I).kvR c) ∗ pt c cc0_scratch2 (accAt I c) ∗ pt c cc0_scratch3 ((cts I).rs c) ∗ pt c cc0_scratch4 ((cts I).rsR c) ∗ pt c cc0_scratch5 ((cts I).ag c) ∗ pt c cc0_scratch6 ((cts I).agR c)) ∗ atPos ER (bCell c) 1 ∅ 0 ∗ (FPos c 0 1 ∗ FPos c 1 1 ∗ FPos c 2 1) ∗ (RPos c 0 1 ∗ RPos c 1 1 ∗ RPos c 2 1) ∗ atPos ER (lCell c) 3 ∅ 0 ∗ Owe c 0)

set_option maxHeartbeats 8000000 in
theorem part28_spec {Q : (Σ' (d0 : Dev nD), BitVec 32) → sProp 𝕄} (hk : iprop((Out c ((cts I).agR c) 8 ∗ pt c cc0_scratch6 ((cts I).agR c) ∗ ((chan (cts I) 2).srcPts c c ∗ atPos ER (lCell c) 3 ∅ 0 ∗ pt c cc0_scratch4 ((cts I).rsR c) ∗ pt c cc0_scratch1 ((cts I).kvR c) ∗ (chan (cts I) 1).srcPts c c ∗ pt c cc0_scratch2 (accAt I c) ∗ pt c cc0_stg4_0 (I c).wo ∗ (pt c cc0_stg0_0 (I c).x ∗ pt c cc0_stg1_0 (I c).wq) ∗ (chan (cts I) 0).srcPts c c ∗ Ks c (I c) ∗ Vs c (I c) ∗ atPos ER (bCell c) 1 ∅ 0 ∗ RPos c 0 1 ∗ RPos c 1 1 ∗ RPos c 2 1)) ∗ (Base (cts I) K ∗ (St c (fin3A (chan (cts I)) c) (fin3B (chan (cts I)) c) 7 ∗ Owe c 0))) ⊢ Q ⟨c, Scalar.extui (Scalar.cmpi .ne (V2 c) 7#32)⟩) :
    Enter I K c ⊢ WPc c (onBufs (k0_part28 (F := F))) Q := by
  unfold Enter onBufs
  rw [k0_part28_eq_skeleton]
  unfold k0_part28_skel
  refine f_bind c ?_
  refine part1_spec c (I c) ?_
  refine f_bind c ?_
  refine part2_spec c (I c) _ rfl ?_
  refine f_bind c ?_
  refine part3_spec c (I c) ?_
  refine f_bind c ?_
  refine part4_spec c (I c) _ rfl (cts I) K _ ?_
  refine reframe pm_a ?_
  refine f_bind c ?_
  refine part5_spec (cts I) K c _ rfl _ (due (chan (cts I)) 1 c 0 + (due (chan (cts I)) 2 c 0 + 0)) (h1 I c) (pm_bar c I K _) ?_
  refine f_bind c ?_
  refine part6_spec (cts I) K c (due (chan (cts I)) 1 c 0 + (due (chan (cts I)) 2 c 0 + 0)) _ ?_
  refine reframe (pm_c c I K _) ?_
  refine f_bind c ?_
  refine part7_spec (cts I) K c (I c) (due (chan (cts I)) 1 c 0 + (due (chan (cts I)) 2 c 0 + 0)) (h2 I c) ?_
  refine f_bind c ?_
  refine part8_spec (cts I) K c (due (chan (cts I)) 1 c 0 + (due (chan (cts I)) 2 c 0 + 0)) (h2 I c) ?_
  refine f_bind c ?_
  refine part9_spec c _ ?_
  refine reframe (pm_d c I K _) ?_
  refine f_bind c ?_
  refine part10_spec c (I c) (kvAt I c) _ _ _ _ ?_
  refine f_bind c ?_
  refine part11_spec c _ _ _ _ _ _ _ _ _ _ _ ?_
  refine f_bind c ?_
  refine part12_spec c _ _ _ _ _ ?_
  refine f_bind c ?_
  refine part13_spec c _ _ _ _ _ _ ?_
  refine reframe pm_e ?_
  refine f_bind c ?_
  refine part14_spec c (I c) (kvAt I c) _ _ _ _ _ _ _ _ _ _ _ _ rfl ?_
  refine f_bind c ?_
  refine part15_spec c _ _ _ _ _ _ _ _ _ _ _ ?_
  refine f_bind c ?_
  refine part16_spec c _ _ _ _ _ ?_
  refine f_bind c ?_
  refine part17_spec c _ _ _ _ _ _ _ ?_
  refine f_bind c ?_
  refine part18_spec c (I c) (kvAt I c) _ _ _ _ _ _ _ _ _ _ _ _ rfl ?_
  refine f_bind c ?_
  refine part19_spec c (accAt I c) _ rfl ?_
  refine f_bind c ?_
  refine part20_spec (cts I) K c (accAt I c) _ rfl (due (chan (cts I)) 2 c 0 + 0) (pm_f c I K _) ?_
  refine f_bind c ?_
  refine part21_spec (cts I) K c (due (chan (cts I)) 2 c 0 + 0) (h3 I c) _ rfl ?_
  refine f_bind c ?_
  refine part22_spec (cts I) K c (due (chan (cts I)) 2 c 0 + 0) (h3 I c) _ rfl (rsAt I c) (pm_g c I K _) ?_
  refine reframe pm_h ?_
  refine f_bind c ?_
  refine part23_spec (cts I) K c 0 (rsAt I c) _ rfl (pm_i c I K _) ?_
  refine f_bind c ?_
  refine part24_spec (cts I) K c 0 (above_zero _) ?_
  refine f_bind c ?_
  refine part25_spec (cts I) K c 0 (above_zero _) ?_
  refine reframe (pm_j c I K) ?_
  refine f_bind c ?_
  refine part26_spec c ((cts I).agR c) ?_
  refine f_bind c ?_
  refine part27_spec (cts I) K c ((cts I).agR c) _ rfl ?_
  simp only [Prog.lift, Prog.bind_op, Prog.bind_ret, Prog.pure_eq_ret, Prog.bind_assoc]
  refine f_fin (cts I) K c 4 (cond53 c) (fun _ R => wait_eq c (semS _ 6 4 rfl sem13 (sS 0 4) (val_sS 0 4)) rfl _ _ R) (fun _ R => wait_eq c (semS _ 22 4 rfl sem15 (sS 1 4) (val_sS 1 4)) rfl _ _ R) (fun _ R => wait_eq c (semS _ 38 4 rfl sem17 (sS 2 4) (val_sS 2 4)) rfl _ _ R) ?_
  refine f_fin (cts I) K c 5 (cond54 c) (fun _ R => wait_eq c (semS _ 6 5 rfl sem13 (sS 0 5) (val_sS 0 5)) rfl _ _ R) (fun _ R => wait_eq c (semS _ 22 5 rfl sem15 (sS 1 5) (val_sS 1 5)) rfl _ _ R) (fun _ R => wait_eq c (semS _ 38 5 rfl sem17 (sS 2 5) (val_sS 2 5)) rfl _ _ R) ?_
  refine f_fin (cts I) K c 6 (cond55 c) (fun _ R => wait_eq c (semS _ 6 6 rfl sem13 (sS 0 6) (val_sS 0 6)) rfl _ _ R) (fun _ R => wait_eq c (semS _ 22 6 rfl sem15 (sS 1 6) (val_sS 1 6)) rfl _ _ R) (fun _ R => wait_eq c (semS _ 38 6 rfl sem17 (sS 2 6) (val_sS 2 6)) rfl _ _ R) ?_
  exact f_ret c hk

set_option maxHeartbeats 4000000 in
theorem body_spec {Q : PUnit.{1} → sProp 𝕄} (hk : Leave I c ⊢ Q ⟨⟩) : Enter I K c ⊢ WPc c (onBufs (cc0_body (F := F))) Q := by
  unfold onBufs
  rw [cc0_body_eq_skeleton]
  unfold cc0_body_skel
  refine f_bind c ?_
  refine part28_spec I K c ?_
  simp only [Prog.lift, Prog.bind_op, Prog.bind_ret, Prog.pure_eq_ret, Prog.bind_assoc]
  refine f_fin (cts I) K c 7 (cond56 c) (fun _ R => wait_eq c (semS _ 6 7 rfl sem13 (sS 0 7) (val_sS 0 7)) rfl _ _ R) (fun _ R => wait_eq c (semS _ 22 7 rfl sem15 (sS 1 7) (val_sS 1 7)) rfl _ _ R) (fun _ R => wait_eq c (semS _ 38 7 rfl sem17 (sS 2 7) (val_sS 2 7)) rfl _ _ R) ?_
  exact f_ret c (BIBase.Entails.trans (pm_k c I K) hk)

end Cert.KernelIdeal.Run
-- ==== Proof.Open.lean ====
/-
  The kernel's own semaphores: opened at the kernel's entry, closed at its end; what the body needs, put together
  from what the launch and the pipeline give.
-/
module

public import proofs.«01_k».proof.Proof.Body

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (I : Dev nD → Ins F) (K : GSem nD τ sig → ℕ) (c : Dev nD)

/-! ## The forty-nine semaphores, by exchange, side and peer -/

def slotEmb : Fin 3 × Fin 2 × Dev nD ↪ Fin 49 :=
  ⟨fun x => ⟨16 * x.1.val + 8 * x.2.1.val + x.2.2.val, by have h1 := x.1.2; have h2 := x.2.1.2; have h3 := dev_lt x.2.2; omega⟩, fun x y h => by
    have h' : 16 * x.1.val + 8 * x.2.1.val + x.2.2.val = 16 * y.1.val + 8 * y.2.1.val + y.2.2.val := congrArg Fin.val h
    have := x.2.1.2; have := dev_lt x.2.2; have := y.2.1.2; have := dev_lt y.2.2
    exact Prod.ext (Fin.ext (by omega)) (Prod.ext (Fin.ext (by omega)) (Fin.ext (by omega)))⟩

theorem univ49 : (Finset.univ : Finset (Fin 49)).erase 48 = Finset.univ.map slotEmb := by
  ext k
  rw [Finset.mem_erase, Finset.mem_map]
  constructor
  · rintro ⟨h, -⟩
    have hk := k.2
    have hk' : k.val ≠ 48 := fun e => h (Fin.ext e)
    refine ⟨(⟨k.val / 16, by omega⟩, ⟨k.val / 8 % 2, by omega⟩, (⟨k.val % 8, by show _ < 8; omega⟩ : Fin 8)), Finset.mem_univ _, Fin.ext ?_⟩
    show 16 * (k.val / 16) + 8 * (k.val / 8 % 2) + k.val % 8 = k.val
    omega
  · rintro ⟨x, -, rfl⟩
    refine ⟨fun e => ?_, Finset.mem_univ _⟩
    have h' : 16 * x.1.val + 8 * x.2.1.val + x.2.2.val = 48 := congrArg Fin.val e
    have := x.1.2; have := x.2.1.2; have := dev_lt x.2.2
    omega

theorem sems49 (Φ : SemLoc sig → sProp 𝕄) : bigSep Finset.univ (fun k : Fin 49 => Φ (osem k))
    = iprop(Φ (.dma sL) ∗ bigSep Finset.univ fun i : Fin 3 => iprop((bigSep Finset.univ fun j : Dev nD => Φ (.dma (sS i j))) ∗ bigSep Finset.univ fun j : Dev nD => Φ (.dma (sR i j)))) := by
  rw [bs_at (Finset.mem_univ (48 : Fin 49)), univ49, BI.bigSep_map, BI.bigSep_univ_prod]
  congr 1
  refine BI.bigSep_congr fun i _ => ?_
  rw [BI.bigSep_univ_prod, BI.bigSep_univ_two]
  congr 1
  exact BI.bigSep_congr fun j _ => congrArg Φ (congrArg SemLoc.dma (Fin.ext (by
      show 6 + (16 * i.val + 8 * 1 + j.val) = 14 + 16 * i.val + j.val; omega)))

/-! ## What the launch gives a device -/

def Tokens : sProp 𝕄 := iprop((bigSep Finset.univ fun d : Dev nD => dutyTok ER (bCell d) 0 c)
  ∗ (dutyTok ER (lCell c) 0 (0 : Dev nD) ∗ dutyTok ER (lCell c) 1 (0 : Dev nD) ∗ dutyTok ER (lCell c) 2 (0 : Dev nD))
  ∗ bigSep Finset.univ fun i : Fin 3 => iprop((peers c fun j => dutyTok ER (sCell c i j) 0 (0 : Dev nD)) ∗ peers c fun j => dutyTok ER (rCell j i c) 0 (0 : Dev nD)))
def Creds : sProp 𝕄 := iprop(cred (tallyAt (bCell c) () 8) ∗ bigSep Finset.univ fun i : Fin 3 => peers c fun j => cred (tallyAt (rCell c i j) () (chan (cts I) i).N))
def AllBar : sProp 𝕄 := bigSep Finset.univ fun d : Dev nD => reached ER (bCell d) 0
instance allBar_persistent : BI.Persistent (AllBar (F := F)) := by unfold AllBar; infer_instance

instance base_persistent : BI.Persistent (Base (cts I) K) := by unfold Base; infer_instance

def Closed : sProp 𝕄 := iprop(Recs (chan (cts I)) K ∗ AllBar ∗ atPos ER (bCell c) 0 ∅ 0 ∗ (bigSep Finset.univ fun k : Fin 49 => openTok ER ((c : Thread nD τ), osem k)) ∗ Tokens c ∗ Creds I c)
def Opened : sProp 𝕄 := iprop(Base (cts I) K ∗ AllBar ∗ atPos ER (bCell c) 0 ∅ 0
  ∗ (bigSep Finset.univ fun k : Fin 49 => iprop(atPos ER ((c : Thread nD τ), osem k) 0 ∅ 0 ∗ reached ER ((c : Thread nD τ), osem k) 0)) ∗ Tokens c ∗ Creds I c)

theorem mem_o (k : Fin 49) : ((c : Thread nD τ), osem k) ∈ barCells ∪ exCells := mem_ex c _ (by show 6 ≤ 6 + k.val; omega)

/-- All of a device's own cells opened at once. -/
theorem open_all : iprop(Closed I K c ∗ (bigSep Finset.univ fun k : Fin 49 => semVal ((c : Thread nD τ), osem k) 0) ∗ levAts L lv) ⊢ (|={Set.univ}=> Opened I K c : sProp 𝕄) := by
  unfold Closed Opened Base
  iintro ⟨⟨#HI, #HB, Hb, Ho, Ht, Hc⟩, Hv, #HL⟩
  imod (show iprop(Recs (chan (cts I)) K ∗ (bigSep Finset.univ fun k : Fin 49 => iprop(openTok ER ((c : Thread nD τ), osem k) ∗ semVal ((c : Thread nD τ), osem k) 0)))
      ⊢ (|={Set.univ}=> bigSep Finset.univ fun k : Fin 49 => iprop(atPos ER ((c : Thread nD τ), osem k) 0 ∅ 0 ∗ reached ER ((c : Thread nD τ), osem k) 0) : sProp 𝕄) from
    BIBase.Entails.trans (BI.bigSep_with_persistent fun k _ => BIBase.Entails.trans (sep_mono_left (rec_at (chan (cts I)) K (mem_o c k)))
      (Rounds.cell_open ER (sched (chan (cts I))) (Set.mem_univ _))) (BI.bigSep_fupd _ _)) $$ [Ho Hv] with Hk
  · isplitr
    · iexact HI
    rw [BI.bigSep_sep']
    isplitl [Ho] <;> iassumption
  imodintro
  isplitr
  · isplitr
    · iexact HI
    iexact HL
  isplitr
  · iexact HB
  isplitl [Hb]
  · iexact Hb
  isplitl [Hk]
  · iexact Hk
  isplitl [Ht] <;> iassumption

/-! ## Into the body -/

/-- A device's exchange with itself never happens: those semaphores' positions stand aside. -/
def Self : sProp 𝕄 := bigSep Finset.univ fun i : Fin 3 => iprop(atPos ER (sCell c i c) 0 ∅ 0 ∗ atPos ER (rCell c i c) 0 ∅ 0)

theorem one_exchange (i : Fin 3) :
    iprop(((bigSep Finset.univ fun j : Dev nD => iprop(atPos ER (sCell c i j) 0 ∅ 0 ∗ reached ER (sCell c i j) 0)) ∗ (bigSep Finset.univ fun j : Dev nD => iprop(atPos ER (rCell c i j) 0 ∅ 0 ∗ reached ER (rCell c i j) 0)))
        ∗ ((peers c fun j => dutyTok ER (sCell c i j) 0 (0 : Dev nD)) ∗ peers c fun j => dutyTok ER (rCell j i c) 0 (0 : Dev nD))
        ∗ peers c fun j => cred (tallyAt (rCell c i j) () (chan (cts I) i).N))
      ⊢ iprop((Toks c i ∗ FPos c i 0 ∗ St c (recvA (chan (cts I)) i c) (recvB (chan (cts I)) i c) 0)
        ∗ (atPos ER (sCell c i c) 0 ∅ 0 ∗ atPos ER (rCell c i c) 0 ∅ 0) ∗ (bigSep Finset.univ fun j : Dev nD => reached ER (rCell c i j) 0)) := by
  rw [st_zero]
  unfold Toks FPos
  have e : peers c (recvB (chan (cts I)) i c) = iprop((peers c fun j => cred (tallyAt (rCell c i j) () (chan (cts I) i).N)) ∗ peers c fun j => atPos ER (rCell c i j) 0 ∅ 0) := by
    rw [← peers_sep]; rfl
  rw [e, peers_sep, peers_sep, BI.bigSep_sep', BI.bigSep_sep', peers_split c fun j => atPos ER (sCell c i j) 0 ∅ 0, peers_split c fun j => reached ER (sCell c i j) 0, peers_split c fun j => atPos ER (rCell c i j) 0 ∅ 0]
  iintro ⟨⟨⟨⟨Hsc, Hs⟩, -, Hrs⟩, ⟨Hrc, Hr⟩, Hrr⟩, ⟨Hts, Htr⟩, Hc⟩
  isplitl [Hs Hrs Hr Hts Htr Hc]
  · isplitl [Hrs Hts Htr]
    · isplitl [Hrs Hts]
      · isplitl [Hts] <;> iassumption
      iexact Htr
    isplitl [Hs]
    · iexact Hs
    isplitl [Hc] <;> iassumption
  isplitl [Hsc Hrc]
  · isplitl [Hsc] <;> iassumption
  iexact Hrr

/-- The signals' payloads: a slot for every device in each of the three landing buffers. -/
theorem sig_intro :
    iprop((bigSep Finset.univ fun d : Dev nD => dutyTok ER (bCell d) 0 c) ∗ AllBar
        ∗ ((bigSep Finset.univ fun j : Dev nD => (chan (cts I) 0).dstAny c j) ∗ (bigSep Finset.univ fun j : Dev nD => (chan (cts I) 1).dstAny c j) ∗ (bigSep Finset.univ fun j : Dev nD => (chan (cts I) 2).dstAny c j))
        ∗ ((bigSep Finset.univ fun j : Dev nD => reached ER (rCell c 0 j) 0) ∗ (bigSep Finset.univ fun j : Dev nD => reached ER (rCell c 1 j) 0) ∗ (bigSep Finset.univ fun j : Dev nD => reached ER (rCell c 2 j) 0)))
      ⊢ Sig (chan (cts I)) c 0 := by
  unfold Sig AllBar
  have e : (bigSep Finset.univ fun d : Dev nD => if d.val < 0 then (iprop(emp) : sProp 𝕄) else iprop(dutyTok ER (bCell d) 0 c ∗ barPay (chan (cts I)) d c ∗ reached ER (bCell d) 0))
      = bigSep Finset.univ fun d : Dev nD => iprop(dutyTok ER (bCell d) 0 c ∗ (((chan (cts I) 0).dstAny c d ∗ reached ER (rCell c 0 d) 0) ∗ ((chan (cts I) 1).dstAny c d ∗ reached ER (rCell c 1 d) 0) ∗ ((chan (cts I) 2).dstAny c d ∗ reached ER (rCell c 2 d) 0)) ∗ reached ER (bCell d) 0) :=
    BI.bigSep_congr fun d _ => by
      rw [if_neg (Nat.not_lt_zero _)]
      unfold barPay
      rw [fin3]
  rw [e, BI.bigSep_sep', BI.bigSep_sep', BI.bigSep_sep', BI.bigSep_sep', BI.bigSep_sep', BI.bigSep_sep', BI.bigSep_sep']
  iintro ⟨H1, H2, ⟨H3, H4, H5⟩, H6, H7, H8⟩
  isplitl [H1]
  · iexact H1
  isplitr [H2]
  · isplitl [H3 H6]
    · isplitl [H3] <;> iassumption
    isplitl [H4 H7]
    · isplitl [H4] <;> iassumption
    isplitl [H5] <;> iassumption
  iexact H2

/-- What the device owes when the kernel starts. -/
def O₀ : CellTallies nD τ sig Unit := dueB 0 + (due (chan (cts I)) 0 c 0 + (due (chan (cts I)) 1 c 0 + (due (chan (cts I)) 2 c 0 + 0)))

/-- The seven buffers no window stages, at any contents. -/
def Scr : sProp 𝕄 := iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f))

set_option maxHeartbeats 4000000 in
theorem enter_intro (f5) :
    iprop(Opened I K c ∗ Scr c ∗ (pt c cc0_stg0_0 (I c).x ∗ pt c cc0_stg1_0 (I c).wq ∗ pt c cc0_stg2_0 (I c).k ∗ pt c cc0_stg3_0 (I c).v ∗ pt c cc0_stg4_0 (I c).wo ∗ pt c cc0_stg5_0 f5) ∗ Owe c (O₀ I c))
      ⊢ iprop(Enter I K c ∗ Self c ∗ Recs (chan (cts I)) K) := by
  unfold Opened Scr Enter Self Tokens Creds O₀
  rw [sems49 (F := F) fun sm => iprop(atPos ER ((c : Thread nD τ), sm) 0 ∅ 0 ∗ reached ER ((c : Thread nD τ), sm) 0), fin3, fin3, fin3, fin3]
  iintro ⟨⟨#HBase, #HB, Hb, ⟨⟨Hl, Hlr⟩, Hx0, Hx1, Hx2⟩, ⟨Htb, ⟨Hl0, Hl1, Hl2⟩, Ht0, Ht1, Ht2⟩, Hcb, Hc0, Hc1, Hc2⟩, ⟨⟨%g0, H0⟩, ⟨%g1, H1⟩, ⟨%g2, H2⟩, ⟨%g3, H3⟩, ⟨%g4, H4⟩, ⟨%g5, H5⟩, ⟨%g6, H6⟩⟩, ⟨W0, W1, W2, W3, W4, W5⟩, HO⟩
  ihave X0 := (one_exchange I c 0) $$ [Hx0 Ht0 Hc0]
  · isplitl [Hx0]
    · iexact Hx0
    isplitl [Ht0] <;> iassumption
  ihave X1 := (one_exchange I c 1) $$ [Hx1 Ht1 Hc1]
  · isplitl [Hx1]
    · iexact Hx1
    isplitl [Ht1] <;> iassumption
  ihave X2 := (one_exchange I c 2) $$ [Hx2 Ht2 Hc2]
  · isplitl [Hx2]
    · iexact Hx2
    isplitl [Ht2] <;> iassumption
  icases X0 with ⟨⟨T0, F0, S0⟩, Z0, R0⟩
  icases X1 with ⟨⟨T1, F1, S1⟩, Z1, R1⟩
  icases X2 with ⟨⟨T2, F2, S2⟩, Z2, R2⟩
  ihave D0 := (any_dst0 (cts I) c g1) $$ H1
  ihave D1 := (any_dst1 (cts I) c g4) $$ H4
  ihave D2 := (any_dst2 (cts I) c g6) $$ H6
  ihave HS := (sig_intro I c) $$ [Htb D0 D1 D2 R0 R1 R2]
  · isplitl [Htb]
    · iexact Htb
    isplitr
    · iexact HB
    isplitl [D0 D1 D2]
    · isplitl [D0]
      · iexact D0
      isplitl [D1] <;> iassumption
    isplitl [R0]
    · iexact R0
    isplitl [R1] <;> iassumption
  ihave P0 := (fill_none c (Memref.whole cc0_scratch0) (kvOf (I c)) (kvP 0) (fun x h => Nat.not_lt_zero _ h) g0) $$ H0
  ihave P2 := (fill_none c (Memref.whole cc0_scratch2) (accOf (I c) (kvAt I c)) (accP 0) (fun x h => Nat.not_lt_zero _ h) g2) $$ H2
  ihave P3 := (fill_none c (Memref.whole cc0_scratch3) (rsOf (accAt I c)) (rsP 0) (fun x h => Nat.not_lt_zero _ h) g3) $$ H3
  ihave P5 := (fill_none c (Memref.whole cc0_scratch5) (agOf (rsAt I c)) (fun _ => False) (fun x h => h) g5) $$ H5
  ihave P6 := (fill_none c (win0_5.stage 0) (outOf ((cts I).agR c)) (outP 0) (fun x h => Nat.not_lt_zero _ h) f5) $$ W5
  isplitr [Z0 Z1 Z2]
  · isplitr [HS HO]
    · isplitl [P0]
      · iexact P0
      isplitl [W2]
      · iexact W2
      isplitl [W3]
      · iexact W3
      isplitl [Hcb]
      · iexact Hcb
      isplitl [Hb]
      · iexact Hb
      isplitl [T0 W0 W1 Hl Hlr Hl0 S0]
      · isplitl [T0]
        · iexact T0
        isplitl [W0 W1]
        · isplitl [W0] <;> iassumption
        isplitl [Hl]
        · iexact Hl
        isplitl [Hlr]
        · iexact Hlr
        isplitl [Hl0] <;> iassumption
      isplitl [W4 P2 P3 T1 Hl1 S1]
      · isplitl [W4]
        · iexact W4
        isplitl [P2]
        · iexact P2
        isplitl [P3]
        · iexact P3
        isplitl [T1]
        · iexact T1
        isplitl [Hl1] <;> iassumption
      isplitl [P5 T2 Hl2 S2 P6]
      · isplitl [P5]
        · iexact P5
        isplitl [T2]
        · iexact T2
        isplitl [Hl2]
        · iexact Hl2
        isplitl [S2] <;> iassumption
      isplitl [F0]
      · iexact F0
      isplitl [F1] <;> iassumption
    isplitr
    · iexact HBase
    isplitl [HS] <;> iassumption
  isplitl [Z0 Z1 Z2]
  · isplitl [Z0]
    · iexact Z0
    isplitl [Z1] <;> iassumption
  unfold Base
  icases HBase with ⟨HI, -⟩
  iexact HI

/-! ## Out of the body -/

theorem close_s (i : Fin 3) (n : ℕ) (hn : 1 ≤ n) : iprop(Recs (chan (cts I)) K ∗ (atPos ER (sCell c i c) 0 ∅ 0 ∗ FPos c i n)) ⊢ (|={Set.univ}=> bigSep Finset.univ fun j : Dev nD => semVal (sCell c i j) 0 : sProp 𝕄) := by
  have e : iprop(atPos ER (sCell c i c) 0 ∅ 0 ∗ FPos c i n) = (bigSep Finset.univ fun j : Dev nD => if j = c then (atPos ER (sCell c i j) 0 ∅ 0 : sProp 𝕄) else atPos ER (sCell c i j) n ∅ 0) := by
    rw [peers_split c fun j : Dev nD => if j = c then (atPos ER (sCell c i j) 0 ∅ 0 : sProp 𝕄) else atPos ER (sCell c i j) n ∅ 0, if_pos rfl]
    unfold FPos
    rw [peers_congr fun j h => (if_neg h).symm]
  rw [e]
  refine BIBase.Entails.trans (BI.bigSep_with_persistent fun j _ => ?_) (BI.bigSep_fupd _ _)
  refine BIBase.Entails.trans (sep_mono_left (rec_at (chan (cts I)) K (mem_s c i j))) ?_
  by_cases h : j = c
  · rw [if_pos h]
    exact Rounds.cell_close ER (sched (chan (cts I))) (Set.mem_univ _) id (by subst h; exact never_s (chan (cts I)) _ i)
  · rw [if_neg h]
    exact Rounds.cell_close ER (sched (chan (cts I))) (Set.mem_univ _) id fun r hr => later (chan (cts I)) _ (fun e => sS_ne i j (congrArg Fin.val (SemLoc.dma.inj e))) r (hn.trans hr)

theorem close_r (i : Fin 3) (n : ℕ) (hn : 1 ≤ n) : iprop(Recs (chan (cts I)) K ∗ (atPos ER (rCell c i c) 0 ∅ 0 ∗ RPos c i n)) ⊢ (|={Set.univ}=> bigSep Finset.univ fun j : Dev nD => semVal (rCell c i j) 0 : sProp 𝕄) := by
  have e : iprop(atPos ER (rCell c i c) 0 ∅ 0 ∗ RPos c i n) = (bigSep Finset.univ fun j : Dev nD => if j = c then (atPos ER (rCell c i j) 0 ∅ 0 : sProp 𝕄) else atPos ER (rCell c i j) n ∅ 0) := by
    rw [peers_split c fun j : Dev nD => if j = c then (atPos ER (rCell c i j) 0 ∅ 0 : sProp 𝕄) else atPos ER (rCell c i j) n ∅ 0, if_pos rfl]
    unfold RPos
    rw [peers_congr fun j h => (if_neg h).symm]
  rw [e]
  refine BIBase.Entails.trans (BI.bigSep_with_persistent fun j _ => ?_) (BI.bigSep_fupd _ _)
  refine BIBase.Entails.trans (sep_mono_left (rec_at (chan (cts I)) K (mem_r c i j))) ?_
  by_cases h : j = c
  · rw [if_pos h]
    exact Rounds.cell_close ER (sched (chan (cts I))) (Set.mem_univ _) id (by subst h; exact never_r (chan (cts I)) _ i)
  · rw [if_neg h]
    exact Rounds.cell_close ER (sched (chan (cts I))) (Set.mem_univ _) id fun r hr => later (chan (cts I)) _ (fun e => sR_ne i j (congrArg Fin.val (SemLoc.dma.inj e))) r (hn.trans hr)

/-- What the device has at the kernel's end. -/
def Done : sProp 𝕄 := iprop((semVal (bCell c) 0 ∗ (bigSep Finset.univ fun k : Fin 49 => semVal ((c : Thread nD τ), osem k) 0) ∗ Scr c)
  ∗ (pt c cc0_stg0_0 (I c).x ∗ pt c cc0_stg1_0 (I c).wq ∗ pt c cc0_stg2_0 (I c).k ∗ pt c cc0_stg3_0 (I c).v ∗ pt c cc0_stg4_0 (I c).wo ∗ pt c cc0_stg5_0 (outAt I c)) ∗ Owe c 0)

set_option maxHeartbeats 4000000 in
theorem leave_close : iprop(Leave I c ∗ Self c ∗ Recs (chan (cts I)) K) ⊢ (|={Set.univ}=> Done I c : sProp 𝕄) := by
  unfold Leave Self Done Scr
  rw [sems49 (F := F) fun sm => semVal ((c : Thread nD τ), sm) 0, fin3, fin3]
  iintro ⟨⟨⟨⟨W0, W1⟩, W2, W3, W4, W5⟩, ⟨H0, H1, H2, H3, H4, H5, H6⟩, Hb, ⟨F0, F1, F2⟩, ⟨R0, R1, R2⟩, Hl, HO⟩, ⟨⟨Z0, Y0⟩, ⟨Z1, Y1⟩, Z2, Y2⟩, #HI⟩
  imod (BIBase.Entails.trans (sep_mono_left (rec_at (chan (cts I)) K (mem_b c))) (Rounds.cell_close ER (sched (chan (cts I))) (g := bCell c) (Set.mem_univ _) id
    fun r hr => later (chan (cts I)) (bCell c) (fun e => nomatch e) r hr)) $$ [Hb] with Vb
  · isplitr
    · iexact HI
    iexact Hb
  imod (BIBase.Entails.trans (sep_mono_left (rec_at (chan (cts I)) K (mem_l c))) (Rounds.cell_close ER (sched (chan (cts I))) (g := lCell c) (Set.mem_univ _) id
    fun r hr => later_l (chan (cts I)) c r hr)) $$ [Hl] with Vl
  · isplitr
    · iexact HI
    iexact Hl
  imod (close_s I K c 0 1 le_rfl) $$ [Z0 F0] with A0
  · isplitr
    · iexact HI
    isplitl [Z0] <;> iassumption
  imod (close_r I K c 0 1 le_rfl) $$ [Y0 R0] with B0
  · isplitr
    · iexact HI
    isplitl [Y0] <;> iassumption
  imod (close_s I K c 1 1 le_rfl) $$ [Z1 F1] with A1
  · isplitr
    · iexact HI
    isplitl [Z1] <;> iassumption
  imod (close_r I K c 1 1 le_rfl) $$ [Y1 R1] with B1
  · isplitr
    · iexact HI
    isplitl [Y1] <;> iassumption
  imod (close_s I K c 2 1 le_rfl) $$ [Z2 F2] with A2
  · isplitr
    · iexact HI
    isplitl [Z2] <;> iassumption
  imod (close_r I K c 2 1 le_rfl) $$ [Y2 R2] with B2
  · isplitr
    · iexact HI
    isplitl [Y2] <;> iassumption
  imodintro
  isplitr [W0 W1 W2 W3 W4 W5 HO]
  · isplitl [Vb]
    · iexact Vb
    isplitl [Vl A0 A1 A2 B0 B1 B2]
    · isplitl [Vl]
      · iexact Vl
      isplitl [A0 B0]
      · isplitl [A0] <;> iassumption
      isplitl [A1 B1]
      · isplitl [A1] <;> iassumption
      isplitl [A2] <;> iassumption
    isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    iexists _; iexact H6
  isplitr [HO]
  · isplitl [W0]
    · iexact W0
    isplitl [W1]
    · iexact W1
    isplitl [W2]
    · iexact W2
    isplitl [W3]
    · iexact W3
    isplitl [W4]
    · iexact W4
    iexact W5
  iexact HO

/-- The whole body, from what the pipeline gives it to what it must give back. -/
theorem body_whole (f5) :
    iprop(Opened I K c ∗ Scr c ∗ (pt c cc0_stg0_0 (I c).x ∗ pt c cc0_stg1_0 (I c).wq ∗ pt c cc0_stg2_0 (I c).k ∗ pt c cc0_stg3_0 (I c).v ∗ pt c cc0_stg4_0 (I c).wo ∗ pt c cc0_stg5_0 f5) ∗ Owe c (O₀ I c))
      ⊢ WPc c (onBufs (cc0_body (F := F))) fun _ => Done I c := by
  refine BIBase.Entails.trans (enter_intro I K c f5) ?_
  refine BIBase.Entails.trans (sep_mono_left (body_spec I K c (Q := fun _ => Leave I c) (BI.Entails.refl _))) ?_
  refine BIBase.Entails.trans (wp_frame_r _ _ _) ?_
  refine BIBase.Entails.trans (wp_mono _ _ _ fun _ => leave_close I K c) ?_
  exact wp_fupd _ _ _ _ _

end Cert.KernelIdeal.Run
-- ==== Proof.Area.lean ====
/-
  The kernel's region: what its windows hold, the body's obligation, and the region as a segment of the program.
-/
module

public import proofs.«01_k».proof.Proof.Open
public import proofs.«01_k».proof.Proof.Gen.KernelIdeal.Frame
public import Idealize.ShloMosaic.Lib.Pipeline.RegionTalk

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

open Idealize.ShloMosaic.Pipeline (BodyObligation)

variable (m : (ℓ : Loc nD τ sig) → Buf (Elt F) ℓ)

/-! ## The region's data -/

/-- The five operands of device c, as its windows stage them. -/
def ins (c : Dev nD) : Ins F where
  x := iblk m c 0 t0_0
  wq := iblk m c 1 t0_0
  k := iblk m c 2 t0_0
  v := iblk m c 3 t0_0
  wo := iblk m c 4 t0_0

abbrev owed₀ (c : Dev nD) : CellTallies nD τ sig Unit := O₀ (ins m) c

def Xk (c : Dev nD) : sProp 𝕄 := iprop(∃ K : GSem nD τ sig → ℕ, Opened (ins m) K c)
def ΦIn (c : Dev nD) : sProp 𝕄 := iprop(Scr c ∗ (∃ r, prngReg c r) ∗ Xk m c)
def ΦOut (c : Dev nD) : sProp 𝕄 := iprop(Scr c ∗ (∃ r, prngReg c r) ∗ (bigSep Finset.univ fun k : Fin 49 => semVal ((c : Thread nD τ), osem k) 0) ∗ semVal (bCell c) 0)

def dat0 (c : Dev nD) : Pipeline.Dat τ (Elt F) Unit ℕ UU ℕ cfg0 c where
  A w := V m c (Pipeline.arrRef spec0 w)
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => outAt (ins m) c
  Φ t := if t.val = 0 then ΦIn m c else ΦOut c
  q _ := fullShare
  owed t := if t.val = 0 then owed₀ m c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_zero (c : Dev nD) : (dat0 m c).owed 0 = owed₀ m c := by
  show (if (0 : Fin (cfg0.N + 1)).val = 0 then owed₀ m c else 0) = _; exact if_pos rfl
theorem owed_last (c : Dev nD) : (dat0 m c).owed (Fin.last cfg0.N) = 0 := by
  show (if (Fin.last cfg0.N).val = 0 then owed₀ m c else 0) = 0
  rw [Fin.val_last, if_neg (by rw [show cfg0.N = 1 from N_0]; decide)]
theorem Φ_zero (c : Dev nD) : (dat0 m c).Φ 0 = ΦIn m c := by
  show (if (0 : Fin (cfg0.N + 1)).val = 0 then ΦIn m c else ΦOut c) = _; exact if_pos rfl
theorem Φ_last (c : Dev nD) : (dat0 m c).Φ (Fin.last cfg0.N) = ΦOut c := by
  show (if (Fin.last cfg0.N).val = 0 then ΦIn m c else ΦOut c) = _
  rw [Fin.val_last, if_neg (by rw [show cfg0.N = 1 from N_0]; decide)]

theorem owesAt_intro {c : Dev nD} (dat : Pipeline.Dat τ (Elt F) Unit ℕ UU ℕ cfg0 c) (t) (O) (h0 : dat.owed t = O) (hr : dat.recorded t = Set.univ) (W) :
    (owes (c : Thread nD τ) O W : sProp 𝕄) ⊢ dat.owesAt () t := by
  unfold Pipeline.Dat.owesAt Pipeline.owesWithin Pipeline.Dat.bound
  rw [h0, hr]
  iintro HO
  iexists W
  isplitr
  · ipureintro; exact fun _ _ => Or.inl trivial
  iexact HO
theorem owesAt_elim {c : Dev nD} (dat : Pipeline.Dat τ (Elt F) Unit ℕ UU ℕ cfg0 c) (t) (O) (h0 : dat.owed t = O) :
    dat.owesAt () t ⊢ (Owe c O : sProp 𝕄) := by
  unfold Pipeline.Dat.owesAt Pipeline.owesWithin Owe
  rw [h0]
  iintro ⟨%W, -, HO⟩
  iexists W
  iexact HO

/-! ## The body's obligation -/

theorem before_0 (c : Dev nD) (d) : (dat0 m c).before 0 t0_0 d = iblk m c 0 t0_0 := by
  unfold Pipeline.Dat.before; rw [if_pos (by decide)]; rfl
theorem before_1 (c : Dev nD) (d) : (dat0 m c).before 1 t0_0 d = iblk m c 1 t0_0 := by
  unfold Pipeline.Dat.before; rw [if_pos (by decide)]; rfl
theorem before_2 (c : Dev nD) (d) : (dat0 m c).before 2 t0_0 d = iblk m c 2 t0_0 := by
  unfold Pipeline.Dat.before; rw [if_pos (by decide)]; rfl
theorem before_3 (c : Dev nD) (d) : (dat0 m c).before 3 t0_0 d = iblk m c 3 t0_0 := by
  unfold Pipeline.Dat.before; rw [if_pos (by decide)]; rfl
theorem before_4 (c : Dev nD) (d) : (dat0 m c).before 4 t0_0 d = iblk m c 4 t0_0 := by
  unfold Pipeline.Dat.before; rw [if_pos (by decide)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_at : (defs₀ (F := F)) .tc cfg0.body (cfg0.bodyArgs t0_0 (cfg0.slots t0_0)) = onBufs (cc0_body (F := F)) := rfl

/-- The staging buffers, each at what the kernel finds or leaves there. -/
def Stg (c : Dev nD) (f5 : Buf (Elt F) ((c : Thread nD τ).loc cc0_stg5_0)) : sProp 𝕄 :=
  iprop(pt c cc0_stg0_0 (ins m c).x ∗ pt c cc0_stg1_0 (ins m c).wq ∗ pt c cc0_stg2_0 (ins m c).k ∗ pt c cc0_stg3_0 (ins m c).v ∗ pt c cc0_stg4_0 (ins m c).wo ∗ pt c cc0_stg5_0 f5)

theorem body_mid (c : Dev nD) (f5 : Buf (Elt F) ((c : Thread nD τ).loc cc0_stg5_0)) : iprop(ΦIn m c ∗ Owe c (owed₀ m c) ∗ Stg m c f5)
    ⊢ WPc c (onBufs (cc0_body (F := F))) fun _ => iprop(ΦOut c ∗ Owe c 0 ∗ Stg m c (outAt (ins m) c)) := by
  unfold ΦIn Xk Stg
  iintro ⟨⟨HS, Hp, ⟨%K, HK⟩⟩, HO, HW⟩
  ihave Hw := (body_whole (ins m) K c f5) $$ [HK HS HO HW]
  · isplitl [HK]
    · iexact HK
    isplitl [HS]
    · iexact HS
    isplitl [HW]
    · iexact HW
    iexact HO
  have h : iprop(Done (ins m) c ∗ (∃ r, prngReg c r)) ⊢ (iprop(ΦOut c ∗ Owe c 0 ∗ Stg m c (outAt (ins m) c)) : sProp 𝕄) := by
    unfold Done ΦOut Stg
    iintro ⟨⟨⟨Hb, Hk, HS⟩, HW, HO⟩, Hp⟩
    isplitl [HS Hp Hk Hb]
    · isplitl [HS]
      · iexact HS
      isplitl [Hp]
      · iexact Hp
      isplitl [Hk] <;> iassumption
    isplitl [HO] <;> iassumption
  iapply (show iprop(WPc c (onBufs (cc0_body (F := F))) (fun _ => Done (ins m) c) ∗ (∃ r, prngReg c r)) ⊢ WPc c (onBufs (cc0_body (F := F))) (fun _ => iprop(ΦOut c ∗ Owe c 0 ∗ Stg m c (outAt (ins m) c))) from
    BIBase.Entails.trans (wp_frame_r _ _ _) (wp_mono _ _ _ fun _ => h))
  isplitl [Hw] <;> iassumption

set_option maxRecDepth 4000 in
theorem stg_in (c : Dev nD) : (bigSep Finset.univ fun w : Fin cfg0.W => iprop(∃ d, owns (c : Thread nD τ) ((cfg0.win w).stage (cfg0.slots t0_0 w)) fullShare ((dat0 m c).before w t0_0 d)))
    ⊢ iprop(∃ f5, Stg m c f5) := by
  rw [bigSep_W0]
  simp only [owns_whole_eq]
  iintro ⟨⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  rw [before_3] at hf3
  rw [before_4] at hf4
  subst hf0 hf1 hf2 hf3 hf4
  iexists f5
  unfold Stg
  isplitl [H0]
  · iexact H0
  isplitl [H1]
  · iexact H1
  isplitl [H2]
  · iexact H2
  isplitl [H3]
  · iexact H3
  isplitl [H4]
  · iexact H4
  iexact H5

set_option maxRecDepth 4000 in
theorem stg_out (c : Dev nD) : Stg m c (outAt (ins m) c)
    ⊢ bigSep Finset.univ fun w : Fin cfg0.W => owns (c : Thread nD τ) ((cfg0.win w).stage (cfg0.slots t0_0 w)) fullShare ((dat0 m c).after w t0_0) := by
  rw [bigSep_W0]
  simp only [owns_whole_eq]
  unfold Stg
  iintro ⟨H0, H1, H2, H3, H4, H5⟩
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; rfl

theorem body_obligation (c : Dev nD) : BodyObligation (dat0 (F := F) m c) (defs₀ (F := F)) 𝒱₀ () Set.univ := fun t => by
  obtain rfl := fin_N0 t
  show iprop((dat0 m c).Φ t0_0.castSucc ∗ (dat0 m c).owesAt () t0_0.castSucc
      ∗ bigSep Finset.univ fun w : Fin cfg0.W => iprop(∃ d, owns (c : Thread nD τ) ((cfg0.win w).stage (cfg0.slots t0_0 w)) fullShare ((dat0 m c).before w t0_0 d)))
    ⊢ wp frame (wpE (defs₀ (F := F)) 𝒱₀ (c : Thread nD τ) none) Set.univ ((defs₀ (F := F)) .tc cfg0.body (cfg0.bodyArgs t0_0 (cfg0.slots t0_0))) fun _ =>
      iprop((dat0 m c).Φ t0_0.succ ∗ (dat0 m c).owesAt () t0_0.succ
        ∗ bigSep Finset.univ fun w : Fin cfg0.W => owns (c : Thread nD τ) ((cfg0.win w).stage (cfg0.slots t0_0 w)) fullShare ((dat0 m c).after w t0_0))
  rw [body_at, show (dat0 m c).Φ t0_0.castSucc = ΦIn m c from Φ_zero m c, show (dat0 m c).Φ t0_0.succ = ΦOut c from Φ_last m c]
  refine BIBase.Entails.trans (sep_mono_right (BIClass.sep_mono (owesAt_elim (dat0 m c) t0_0.castSucc (owed₀ m c) (owed_zero m c)) (stg_in m c))) ?_
  refine BIBase.Entails.trans (show _ ⊢ iprop(∃ f5, ΦIn m c ∗ Owe c (owed₀ m c) ∗ Stg m c f5) from by
    iintro ⟨H1, H2, ⟨%f5, H3⟩⟩
    iexists f5
    isplitl [H1]
    · iexact H1
    isplitl [H2] <;> iassumption) ?_
  iintro ⟨%f5, H⟩
  ihave Hw := (body_mid m c f5) $$ H
  iapply (wp_mono _ _ _ fun _ => ?_) $$ Hw
  refine sep_mono_right (BIClass.sep_mono ?_ (stg_out m c))
  unfold Owe
  iintro ⟨%W, HO⟩
  iapply (owesAt_intro (dat0 m c) t0_0.succ 0 (owed_last m c) rfl W)
  iexact HO

/-! ## The region as a segment -/

def Tk (c : Dev nD) : sProp 𝕄 := iprop(∃ K : GSem nD τ sig → ℕ, Closed (ins m) K c)
def Yk (c : Dev nD) : sProp 𝕄 := semVal (bCell c) 0

theorem own_eq (c : Dev nD) : (Pipeline.ownSems0 osem c : sProp 𝕄) = bigSep Finset.univ fun k : Fin 49 => semVal ((c : Thread nD τ), osem k) 0 := rfl
theorem scr_eq (c : Dev nD) : (Pipeline.scopedRest (Pipeline.pin (pcfgs (F := F)) adm 0).spec c : sProp 𝕄) = Scr c :=
  (scopedRest0_eq (Val := Elt F) c).trans rfl

theorem hopen0 (c : Dev nD) : iprop(Tk m c ∗ Pipeline.ownSems0 osem c ∗ levAts L lv) ⊢ (|={Set.univ}=> Xk m c : sProp 𝕄) := by
  rw [own_eq]
  unfold Tk Xk
  iintro ⟨⟨%K, H⟩, Hs, HL⟩
  imod (open_all (ins m) K c) $$ [H Hs HL] with HX
  · isplitl [H]
    · iexact H
    isplitl [Hs]
    · iexact Hs
    iexact HL
  imodintro
  iexists K
  iexact HX

theorem held_none (c : Dev nD) (W : Valuation τ sig (Elt F)) : (StableHlo.held (c.tc : Thread nD τ) ∅ W : sProp 𝕄) = iprop(emp) := by
  unfold StableHlo.held
  exact BI.bigSep_empty

theorem hin0 (c : Dev nD) (W : Valuation τ sig (Elt F)) : iprop(Pipeline.scopedRest (Pipeline.pin (pcfgs (F := F)) adm 0).spec c ∗ (∃ r, prngReg c r) ∗ StableHlo.held (c.tc : Thread nD τ) ∅ W ∗ Xk m c)
    ⊢ (pdats m 0 c).Φ 0 := by
  rw [show (pdats m 0 c).Φ 0 = ΦIn m c from Φ_zero m c, held_none, scr_eq]
  unfold ΦIn
  iintro ⟨HS, Hp, -, HX⟩
  isplitl [HS]
  · iexact HS
  isplitl [Hp] <;> iassumption

theorem hout0 (c : Dev nD) (W : Valuation τ sig (Elt F)) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W ∗ Pipeline.ownSems0 osem c ∗ Yk c) := by
  rw [show (pdats m 0 c).Φ (Fin.last (Pipeline.pin (pcfgs (F := F)) adm 0).N) = ΦOut c from Φ_last m c, held_none, scr_eq, own_eq]
  unfold ΦOut Yk
  iintro ⟨HS, Hp, Hk, Hb⟩
  isplitl [HS]
  · iexact HS
  isplitl [Hp]
  · iexact Hp
  isplitr
  · iempintro
  isplitl [Hk]
  · iexact Hk
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) : Above 0 (owed₀ m c) := by
  unfold owed₀ O₀
  exact ((above_sum _ _ fun d _ => above_tally (by rw [lv_b]; decide)).add ((due_above _ 0 c 0).mono (Nat.zero_le _) |>.add
    (((due_above _ 1 c 0).mono (Nat.zero_le _)).add (((due_above _ 2 c 0).mono (Nat.zero_le _)).add (above_zero 0)))))

theorem lv_stage (c : Dev nD) (w : Fin 6) (s) : lv ((c : Thread nD τ), .dma ((cfg0.win w).sem s)) () ≤ 0 := by
  decide +revert

/-- The valuation the region leaves: its result replaced. -/
abbrev Vin (c : Dev nD) : Valuation τ sig (Elt F) := StableHlo.after hostOps0 (fun b => m (c, b))
abbrev Vend (c : Dev nD) : Valuation τ sig (Elt F) := Function.update (Vin m c) (Proc.devRef .tc main_v3) ((dat0 m c).arrAt 5 cfg0.N)

theorem Vend_ne (c : Dev nD) (b : DevRef τ sig) (h : b ≠ Proc.devRef .tc main_v3) : Vend m c b = Vin m c b := Function.update_of_ne h _ _

theorem arr_end (c : Dev nD) (w : Fin 6) : (dat0 m c).arrAt w cfg0.N = Vend m c (Proc.devRef .tc (Pipeline.arrRef spec0 w)) := by
  match w with
  | 0 => exact ((dat0 m c).arrAt_in 0 rfl _).trans (Vend_ne m c (Proc.devRef .tc main_arg0) (by decide)).symm
  | 1 => exact ((dat0 m c).arrAt_in 1 rfl _).trans (Vend_ne m c (Proc.devRef .tc main_arg1) (by decide)).symm
  | 2 => exact ((dat0 m c).arrAt_in 2 rfl _).trans (Vend_ne m c (Proc.devRef .tc main_v1) (by decide)).symm
  | 3 => exact ((dat0 m c).arrAt_in 3 rfl _).trans (Vend_ne m c (Proc.devRef .tc main_v2) (by decide)).symm
  | 4 => exact ((dat0 m c).arrAt_in 4 rfl _).trans (Vend_ne m c (Proc.devRef .tc main_arg4) (by decide)).symm
  | 5 => exact (Function.update_self (Proc.devRef .tc main_v3) _ (Vin m c)).symm

/-- The two argument arrays that no window stages. -/
abbrev rest : Finset (DevRef τ sig) := {Proc.devRef .tc main_arg2, Proc.devRef .tc main_arg3}

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_obligation m c).loose)
    (fun _ => 0) (owed₀ m) (fun c => (owed_zero m c).trans (zero_add _).symm) (owed_last m) (fun _ => rfl)
    (fun c w => (dat0 m c).share_full (fun _ => rfl) w)
    (Vin m) (Vend m) (fun c b hb => Vend_ne m c b (by
      intro h; subst h
      exact absurd (Finset.mem_sdiff.mp hb).1 (by decide)))
    (Tk m) Yk (Xk m) Yk (hopen0 m) (fun c => hin0 m c (Vin m c)) (fun c => hout0 m c (Vend m c))
    (fun c => by iintro H; imodintro; iexact H)
    (fun _ => 0)
    ⟨fun c w s => by rw [L_tc]; exact Finset.mem_singleton_self _, fun c w s => lv_stage c w s, fun c t g i h => by
      have e : (pdats (F := F) m 0 c).owed t = if t.val = 0 then owed₀ m c else 0 := rfl
      rw [e] at h
      split at h
      · exact owed_above m c g i h
      · exact absurd h (Nat.lt_irrefl 0)⟩
    (fun _ => iprop(emp))
    (fun _ _ => rfl) (fun c w => arr_end m c w)

end Cert.KernelIdeal.Run
-- ==== Proof.Run.lean ====
/-
  The launch: the protocol's ghost state dealt, the program as segments, and the run from any memory.
-/
module

public import proofs.«01_k».proof.Proof.Area

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ) (ρ : Dev nD → PrngReg)

/-! ## The tokens -/

abbrev Tok := GSem nD τ sig × ℕ × Dev nD
def tok (x : Tok) : sProp 𝕄 := dutyTok ER x.1 x.2.1 x.2.2

theorem osem_inj : Function.Injective osem := fun a b h => by
  have h' : 6 + a.val = 6 + b.val := congrArg Fin.val (SemLoc.dma.inj h)
  exact Fin.ext (by omega)

def barEmb : Dev nD × Dev nD ↪ Tok := ⟨fun p => (bCell p.1, 0, p.2), fun _ _ h =>
  Prod.ext (congrArg (fun t : Tok => t.1.1.1) h) (congrArg (fun t : Tok => t.2.2) h)⟩
def dmaEmb : Dev nD × Fin 49 × Fin 3 ↪ Tok := ⟨fun p => (((p.1 : Thread nD τ), osem p.2.1), p.2.2.val, 0), fun _ _ h =>
  Prod.ext (congrArg (fun t : Tok => t.1.1.1) h) (Prod.ext (osem_inj (congrArg (fun t : Tok => t.1.2) h)) (Fin.ext (congrArg (fun t : Tok => t.2.1) h)))⟩
def toks : Finset Tok := Finset.univ.map barEmb ∪ Finset.univ.map dmaEmb

theorem toks_disjoint : Disjoint (Finset.univ.map barEmb) (Finset.univ.map dmaEmb) := by
  rw [Finset.disjoint_left]
  rintro x h₁ h₂
  obtain ⟨p, -, rfl⟩ := Finset.mem_map.mp h₁
  obtain ⟨q, -, h⟩ := Finset.mem_map.mp h₂
  have e : SemLoc.dma _ = SemLoc.reg _ := congrArg (fun t : Tok => t.1.2) h
  exact nomatch e

def lToks (c : Dev nD) : sProp 𝕄 := iprop(dutyTok ER (lCell c) 0 (0 : Dev nD) ∗ dutyTok ER (lCell c) 1 (0 : Dev nD) ∗ dutyTok ER (lCell c) 2 (0 : Dev nD))
def sToks (c : Dev nD) (i : Fin 3) : sProp 𝕄 := peers c fun j => dutyTok ER (sCell c i j) 0 (0 : Dev nD)

theorem peers_of (c : Dev nD) (A : Dev nD → sProp 𝕄) : bigSep Finset.univ A ⊢ peers c A := by
  rw [peers_split c A]
  iintro ⟨-, H⟩
  iexact H

/-- Of a device's own cells' tokens: the local cell's three, and the first of every other. -/
theorem own_toks (c : Dev nD) : (bigSep Finset.univ fun k : Fin 49 => bigSep Finset.univ fun r : Fin 3 => (dutyTok ER ((c : Thread nD τ), osem k) r.val (0 : Dev nD) : sProp 𝕄))
    ⊢ iprop(lToks c ∗ (bigSep Finset.univ fun i : Fin 3 => sToks c i) ∗ bigSep Finset.univ fun i : Fin 3 => bigSep Finset.univ fun j : Dev nD => dutyTok ER (rCell c i j) 0 (0 : Dev nD)) := by
  have first (g : GSem nD τ sig) : (bigSep Finset.univ fun r : Fin 3 => (dutyTok ER g r.val (0 : Dev nD) : sProp 𝕄)) ⊢ dutyTok ER g 0 (0 : Dev nD) :=
    BI.bigSep_elim (Finset.mem_univ (0 : Fin 3))
  rw [sems49 (F := F) fun sm => bigSep Finset.univ fun r : Fin 3 => (dutyTok ER ((c : Thread nD τ), sm) r.val (0 : Dev nD) : sProp 𝕄), BI.bigSep_sep', fin3 fun r : Fin 3 => dutyTok ER (lCell c) r.val (0 : Dev nD)]
  refine BIClass.sep_mono (BI.Entails.refl _) (BIClass.sep_mono (BI.bigSep_mono fun i _ => ?_) (BI.bigSep_mono fun i _ => BI.bigSep_mono fun j _ => first _))
  exact BIBase.Entails.trans (BI.bigSep_mono fun j _ => first _) (peers_of c _)

/-- The receive cells' tokens, each to the device that will pay it. -/
theorem r_swap : (bigSep Finset.univ fun c : Dev nD => bigSep Finset.univ fun i : Fin 3 => bigSep Finset.univ fun j : Dev nD => (dutyTok ER (rCell c i j) 0 (0 : Dev nD) : sProp 𝕄))
    ⊢ bigSep Finset.univ fun c : Dev nD => bigSep Finset.univ fun i : Fin 3 => peers c fun j => (dutyTok ER (rCell j i c) 0 (0 : Dev nD) : sProp 𝕄) := by
  rw [BI.bigSep_univ_comm fun (c : Dev nD) (i : Fin 3) => bigSep Finset.univ fun j : Dev nD => (dutyTok ER (rCell c i j) 0 (0 : Dev nD) : sProp 𝕄),
    BI.bigSep_univ_comm fun (c : Dev nD) (i : Fin 3) => peers c fun j => (dutyTok ER (rCell j i c) 0 (0 : Dev nD) : sProp 𝕄)]
  refine BI.bigSep_mono fun i _ => ?_
  rw [BI.bigSep_univ_comm fun (c : Dev nD) (j : Dev nD) => (dutyTok ER (rCell c i j) 0 (0 : Dev nD) : sProp 𝕄)]
  exact BI.bigSep_mono fun c _ => peers_of c _

theorem toks_deal : bigSep toks (fun x => (dutyTok ER x.1 x.2.1 x.2.2 : sProp 𝕄)) ⊢ bigSep Finset.univ fun c : Dev nD => Tokens c := by
  unfold toks Tokens
  rw [BI.bigSep_union toks_disjoint, BI.bigSep_map, BI.bigSep_map, BI.bigSep_univ_prod, BI.bigSep_univ_prod, BI.bigSep_sep', BI.bigSep_sep']
  refine BIClass.sep_mono (Entails.of_eq (BI.bigSep_univ_comm _)) ?_
  refine BIBase.Entails.trans (BI.bigSep_mono fun c _ => BIBase.Entails.trans (Entails.of_eq (BI.bigSep_univ_prod _)) (own_toks c)) ?_
  rw [BI.bigSep_sep', BI.bigSep_sep']
  refine BIClass.sep_mono (BI.Entails.refl _) ?_
  refine BIBase.Entails.trans (sep_mono_right r_swap) ?_
  rw [← BI.bigSep_sep']
  exact BI.bigSep_mono fun c _ => by rw [BI.bigSep_sep']; exact BI.Entails.refl _

/-! ## The credit -/

/-- Tallies at one thread's cells only. -/
def OnDev (t : Thread nD τ) (O : CellTallies nD τ sig Unit) : Prop := ∀ g, g.1 ≠ t → O g = 0
theorem onDev_zero (t : Thread nD τ) : OnDev t 0 := fun _ _ => rfl
theorem OnDev.add {t : Thread nD τ} {O O' : CellTallies nD τ sig Unit} (h : OnDev t O) (h' : OnDev t O') : OnDev t (O + O') := fun g hg => by
  rw [Pi.add_apply, h g hg, h' g hg, add_zero]
theorem onDev_tally (t : Thread nD τ) (sm : SemLoc sig) (n : ℕ) : OnDev t (tallyAt (t, sm) () n) := fun g hg =>
  tallyAt_ne_cell (fun h => hg (congrArg Prod.fst h)) () n
theorem onDev_sum {ι : Type} (t : Thread nD τ) (s : Finset ι) (f : ι → CellTallies nD τ sig Unit) (h : ∀ a ∈ s, OnDev t (f a)) : OnDev t (∑ a ∈ s, f a) :=
  Finset.sum_induction _ _ (fun _ _ => OnDev.add) (onDev_zero t) h

section
variable (I : Dev nD → Ins F)

/-- The credit of exchange i that device c waits for, and all its credit. -/
def tl (i : Fin 3) (c : Dev nD) : CellTallies nD τ sig Unit := ∑ j : Dev nD, if j = c then 0 else tallyAt (rCell c i j) () (chan (cts I) i).N
def tAll (c : Dev nD) : CellTallies nD τ sig Unit := tallyAt (bCell c) () 8 + (tl I 0 c + (tl I 1 c + (tl I 2 c + 0)))

theorem sum_due (i : Fin 3) : ∑ d : Dev nD, due (chan (cts I)) i d 0 = ∑ d : Dev nD, tl I i d := by
  unfold tl
  have h (d : Dev nD) : due (chan (cts I)) i d 0 = ∑ j : Dev nD, if d = j then 0 else tallyAt (rCell j i d) () (chan (cts I) i).N := by
    unfold due
    rw [Finset.sum_filter]
    refine Finset.sum_congr rfl fun j _ => ?_
    by_cases e : j = d
    · rw [if_neg (fun h => h.2 e), if_pos e.symm]
    · rw [if_pos ⟨Nat.zero_le _, e⟩, if_neg (fun h => e h.symm)]
  rw [Finset.sum_congr rfl fun d _ => h d, Finset.sum_comm]

theorem sum_bar : ∑ _d : Dev nD, dueB 0 = ∑ d : Dev nD, (tallyAt (bCell d) () 8 : CellTallies nD τ sig Unit) := by
  unfold dueB
  rw [Finset.filter_true_of_mem (fun d _ => Nat.zero_le d.val), Finset.sum_comm]
  refine Finset.sum_congr rfl fun d _ => ?_
  rw [Finset.sum_const, Finset.card_univ, show Fintype.card (Dev nD) = 8 from by decide]
  simp only [succ_nsmul, zero_nsmul, zero_add, tallyAt_add]

theorem creds_of (c : Dev nD) : (Pipeline.launchCred (O₀ I) c : sProp 𝕄) ⊢ Creds I c := by
  rw [Pipeline.launchCred_of_sum (O₀ I) (tAll I) (by
    unfold O₀ tAll
    simp only [Finset.sum_add_distrib]
    rw [sum_bar, sum_due, sum_due, sum_due]) (fun d g h => by
    by_contra hne
    refine h (OnDev.add (onDev_tally _ _ _) (OnDev.add ?_ (OnDev.add ?_ (OnDev.add ?_ (onDev_zero _)))) g hne) <;>
    · refine onDev_sum _ _ _ fun j _ => ?_
      split
      · exact onDev_zero _
      · exact onDev_tally _ _ _) c]
  have h (i : Fin 3) : (cred (tl I i c) : sProp 𝕄) = peers c fun j => cred (tallyAt (rCell c i j) () (chan (cts I) i).N) := by
    unfold tl peers
    rw [Pipeline.cred_finsetSum]
    refine BI.bigSep_congr fun j _ => ?_
    split
    · exact cred_zero
    · rfl
  unfold tAll Creds
  rw [fin3, ← h, ← h, ← h]
  refine BIBase.Entails.trans (cred_add _ _).1 (sep_mono_right (BIBase.Entails.trans (cred_add _ _).1 (sep_mono_right (BIBase.Entails.trans (cred_add _ _).1 (sep_mono_right ?_)))))
  rw [add_zero]
end

/-! ## The program as segments -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) := by
  rw [StableHlo.held_sub_split (c : Thread nD τ) (show Pipeline.arrRefs (τ := τ) spec0 ⊆ bufs from by decide) W,
    show bufs \ Pipeline.arrRefs (τ := τ) spec0 = rest from by decide]

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3) ∗ pt c main_arg4 (W main_arg4)
      ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3] (by decide) (by decide)]
  rfl

theorem unscopedSems0_eq (c : Dev nD) : (unscopedSems0 c : sProp 𝕄) = semVal (bCell c) 0 := by
  unfold unscopedSems0
  rw [show (Finset.univ.filter fun sm : SemLoc sig => ¬ sm.isScoped .tc) = {SemLoc.reg sB} from by decide, BI.bigSep_singleton]

/-- The memory as launched. -/
abbrev Vstart (c : Dev nD) : Valuation τ sig (Elt F) := fun b => m (c, b)

def R (c : Dev nD) : sProp 𝕄 := iprop(Tk m c ∗ (∃ r, prngReg c r) ∗ Owe c (owed₀ m c))

theorem ops_sub : ∀ op ∈ (hostOps0 : List (HloOp τ sig (Elt F))), op.bufs ⊆ bufs := by
  intro op h
  simp only [hostOps0, List.mem_cons, List.mem_nil_iff, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide
theorem ops_fresh : ∀ op ∈ (hostOps0 : List (HloOp τ sig (Elt F))), op.fresh = ∅ := List.forall_iff_forall_mem.mp hostOps0_fresh

def seg0 : Pipeline.HostSeg (Ix := Unit) (Name := ℕ) (U := UU) (Lvl := ℕ) (pcfgs (F := F)) defs₀ 𝒱₀ L lv :=
  Pipeline.HostSeg.ofOps _ _ _ _ _ bufs hostOps0 ops_sub ops_fresh (Vstart m) (R m)

theorem reg0_pre (c : Dev nD) : iprop(StableHlo.held (c : Thread nD τ) bufs (Vin m c) ∗ R m c) ⊢ (reg0 m).pre c := by
  show _ ⊢ iprop(StableHlo.held (c.tc : Thread nD τ) (Pipeline.arrRefs (τ := τ) spec0) (Vin m c) ∗ (∃ r, prngReg c r)
    ∗ (StableHlo.held (c.tc : Thread nD τ) rest (Vin m c) ∗ emp) ∗ Tk m c ∗ ∃ Wd, owes (c : Thread nD τ) (0 + owed₀ m c) Wd)
  rw [bufs_split, zero_add]
  unfold R Owe
  iintro ⟨⟨Ha, Hr⟩, HT, Hp, HO⟩
  isplitl [Ha]
  · iexact Ha
  isplitl [Hp]
  · iexact Hp
  isplitl [Hr]
  · isplitl [Hr]
    · iexact Hr
    iempintro
  isplitl [HT]
  · iexact HT
  iexact HO

abbrev Tend (c : Dev nD) : sProp 𝕄 := iprop(StableHlo.held (c : Thread nD τ) bufs (Vend m c) ∗ semVal (bCell c) 0)

theorem reg0_post (c : Dev nD) : (reg0 m).post c ⊢ iprop(Tend m c ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) rest (Vend m c) ∗ emp) ∗ Yk c ∗ ∃ Wd, owes (c : Thread nD τ) (0 : CellTallies nD τ sig Unit) Wd) ⊢ _
  unfold Tend
  rw [bufs_split]
  unfold Yk
  iintro ⟨Ha, -, ⟨Hr, -⟩, Hb, HO⟩
  isplitl [Ha Hr Hb]
  · isplitl [Ha Hr]
    · isplitl [Ha] <;> iassumption
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch -/

theorem cells_disjoint : Disjoint barCells exCells := by
  rw [Finset.disjoint_left]
  rintro g h₁ h₂
  obtain ⟨c, -, rfl⟩ := Finset.mem_image.mp h₁
  obtain ⟨p, -, h⟩ := Finset.mem_image.mp h₂
  have e : SemLoc.dma _ = SemLoc.reg _ := congrArg Prod.snd h
  exact nomatch e

theorem bSep_b (Φ : GSem nD τ sig → sProp 𝕄) : bigSep barCells Φ = bigSep Finset.univ fun c : Dev nD => Φ (bCell c) :=
  BI.bigSep_image_of_injOn (fun _ _ _ _ h => congrArg (fun g : GSem nD τ sig => g.1.1) h) Φ
theorem bSep_x (Φ : GSem nD τ sig → sProp 𝕄) : bigSep exCells Φ = bigSep Finset.univ fun c : Dev nD => bigSep Finset.univ fun k : Fin 49 => Φ ((c : Thread nD τ), osem k) := by
  unfold exCells
  rw [BI.bigSep_image_of_injOn (fun _ _ _ _ h => Prod.ext (congrArg (fun g : GSem nD τ sig => g.1.1) h) (osem_inj (congrArg (fun g : GSem nD τ sig => g.2) h))) Φ, BI.bigSep_univ_prod]

theorem stages_inj : Function.Injective (Pipeline.cellOf (nD := nD) (τ := τ) (Pipeline.pin (pcfgs (F := F)) adm)) := cellOf_inj

def u₀ : UU :=
  (initOf (Pipeline.cells (Pipeline.pin (pcfgs (F := F)) adm) stages_inj) (Pipeline.launchToks (Pipeline.pin (pcfgs (F := F)) adm) stages_inj),
    launchOf barCells exCells toks)

/-- All of a resource on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bs_at (Finset.mem_univ c₀), BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact emp_r X

def G : Dev nD → sProp 𝕄 := onDev 0 (BI.own (ER (launchOf barCells exCells toks)))

def linear (c : Dev nD) : sProp 𝕄 := iprop(atPos ER (bCell c) 0 ∅ 0 ∗ (bigSep Finset.univ fun k : Fin 49 => openTok ER ((c : Thread nD τ), osem k)) ∗ Tokens c)
def bundle (c : Dev nD) : sProp 𝕄 := iprop(StableHlo.held (c : Thread nD τ) bufs (Vstart m c) ∗ Creds (ins m) c ∗ owes (c : Thread nD τ) (owed₀ m c) ∅ ∗ ∃ r, prngReg c r)
def records (κ : GSem nD τ sig → ℕ) : sProp 𝕄 := iprop(Recs (chan (cts (ins m))) κ ∗ AllBar)
instance records_persistent (κ : GSem nD τ sig → ℕ) : BI.Persistent (records m κ) := by unfold records; infer_instance

abbrev Tstart (c : Dev nD) : sProp 𝕄 := iprop(StableHlo.held (c : Thread nD τ) bufs (Vstart m c) ∗ R m c)

theorem start_intro (κ : GSem nD τ sig → ℕ) (c : Dev nD) : iprop(records m κ ∗ (linear c ∗ bundle m c)) ⊢ Tstart m c := by
  unfold records linear bundle Tstart R Tk Closed Owe
  iintro ⟨⟨#HI, #HB⟩, ⟨Hb, Ho, Ht⟩, Hh, Hc, HO, Hp⟩
  isplitl [Hh]
  · iexact Hh
  isplitl [Hb Ho Ht Hc]
  · iexists κ
    isplitr
    · iexact HI
    isplitr
    · iexact HB
    isplitl [Hb]
    · iexact Hb
    isplitl [Ho]
    · iexact Ho
    isplitl [Ht] <;> iassumption
  isplitl [Hp]
  · iexact Hp
  iexists ∅
  iexact HO

theorem unpair {Φ Ψ : Dev nD → sProp 𝕄} : (bigSep Finset.univ fun c => iprop(Φ c ∗ Ψ c)) ⊢ iprop(bigSep Finset.univ Φ ∗ bigSep Finset.univ Ψ) :=
  Entails.of_eq (BI.bigSep_sep' _ _ _)
theorem pair {Φ Ψ : Dev nD → sProp 𝕄} : iprop(bigSep Finset.univ Φ ∗ bigSep Finset.univ Ψ) ⊢ (bigSep Finset.univ fun c => iprop(Φ c ∗ Ψ c)) :=
  Entails.of_eq (BI.bigSep_sep' _ _ _).symm

theorem init :
    iprop((bigSep Finset.univ fun c : Dev nD => iprop(unscopedBufs c (fun b => m ((c : Thread nD τ).loc b)) ∗ unscopedSems0 c
          ∗ owes (c : Thread nD τ) (owed₀ m c) ∅ ∗ Pipeline.launchCred (owed₀ m) c ∗ prngReg c (ρ c) ∗ G c)) ∗ levAts L lv)
      ⊢ (|={Set.univ}=> bigSep Finset.univ (Tstart m) : sProp 𝕄) := by
  have hcore (c : Dev nD) : iprop(unscopedBufs c (fun b => m ((c : Thread nD τ).loc b)) ∗ unscopedSems0 c
        ∗ owes (c : Thread nD τ) (owed₀ m c) ∅ ∗ Pipeline.launchCred (owed₀ m) c ∗ prngReg c (ρ c) ∗ G c)
      ⊢ (iprop(bundle m c ∗ (semVal (bCell c) 0 ∗ G c)) : sProp 𝕄) := by
    rw [show unscopedBufs c (fun b => m ((c : Thread nD τ).loc b)) = StableHlo.held (c : Thread nD τ) bufs (Vstart m c) from unscopedBufs_held c (Vstart m c),
      unscopedSems0_eq]
    unfold bundle
    iintro ⟨Hh, Hus, HO, Hcr, Hp, HG⟩
    ihave Hc := (creds_of (ins m) c) $$ Hcr
    isplitl [Hh Hc HO Hp]
    · isplitl [Hh]
      · iexact Hh
      isplitl [Hc]
      · iexact Hc
      isplitl [HO]
      · iexact HO
      iexists (ρ c)
      iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (owed₀ m c) ∅ ∗ Pipeline.launchCred (owed₀ m) c ∗ prngReg c (ρ c) ∗ G c))
      ⊢ (bigSep Finset.univ fun c : Dev nD => iprop(bundle m c ∗ (semVal (bCell c) 0 ∗ G c)) : sProp 𝕄) from BI.bigSep_mono fun c _ => hcore c) $$ H
  ihave H2 := unpair $$ H'
  icases H2 with ⟨HB, H3⟩
  ihave H4 := unpair $$ H3
  icases H4 with ⟨Hv, HG⟩
  ihave Hu := (show bigSep Finset.univ (G (F := F)) ⊢ BI.own (ER (launchOf barCells exCells toks)) from
    Entails.of_eq (bigSep_onDev (F := F) 0 (BI.own (ER (launchOf barCells exCells toks))))) $$ HG
  imod (Rounds.fund_launch ER (sched (chan (cts (ins m)))) cells_disjoint (fun g _ h => h) toks) $$ [Hv Hu] with ⟨%κ, -, #Hinv, #Hr, Hat, Hopen, Htok⟩
  · isplitl [Hv]
    · iapply (Entails.of_eq (bSep_b fun g => (semVal g 0 : sProp 𝕄)).symm) $$ Hv
    · iexact Hu
  imodintro
  iapply (BI.bigSep_with_persistent (R := records m κ) (Φ := fun c => iprop(linear c ∗ bundle m c)) fun c _ => start_intro m κ c)
  isplitr
  · unfold records Recs AllBar
    isplitr
    · iexact Hinv
    iapply (Entails.of_eq (bSep_b fun g => (reached ER g 0 : sProp 𝕄))) $$ Hr
  iapply pair
  isplitr [HB]
  · unfold linear
    iapply pair
    isplitl [Hat]
    · iapply (Entails.of_eq (bSep_b fun g => (atPos ER g 0 ∅ 0 : sProp 𝕄))) $$ Hat
    iapply pair
    isplitl [Hopen]
    · iapply (Entails.of_eq (bSep_x fun g => (openTok ER g : sProp 𝕄))) $$ Hopen
    iapply (toks_deal (F := F)) $$ Htok
  · iexact HB

/-! ## The result array, and the run -/

theorem flushed_eq (c : Dev nD) (t : Fin cfg0.N) :
    (dat0 m c).flushed 5 t = ((cfg0.win 5).blk t).view.read (Elt F) (outAt (ins m) c : Buf (Elt F) ((c : Thread nD τ).loc main_v3)) := by
  obtain rfl := fin_N0 t
  have ha : (dat0 m c).after 5 t0_0 = outAt (ins m) c := rfl
  unfold Pipeline.Dat.flushed
  rw [ha]
  generalize outAt (ins m) c = g
  funext x
  rw [View.read_apply]
  refine congrArg g (funext fun a => Fin.ext ?_)
  have e : ∀ a, win0_5.index t0_0 a * win0_5.size a = 0 := by decide +kernel
  show (x a : ℕ) = win0_5.index t0_0 a * win0_5.size a + 1 * (x a : ℕ)
  rw [e a]; omega

theorem mem_blk (i : S2x256x512.Idx) : i ∈ ((cfg0.win 5).blk t0_0).view.set := by
  show i ∈ ((View.whole main_v3).slice (win0_5.rect t0_0)).set
  rw [View.set_slice_whole, Rect.mem_set_unit]
  have e : ∀ a, win0_5.index t0_0 a * win0_5.size a = 0 ∧ win0_5.xsize (grid0.coords t0_0) a = S2x256x512.size a := by decide +kernel
  intro a
  show win0_5.index t0_0 a * win0_5.size a ≤ (i a : Nat) ∧ (i a : Nat) < win0_5.index t0_0 a * win0_5.size a + win0_5.xsize (grid0.coords t0_0) a
  rw [(e a).1, (e a).2, Nat.zero_add]
  exact ⟨Nat.zero_le _, (i a).isLt⟩

theorem out_eq (c : Dev nD) : (dat0 m c).arrAt 5 cfg0.N = (outAt (ins m) c : Buf (Elt F) ((c : Thread nD τ).loc main_v3)) :=
  (dat0 m c).arrAt_eq_of_cover 5 _ (fun t _ => flushed_eq m c t) fun i => ⟨t0_0, flush0_5 _, mem_blk i⟩

theorem unscoped_eq : ∀ sm : SemLoc sig, sm.isScoped .tc = false → sm = .reg sB := by decide

theorem end_arg (c : Dev nD) (b : Ref sig .tc) (h1 : Proc.devRef .tc b ≠ (Proc.devRef .tc main_v3 : DevRef τ sig)) (h : V m c b = m ((c : Thread nD τ).loc b)) : Vend m c b = m ((c : Thread nD τ).loc b) :=
  (Vend_ne m c _ h1).trans h

set_option backward.isDefEq.respectTransparency.types false in
/-- From any memory with zero counters, every weakly fair run on the eight devices ends, with the arguments unchanged, the
    result of every device the one computed from all devices' operands, and every counter at zero. -/
theorem run_main : θ_run defs (onTc (τ := τ) (main (F := F))) ⟨m, fun _ => 0, ρ⟩
    (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v3) = outAt (ins m) c) ∧ r.2.sem = fun _ => 0) :=
  Pipeline.θ_run_regions_kit_sems (pcfgs (F := F)) adm (pdats m) () stages_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀ m) (hL := L_of_ne) (G := G) (u₀ := u₀ (F := F))
    (hu₀ := by
      unfold u₀ G
      iintro Hu
      ihave H := (ownU_pair _ _) $$ Hu
      icases H with ⟨HP, HX⟩
      imodintro
      isplitl [HP]
      · iexact HP
      rw [bigSep_onDev]; iexact HX)
    (T₀ := Tstart m) (Tₙ := Tend m)
    (hch := ⟨fun c => .rfl, fun c => reg0_pre m c, fun c => reg0_post m c⟩)
    (hinit := init m ρ)
    (QY := fun c s => (s.mem ((c : Thread nD τ).loc main_arg0) = Vend m c main_arg0 ∧ s.mem ((c : Thread nD τ).loc main_arg1) = Vend m c main_arg1
        ∧ s.mem ((c : Thread nD τ).loc main_arg2) = Vend m c main_arg2 ∧ s.mem ((c : Thread nD τ).loc main_arg3) = Vend m c main_arg3
        ∧ s.mem ((c : Thread nD τ).loc main_arg4) = Vend m c main_arg4 ∧ s.mem ((c : Thread nD τ).loc main_v3) = Vend m c main_v3)
      ∧ s.sem (bCell c) = 0)
    (hfin := fun c s' => by
      dsimp only [Tend]; rw [bufs_eq]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        refine ⟨⟨h0.trans (end_arg m c main_arg0 (by decide) (V_main_arg0 m c)), h1.trans (end_arg m c main_arg1 (by decide) (V_main_arg1 m c)), h2.trans (end_arg m c main_arg2 (by decide) (V_main_arg2 m c)),
          h3.trans (end_arg m c main_arg3 (by decide) (V_main_arg3 m c)), h4.trans (end_arg m c main_arg4 (by decide) (V_main_arg4 m c))⟩, h5.trans ?_⟩
        exact (Function.update_self (Proc.devRef .tc main_v3) _ (Vin m c)).trans (out_eq m c),
      sem_eq_zero hs fun c sm hsm => by
        obtain rfl := unscoped_eq sm hsm
        exact (h c).2⟩)

end Cert.KernelIdeal.Run
-- ==== Proof.Spec.lean ====
/-
  The function both programs compute: masked attention over the whole sequence, head by head, through the output weights.
-/
module

public import Idealize.ShloMosaic.Lib.Pointwise

@[expose] public section

noncomputable section

namespace Cert.Spec

open Idealize.ShloMosaic

/-- An array, coordinate by coordinate. -/
abbrev at3 {n0 n1 n2 : ℕ} (a : (⟨3, ![n0, n1, n2]⟩ : Shape).Idx → EReal) : Fin n0 → Fin n1 → Fin n2 → EReal := fun i j k => a (ix3 i j k)
abbrev at2 {n0 n1 : ℕ} (a : (⟨2, ![n0, n1]⟩ : Shape).Idx → EReal) : Fin n0 → Fin n1 → EReal := fun i j => a (ix2 i j)
abbrev at4 {n0 n1 n2 n3 : ℕ} (a : (⟨4, ![n0, n1, n2, n3]⟩ : Shape).Idx → EReal) : Fin n0 → Fin n1 → Fin n2 → Fin n3 → EReal := fun i j k l => a (ix4 i j k l)

/-- A row of scores, normalised, against a column of values. -/
def attn (s v : Fin 2048 → EReal) : EReal :=
  ∑ x, Ideal.div (Ideal.exp (s x - Finset.fold max (Ideal.ofBits .f32 4286578688#32) s Finset.univ)) (∑ y, Ideal.exp (s y - Finset.fold max (Ideal.ofBits .f32 4286578688#32) s Finset.univ)) * v x

/-- Which keys a query may look at: by blocks of 64. -/
def keeps (i j : ℕ) : BitVec 1 := BitVec.ofBool (decide (i / 64 = j / 64 ∨ j / 64 = 0 ∨ (i / 64 + j / 64) % 3 = 0))

variable (x : Fin 2 → Fin 256 → Fin 512 → EReal) (wq : Fin 512 → Fin 2048 → EReal) (k v : Fin 2 → Fin 2048 → Fin 32 → Fin 64 → EReal) (wo : Fin 2048 → Fin 512 → EReal)

/-- A query against a key, scaled, where the query may look. -/
def score (b : Fin 2) (i : Fin 256) (h : Fin 32) (j : Fin 2048) : EReal :=
  Scalar.select (keeps i.val j.val) ((∑ e : Fin 64, (∑ u : Fin 512, x b i u * wq u (⟨h.val * 64 + e.val, by omega⟩ : Fin 2048)) * k b j h e) * Ideal.ofBits .f32 1040187392#32) (Ideal.ofBits .f32 3463342888#32)

/-- A head's output. -/
def ctx (b : Fin 2) (i : Fin 256) (h : Fin 32) (d : Fin 64) : EReal := attn (score x wq k b i h) (fun j => v b j h d)

/-- The heads' outputs side by side through the output weights. -/
def out (b : Fin 2) (i : Fin 256) (n : Fin 512) : EReal :=
  ∑ y : Fin 2048, ctx x wq k v b i (⟨y.val / 64, by omega⟩ : Fin 32) (⟨y.val % 64, Nat.mod_lt _ (by decide)⟩ : Fin 64) * wo y n

end Cert.Spec

end
-- ==== Proof.Heads.lean ====
/-
  One head of a device's attention, and the two batches' partial outputs as four heads each.
-/
module

public import proofs.«01_k».proof.Proof.Vals
public import Idealize.ShloMosaic.Lib.Pipeline.Value
public import proofs.«01_k».proof.Proof.Spec

@[expose] public section

noncomputable section

namespace Cert.KernelIdeal.Run

open Cert.KernelIdeal.Gen
open Idealize.ShloMosaic Idealize.ShloMosaic.TcCoe
open Cert.Spec (attn keeps)

variable {F : FTy → Type} [FloatOps F]

/-- Keys (t = 0) or values (t = 1) of batch b in columns w …, over the whole sequence. -/
def slab (r : FVec F S8x2x2x256x256 .bf16) (t b w : ℕ) : FVec F S2048x64 .bf16 := fun i =>
  r (ix5 (⟨(i 0).val / 256, by have h : (i 0).val < 2048 := (i 0).isLt; omega⟩ : Fin 8) (⟨t % 2, Nat.mod_lt _ (by decide)⟩ : Fin 2) (⟨b % 2, Nat.mod_lt _ (by decide)⟩ : Fin 2)
    (⟨(i 0).val % 256, Nat.mod_lt _ (by decide)⟩ : Fin 256) (⟨(w + (i 1).val) % 256, Nat.mod_lt _ (by decide)⟩ : Fin 256))

/-- A piece of it, cut out and flattened. -/
theorem slab_piece (r : FVec F S8x2x2x256x256 .bf16) (s : Fin 8) (t b w : ℕ) (ht : t < 2) (hb : b < 2) (hw : w + 64 ≤ 256) {o : Fin S8x2x2x256x256.rank → ℕ} (ho : o = ![s.val, t, b, 0, w])
    (hs : S8x2x2x256x256.Slices o S1x1x1x256x64) (h : S1x1x1x256x64.ShapeCasts S256x64) :
    shapeCast S256x64 (extractStridedSlice S1x1x1x256x64 o r hs) h
      = fun y => r (ix5 s (⟨t, ht⟩ : Fin 2) (⟨b, hb⟩ : Fin 2) (⟨(y 0).val, (y 0).isLt⟩ : Fin 256) (⟨w + (y 1).val, by have h : (y 1).val < 64 := (y 1).isLt; omega⟩ : Fin 256)) := by
  subst ho
  funext y
  refine (Idealize.ShloMosaic.shapeCast_apply _ _ _ (ix5 (0 : Fin 1) (0 : Fin 1) (0 : Fin 1) (y 0) (y 1) : S1x1x1x256x64.Idx) ?_).trans ?_
  · refine (Shape.rowMajor_val_five (d := ![1, 1, 1, 256, 64]) _).trans (Eq.trans ?_ (Shape.rowMajor_val_two (d := ![256, 64]) _).symm)
    show ((((0 * 1 + 0) * 1 + 0) * 256 + (y 0).val) * 64 + (y 1).val) = (y 0).val * 64 + (y 1).val
    omega
  · refine congrArg r (funext fun a => Fin.ext ?_)
    match a with
    | 0 => exact Nat.add_zero _
    | 1 => exact Nat.add_zero _
    | 2 => exact Nat.add_zero _
    | 3 => exact Nat.zero_add _
    | 4 => rfl

/-- Eight pieces, one under another. -/
theorem cat_of (f : Fin 8 → FVec F S256x64 .bf16) (p0 p1 p2 p3 p4 p5 p6 p7 : FVec F S256x64 .bf16) (e0 : p0 = f 0) (e1 : p1 = f 1) (e2 : p2 = f 2) (e3 : p3 = f 3) (e4 : p4 = f 4) (e5 : p5 = f 5) (e6 : p6 = f 6) (e7 : p7 = f 7) hc :
    (concatenate S2048x64 0 [⟨S256x64, p0⟩, ⟨S256x64, p1⟩, ⟨S256x64, p2⟩, ⟨S256x64, p3⟩, ⟨S256x64, p4⟩, ⟨S256x64, p5⟩, ⟨S256x64, p6⟩, ⟨S256x64, p7⟩] hc : FVec F S2048x64 .bf16)
      = fun i => f (⟨(i 0).val / 256, by have h : (i 0).val < 2048 := (i 0).isLt; omega⟩ : Fin 8) (ix2 (⟨(i 0).val % 256, Nat.mod_lt _ (by decide)⟩ : Fin 256) (⟨(i 1).val, (i 1).isLt⟩ : Fin 64)) := by
  subst e0 e1 e2 e3 e4 e5 e6 e7
  funext i
  refine concatenate_ofFn_apply (t := S2048x64) (s₁ := S256x64) 0 f hc rfl 256 rfl i _ rfl _ rfl ?_
  intro a ha
  match a with
  | 0 => exact absurd rfl ha
  | 1 => rfl

/-- The slab's eight pieces, one under another. -/
theorem cat8 (r : FVec F S8x2x2x256x256 .bf16) (t b w : ℕ) (ht : t < 2) (hb : b < 2) (hw : w + 64 ≤ 256)
    (h0 : S8x2x2x256x256.Slices ![0, t, b, 0, w] S1x1x1x256x64) (h1 : S8x2x2x256x256.Slices ![1, t, b, 0, w] S1x1x1x256x64) (h2 : S8x2x2x256x256.Slices ![2, t, b, 0, w] S1x1x1x256x64) (h3 : S8x2x2x256x256.Slices ![3, t, b, 0, w] S1x1x1x256x64) (h4 : S8x2x2x256x256.Slices ![4, t, b, 0, w] S1x1x1x256x64) (h5 : S8x2x2x256x256.Slices ![5, t, b, 0, w] S1x1x1x256x64) (h6 : S8x2x2x256x256.Slices ![6, t, b, 0, w] S1x1x1x256x64) (h7 : S8x2x2x256x256.Slices ![7, t, b, 0, w] S1x1x1x256x64) (h : S1x1x1x256x64.ShapeCasts S256x64) hc :
    (concatenate S2048x64 0 [⟨S256x64, shapeCast S256x64 (extractStridedSlice S1x1x1x256x64 ![0, t, b, 0, w] r h0) h⟩, ⟨S256x64, shapeCast S256x64 (extractStridedSlice S1x1x1x256x64 ![1, t, b, 0, w] r h1) h⟩, ⟨S256x64, shapeCast S256x64 (extractStridedSlice S1x1x1x256x64 ![2, t, b, 0, w] r h2) h⟩, ⟨S256x64, shapeCast S256x64 (extractStridedSlice S1x1x1x256x64 ![3, t, b, 0, w] r h3) h⟩, ⟨S256x64, shapeCast S256x64 (extractStridedSlice S1x1x1x256x64 ![4, t, b, 0, w] r h4) h⟩, ⟨S256x64, shapeCast S256x64 (extractStridedSlice S1x1x1x256x64 ![5, t, b, 0, w] r h5) h⟩, ⟨S256x64, shapeCast S256x64 (extractStridedSlice S1x1x1x256x64 ![6, t, b, 0, w] r h6) h⟩, ⟨S256x64, shapeCast S256x64 (extractStridedSlice S1x1x1x256x64 ![7, t, b, 0, w] r h7) h⟩] hc : FVec F S2048x64 .bf16) = slab r t b w := by
  refine (cat_of (fun (n : Fin 8) (y : S256x64.Idx) => r (ix5 n (⟨t, ht⟩ : Fin 2) (⟨b, hb⟩ : Fin 2) (⟨(y 0).val, (y 0).isLt⟩ : Fin 256) (⟨w + (y 1).val, by have h : (y 1).val < 64 := (y 1).isLt; omega⟩ : Fin 256)))
    _ _ _ _ _ _ _ _ (slab_piece r 0 t b w ht hb hw rfl h0 h) (slab_piece r 1 t b w ht hb hw rfl h1 h) (slab_piece r 2 t b w ht hb hw rfl h2 h) (slab_piece r 3 t b w ht hb hw rfl h3 h) (slab_piece r 4 t b w ht hb hw rfl h4 h) (slab_piece r 5 t b w ht hb hw rfl h5 h) (slab_piece r 6 t b w ht hb hw rfl h6 h) (slab_piece r 7 t b w ht hb hw rfl h7 h) hc).trans (funext fun i => congrArg r (funext fun a => Fin.ext ?_))
  have h1 : (i 1).val < 64 := (i 1).isLt
  match a with
  | 0 => rfl
  | 1 => exact (Nat.mod_eq_of_lt ht).symm
  | 2 => exact (Nat.mod_eq_of_lt hb).symm
  | 3 => rfl
  | 4 =>
    refine (Nat.mod_eq_of_lt ?_).symm
    show w + (i 1).val < 256
    omega

/-- One head: its queries against all the keys, masked, the weights normalised, against all the values. -/
def head (q : FVec F S256x64 .bf16) (k v : FVec F S2048x64 .bf16) : FVec F S256x64 .f32 :=
  have s : FVec F S256x2048 .f32 := select mask (mulf (matmul dot_S256x64_S2048x64_S256x2048_1_1_0_0_n_n none q k (constant S256x2048 .f32 0x00000000#32)) (broadcast S256x2048 (Scalar.ofBits .f32 0x3E000000#32))) (broadcast S256x2048 (Scalar.ofBits .f32 0xCE6E6B28#32))
  have e : FVec F S256x2048 .f32 := exp (subf s (broadcastTo S256x2048 (shapeCast S256x1 (multiReduction .maximumf [1] S256 s 0xFF800000#32 reduces_S256x2048_S256 (.inl rfl) rfl) shapeCasts_S256_S256x1) broadcasts_S256x1_S256x2048))
  have w : FVec F S256x2048 .f32 := divf e (broadcastTo S256x2048 (shapeCast S256x1 (multiReduction .add [1] S256 e 0x00000000#32 reduces_S256x2048_S256 (.inl rfl) rfl) shapeCasts_S256_S256x1) broadcasts_S256x1_S256x2048)
  matmul dot_S256x2048_S2048x64_S256x64_1_0_0_1_n_n none (truncf .bf16 w bitsLt_bf16_f32) v (constant S256x64 .f32 0x00000000#32)

theorem head_apply (q : FVec Ideal S256x64 .bf16) (k v : FVec Ideal S2048x64 .bf16) (i : Fin 256) (d : Fin 64) : head q k v (ix2 i d)
    = attn (fun j => Scalar.select (mask (ix2 i j)) ((∑ e, q (ix2 i e) * k (ix2 j e)) * Ideal.ofBits .f32 1040187392#32) (Ideal.ofBits .f32 3463342888#32)) (fun j => v (ix2 j d)) := by
  unfold head attn
  pointwise

theorem floor64 : ∀ i : Fin 2048, Scalar.select
    (IntOp.andi
      (IntOp.cmpi CmpIPredicate.ne
        (IntOp.subi (BitVec.setWidth 32 (IntOp.cmpi CmpIPredicate.sgt (BitVec.ofNat 32 i.val) 0#32)) (BitVec.setWidth 32 (IntOp.cmpi CmpIPredicate.slt (BitVec.ofNat 32 i.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 i.val) 64#32) 0#32))
    (IntOp.subi (IntOp.divsi ArithUnit.vector (BitVec.ofNat 32 i.val) 64#32) 1#32)
    (IntOp.divsi ArithUnit.vector (BitVec.ofNat 32 i.val) 64#32) = BitVec.ofNat 32 (i.val / 64) := by
  decide +kernel

/-- The kernel's mask, by blocks of 64 rows and of 64 columns. -/
theorem mask_apply (i : Fin 256) (j : Fin 2048) : mask (ix2 i j) = keeps i.val j.val := by
  unfold keeps
  have hi := floor64 ⟨i.val, by omega⟩
  have hj := floor64 j
  dsimp only at hi
  pointwise [mask, k0_pay23, k0_pay24, k0_pay25, k0_pay26]
  rw [hi, hj]
  obtain ⟨a, ha⟩ : ∃ a : Fin 4, a.val = i.val / 64 := ⟨⟨i.val / 64, by omega⟩, rfl⟩
  obtain ⟨b, hb⟩ : ∃ b : Fin 32, b.val = j.val / 64 := ⟨⟨j.val / 64, by omega⟩, rfl⟩
  rw [← ha, ← hb]
  clear ha hb hi hj i j
  revert a b
  decide +kernel

end Cert.KernelIdeal.Run
-- ==== Proof.Parts.lean ====
/-
  The two batches' partial outputs as four heads each, and their sum over the devices.
-/
module

public import proofs.«01_k».proof.Proof.Heads

@[expose] public section

noncomputable section

namespace Cert.KernelIdeal.Run

open Cert.KernelIdeal.Gen
open Idealize.ShloMosaic Idealize.ShloMosaic.TcCoe
open Cert.Spec (attn keeps)

variable {F : FTy → Type} [FloatOps F]

/-- The head of batch b in columns w …. -/
def headOf (q : FVec F S256x256 .bf16) (r : FVec F S8x2x2x256x256 .bf16) (b w : ℕ) (h : S256x256.Slices ![0, w] S256x64) : FVec F S256x64 .f32 :=
  head (extractStridedSlice S256x64 ![0, w] q h) (slab r 0 b w) (slab r 1 b w)

theorem head_0_0 (q : FVec F S256x256 .bf16) (r : FVec F S8x2x2x256x256 .bf16) : k0_pay36 q mask r (k0_pay28 r) (k0_pay29 r) (k0_pay30 r) (k0_pay31 r) (k0_pay32 r) (k0_pay33 r) (k0_pay34 r) (k0_pay35 r) = headOf q r 0 0 (slices_S256x256_o0_0_S256x64) :=
  congrArg₂ (head _) (cat8 r 0 0 0 (by decide) (by decide) (by decide) slices_S8x2x2x256x256_o0_0_0_0_0_S1x1x1x256x64 slices_S8x2x2x256x256_o1_0_0_0_0_S1x1x1x256x64 slices_S8x2x2x256x256_o2_0_0_0_0_S1x1x1x256x64 slices_S8x2x2x256x256_o3_0_0_0_0_S1x1x1x256x64 slices_S8x2x2x256x256_o4_0_0_0_0_S1x1x1x256x64 slices_S8x2x2x256x256_o5_0_0_0_0_S1x1x1x256x64 slices_S8x2x2x256x256_o6_0_0_0_0_S1x1x1x256x64 slices_S8x2x2x256x256_o7_0_0_0_0_S1x1x1x256x64 shapeCasts_S1x1x1x256x64_S256x64 concatenates_S256x64_S256x64_S256x64_S256x64_S256x64_S256x64_S256x64_S256x64_S2048x64_d0) (cat8 r 1 0 0 (by decide) (by decide) (by decide) slices_S8x2x2x256x256_o0_1_0_0_0_S1x1x1x256x64 slices_S8x2x2x256x256_o1_1_0_0_0_S1x1x1x256x64 slices_S8x2x2x256x256_o2_1_0_0_0_S1x1x1x256x64 slices_S8x2x2x256x256_o3_1_0_0_0_S1x1x1x256x64 slices_S8x2x2x256x256_o4_1_0_0_0_S1x1x1x256x64 slices_S8x2x2x256x256_o5_1_0_0_0_S1x1x1x256x64 slices_S8x2x2x256x256_o6_1_0_0_0_S1x1x1x256x64 slices_S8x2x2x256x256_o7_1_0_0_0_S1x1x1x256x64 shapeCasts_S1x1x1x256x64_S256x64 concatenates_S256x64_S256x64_S256x64_S256x64_S256x64_S256x64_S256x64_S256x64_S2048x64_d0)

theorem head_0_1 (q : FVec F S256x256 .bf16) (r : FVec F S8x2x2x256x256 .bf16) : k0_pay39 q mask r (k0_pay37 r) (k0_pay38 r) = headOf q r 0 64 (slices_S256x256_o0_64_S256x64) :=
  congrArg₂ (head _) (cat8 r 0 0 64 (by decide) (by decide) (by decide) slices_S8x2x2x256x256_o0_0_0_0_64_S1x1x1x256x64 slices_S8x2x2x256x256_o1_0_0_0_64_S1x1x1x256x64 slices_S8x2x2x256x256_o2_0_0_0_64_S1x1x1x256x64 slices_S8x2x2x256x256_o3_0_0_0_64_S1x1x1x256x64 slices_S8x2x2x256x256_o4_0_0_0_64_S1x1x1x256x64 slices_S8x2x2x256x256_o5_0_0_0_64_S1x1x1x256x64 slices_S8x2x2x256x256_o6_0_0_0_64_S1x1x1x256x64 slices_S8x2x2x256x256_o7_0_0_0_64_S1x1x1x256x64 shapeCasts_S1x1x1x256x64_S256x64 concatenates_S256x64_S256x64_S256x64_S256x64_S256x64_S256x64_S256x64_S256x64_S2048x64_d0) (cat8 r 1 0 64 (by decide) (by decide) (by decide) slices_S8x2x2x256x256_o0_1_0_0_64_S1x1x1x256x64 slices_S8x2x2x256x256_o1_1_0_0_64_S1x1x1x256x64 slices_S8x2x2x256x256_o2_1_0_0_64_S1x1x1x256x64 slices_S8x2x2x256x256_o3_1_0_0_64_S1x1x1x256x64 slices_S8x2x2x256x256_o4_1_0_0_64_S1x1x1x256x64 slices_S8x2x2x256x256_o5_1_0_0_64_S1x1x1x256x64 slices_S8x2x2x256x256_o6_1_0_0_64_S1x1x1x256x64 slices_S8x2x2x256x256_o7_1_0_0_64_S1x1x1x256x64 shapeCasts_S1x1x1x256x64_S256x64 concatenates_S256x64_S256x64_S256x64_S256x64_S256x64_S256x64_S256x64_S256x64_S2048x64_d0)

theorem head_0_2 (q : FVec F S256x256 .bf16) (r : FVec F S8x2x2x256x256 .bf16) : k0_pay43 q mask r (k0_pay40 r) (k0_pay41 r) (k0_pay42 r) = headOf q r 0 128 (slices_S256x256_o0_128_S256x64) :=
  congrArg₂ (head _) (cat8 r 0 0 128 (by decide) (by decide) (by decide) slices_S8x2x2x256x256_o0_0_0_0_128_S1x1x1x256x64 slices_S8x2x2x256x256_o1_0_0_0_128_S1x1x1x256x64 slices_S8x2x2x256x256_o2_0_0_0_128_S1x1x1x256x64 slices_S8x2x2x256x256_o3_0_0_0_128_S1x1x1x256x64 slices_S8x2x2x256x256_o4_0_0_0_128_S1x1x1x256x64 slices_S8x2x2x256x256_o5_0_0_0_128_S1x1x1x256x64 slices_S8x2x2x256x256_o6_0_0_0_128_S1x1x1x256x64 slices_S8x2x2x256x256_o7_0_0_0_128_S1x1x1x256x64 shapeCasts_S1x1x1x256x64_S256x64 concatenates_S256x64_S256x64_S256x64_S256x64_S256x64_S256x64_S256x64_S256x64_S2048x64_d0) (cat8 r 1 0 128 (by decide) (by decide) (by decide) slices_S8x2x2x256x256_o0_1_0_0_128_S1x1x1x256x64 slices_S8x2x2x256x256_o1_1_0_0_128_S1x1x1x256x64 slices_S8x2x2x256x256_o2_1_0_0_128_S1x1x1x256x64 slices_S8x2x2x256x256_o3_1_0_0_128_S1x1x1x256x64 slices_S8x2x2x256x256_o4_1_0_0_128_S1x1x1x256x64 slices_S8x2x2x256x256_o5_1_0_0_128_S1x1x1x256x64 slices_S8x2x2x256x256_o6_1_0_0_128_S1x1x1x256x64 slices_S8x2x2x256x256_o7_1_0_0_128_S1x1x1x256x64 shapeCasts_S1x1x1x256x64_S256x64 concatenates_S256x64_S256x64_S256x64_S256x64_S256x64_S256x64_S256x64_S256x64_S2048x64_d0)

theorem head_1_0 (q : FVec F S256x256 .bf16) (r : FVec F S8x2x2x256x256 .bf16) : k0_pay58 q mask r (k0_pay50 r) (k0_pay51 r) (k0_pay52 r) (k0_pay53 r) (k0_pay54 r) (k0_pay55 r) (k0_pay56 r) (k0_pay57 r) = headOf q r 1 0 (slices_S256x256_o0_0_S256x64) :=
  congrArg₂ (head _) (cat8 r 0 1 0 (by decide) (by decide) (by decide) slices_S8x2x2x256x256_o0_0_1_0_0_S1x1x1x256x64 slices_S8x2x2x256x256_o1_0_1_0_0_S1x1x1x256x64 slices_S8x2x2x256x256_o2_0_1_0_0_S1x1x1x256x64 slices_S8x2x2x256x256_o3_0_1_0_0_S1x1x1x256x64 slices_S8x2x2x256x256_o4_0_1_0_0_S1x1x1x256x64 slices_S8x2x2x256x256_o5_0_1_0_0_S1x1x1x256x64 slices_S8x2x2x256x256_o6_0_1_0_0_S1x1x1x256x64 slices_S8x2x2x256x256_o7_0_1_0_0_S1x1x1x256x64 shapeCasts_S1x1x1x256x64_S256x64 concatenates_S256x64_S256x64_S256x64_S256x64_S256x64_S256x64_S256x64_S256x64_S2048x64_d0) (cat8 r 1 1 0 (by decide) (by decide) (by decide) slices_S8x2x2x256x256_o0_1_1_0_0_S1x1x1x256x64 slices_S8x2x2x256x256_o1_1_1_0_0_S1x1x1x256x64 slices_S8x2x2x256x256_o2_1_1_0_0_S1x1x1x256x64 slices_S8x2x2x256x256_o3_1_1_0_0_S1x1x1x256x64 slices_S8x2x2x256x256_o4_1_1_0_0_S1x1x1x256x64 slices_S8x2x2x256x256_o5_1_1_0_0_S1x1x1x256x64 slices_S8x2x2x256x256_o6_1_1_0_0_S1x1x1x256x64 slices_S8x2x2x256x256_o7_1_1_0_0_S1x1x1x256x64 shapeCasts_S1x1x1x256x64_S256x64 concatenates_S256x64_S256x64_S256x64_S256x64_S256x64_S256x64_S256x64_S256x64_S2048x64_d0)

theorem head_1_1 (q : FVec F S256x256 .bf16) (r : FVec F S8x2x2x256x256 .bf16) : k0_pay61 q mask r (k0_pay59 r) (k0_pay60 r) = headOf q r 1 64 (slices_S256x256_o0_64_S256x64) :=
  congrArg₂ (head _) (cat8 r 0 1 64 (by decide) (by decide) (by decide) slices_S8x2x2x256x256_o0_0_1_0_64_S1x1x1x256x64 slices_S8x2x2x256x256_o1_0_1_0_64_S1x1x1x256x64 slices_S8x2x2x256x256_o2_0_1_0_64_S1x1x1x256x64 slices_S8x2x2x256x256_o3_0_1_0_64_S1x1x1x256x64 slices_S8x2x2x256x256_o4_0_1_0_64_S1x1x1x256x64 slices_S8x2x2x256x256_o5_0_1_0_64_S1x1x1x256x64 slices_S8x2x2x256x256_o6_0_1_0_64_S1x1x1x256x64 slices_S8x2x2x256x256_o7_0_1_0_64_S1x1x1x256x64 shapeCasts_S1x1x1x256x64_S256x64 concatenates_S256x64_S256x64_S256x64_S256x64_S256x64_S256x64_S256x64_S256x64_S2048x64_d0) (cat8 r 1 1 64 (by decide) (by decide) (by decide) slices_S8x2x2x256x256_o0_1_1_0_64_S1x1x1x256x64 slices_S8x2x2x256x256_o1_1_1_0_64_S1x1x1x256x64 slices_S8x2x2x256x256_o2_1_1_0_64_S1x1x1x256x64 slices_S8x2x2x256x256_o3_1_1_0_64_S1x1x1x256x64 slices_S8x2x2x256x256_o4_1_1_0_64_S1x1x1x256x64 slices_S8x2x2x256x256_o5_1_1_0_64_S1x1x1x256x64 slices_S8x2x2x256x256_o6_1_1_0_64_S1x1x1x256x64 slices_S8x2x2x256x256_o7_1_1_0_64_S1x1x1x256x64 shapeCasts_S1x1x1x256x64_S256x64 concatenates_S256x64_S256x64_S256x64_S256x64_S256x64_S256x64_S256x64_S256x64_S2048x64_d0)

theorem head_1_2 (q : FVec F S256x256 .bf16) (r : FVec F S8x2x2x256x256 .bf16) : k0_pay66 q mask r (k0_pay62 r) (k0_pay63 r) (k0_pay64 r) (k0_pay65 r) = headOf q r 1 128 (slices_S256x256_o0_128_S256x64) :=
  congrArg₂ (head _) (cat8 r 0 1 128 (by decide) (by decide) (by decide) slices_S8x2x2x256x256_o0_0_1_0_128_S1x1x1x256x64 slices_S8x2x2x256x256_o1_0_1_0_128_S1x1x1x256x64 slices_S8x2x2x256x256_o2_0_1_0_128_S1x1x1x256x64 slices_S8x2x2x256x256_o3_0_1_0_128_S1x1x1x256x64 slices_S8x2x2x256x256_o4_0_1_0_128_S1x1x1x256x64 slices_S8x2x2x256x256_o5_0_1_0_128_S1x1x1x256x64 slices_S8x2x2x256x256_o6_0_1_0_128_S1x1x1x256x64 slices_S8x2x2x256x256_o7_0_1_0_128_S1x1x1x256x64 shapeCasts_S1x1x1x256x64_S256x64 concatenates_S256x64_S256x64_S256x64_S256x64_S256x64_S256x64_S256x64_S256x64_S2048x64_d0) (cat8 r 1 1 128 (by decide) (by decide) (by decide) slices_S8x2x2x256x256_o0_1_1_0_128_S1x1x1x256x64 slices_S8x2x2x256x256_o1_1_1_0_128_S1x1x1x256x64 slices_S8x2x2x256x256_o2_1_1_0_128_S1x1x1x256x64 slices_S8x2x2x256x256_o3_1_1_0_128_S1x1x1x256x64 slices_S8x2x2x256x256_o4_1_1_0_128_S1x1x1x256x64 slices_S8x2x2x256x256_o5_1_1_0_128_S1x1x1x256x64 slices_S8x2x2x256x256_o6_1_1_0_128_S1x1x1x256x64 slices_S8x2x2x256x256_o7_1_1_0_128_S1x1x1x256x64 shapeCasts_S1x1x1x256x64_S256x64 concatenates_S256x64_S256x64_S256x64_S256x64_S256x64_S256x64_S256x64_S256x64_S2048x64_d0)

/-- Four heads side by side through the output weights. -/
def partOf (o0 o1 o2 o3 : FVec F S256x64 .f32) (w : FVec F S256x512 .bf16) : FVec F S1x256x512 .f32 :=
  shapeCast S1x256x512 (matmul dot_S256x256_S256x512_S256x512_1_0_0_1_n_n none (truncf .bf16 (concatenate S256x256 1 [⟨S256x64, o0⟩, ⟨S256x64, o1⟩, ⟨S256x64, o2⟩, ⟨S256x64, o3⟩] concatenates_S256x64_S256x64_S256x64_S256x64_S256x256_d1 : FVec F S256x256 .f32) bitsLt_bf16_f32) w (constant S256x512 .f32 0x00000000#32)) shapeCasts_S256x512_S1x256x512

theorem last_0 (q : FVec F S256x256 .bf16) (r : FVec F S8x2x2x256x256 .bf16) (w : FVec F S256x512 .bf16) (o0 o1 o2 : FVec F S256x64 .f32) :
    k0_pay49 q mask r w o0 o1 o2 (k0_pay44 r) (k0_pay45 r) (k0_pay46 r) (k0_pay47 r) (k0_pay48 r) = partOf o0 o1 o2 (headOf q r 0 192 slices_S256x256_o0_192_S256x64) w :=
  congrArg₂ (fun k v => partOf o0 o1 o2 (head _ k v) w) (cat8 r 0 0 192 (by decide) (by decide) (by decide) slices_S8x2x2x256x256_o0_0_0_0_192_S1x1x1x256x64 slices_S8x2x2x256x256_o1_0_0_0_192_S1x1x1x256x64 slices_S8x2x2x256x256_o2_0_0_0_192_S1x1x1x256x64 slices_S8x2x2x256x256_o3_0_0_0_192_S1x1x1x256x64 slices_S8x2x2x256x256_o4_0_0_0_192_S1x1x1x256x64 slices_S8x2x2x256x256_o5_0_0_0_192_S1x1x1x256x64 slices_S8x2x2x256x256_o6_0_0_0_192_S1x1x1x256x64 slices_S8x2x2x256x256_o7_0_0_0_192_S1x1x1x256x64 shapeCasts_S1x1x1x256x64_S256x64 concatenates_S256x64_S256x64_S256x64_S256x64_S256x64_S256x64_S256x64_S256x64_S2048x64_d0) (cat8 r 1 0 192 (by decide) (by decide) (by decide) slices_S8x2x2x256x256_o0_1_0_0_192_S1x1x1x256x64 slices_S8x2x2x256x256_o1_1_0_0_192_S1x1x1x256x64 slices_S8x2x2x256x256_o2_1_0_0_192_S1x1x1x256x64 slices_S8x2x2x256x256_o3_1_0_0_192_S1x1x1x256x64 slices_S8x2x2x256x256_o4_1_0_0_192_S1x1x1x256x64 slices_S8x2x2x256x256_o5_1_0_0_192_S1x1x1x256x64 slices_S8x2x2x256x256_o6_1_0_0_192_S1x1x1x256x64 slices_S8x2x2x256x256_o7_1_0_0_192_S1x1x1x256x64 shapeCasts_S1x1x1x256x64_S256x64 concatenates_S256x64_S256x64_S256x64_S256x64_S256x64_S256x64_S256x64_S256x64_S2048x64_d0)

/-- A batch's partial output is its four heads' through the output weights. -/
theorem part0_eq (q : FVec F S256x256 .bf16) (r : FVec F S8x2x2x256x256 .bf16) (w : FVec F S256x512 .bf16) :
    part0 q r w = partOf (headOf q r 0 0 slices_S256x256_o0_0_S256x64) (headOf q r 0 64 slices_S256x256_o0_64_S256x64) (headOf q r 0 128 slices_S256x256_o0_128_S256x64) (headOf q r 0 192 slices_S256x256_o0_192_S256x64) w := by
  unfold part0
  rw [last_0, head_0_0, head_0_1, head_0_2]
  unfold k0_pay27
  rw [shapeCast_self]

theorem last_1 (q : FVec F S256x256 .bf16) (r : FVec F S8x2x2x256x256 .bf16) (w : FVec F S256x512 .bf16) (o0 o1 o2 : FVec F S256x64 .f32) :
    k0_pay72 q mask r w o0 o1 o2 (k0_pay67 r) (k0_pay68 r) (k0_pay69 r) (k0_pay70 r) (k0_pay71 r) = partOf o0 o1 o2 (headOf q r 1 192 slices_S256x256_o0_192_S256x64) w :=
  congrArg₂ (fun k v => partOf o0 o1 o2 (head _ k v) w) (cat8 r 0 1 192 (by decide) (by decide) (by decide) slices_S8x2x2x256x256_o0_0_1_0_192_S1x1x1x256x64 slices_S8x2x2x256x256_o1_0_1_0_192_S1x1x1x256x64 slices_S8x2x2x256x256_o2_0_1_0_192_S1x1x1x256x64 slices_S8x2x2x256x256_o3_0_1_0_192_S1x1x1x256x64 slices_S8x2x2x256x256_o4_0_1_0_192_S1x1x1x256x64 slices_S8x2x2x256x256_o5_0_1_0_192_S1x1x1x256x64 slices_S8x2x2x256x256_o6_0_1_0_192_S1x1x1x256x64 slices_S8x2x2x256x256_o7_0_1_0_192_S1x1x1x256x64 shapeCasts_S1x1x1x256x64_S256x64 concatenates_S256x64_S256x64_S256x64_S256x64_S256x64_S256x64_S256x64_S256x64_S2048x64_d0) (cat8 r 1 1 192 (by decide) (by decide) (by decide) slices_S8x2x2x256x256_o0_1_1_0_192_S1x1x1x256x64 slices_S8x2x2x256x256_o1_1_1_0_192_S1x1x1x256x64 slices_S8x2x2x256x256_o2_1_1_0_192_S1x1x1x256x64 slices_S8x2x2x256x256_o3_1_1_0_192_S1x1x1x256x64 slices_S8x2x2x256x256_o4_1_1_0_192_S1x1x1x256x64 slices_S8x2x2x256x256_o5_1_1_0_192_S1x1x1x256x64 slices_S8x2x2x256x256_o6_1_1_0_192_S1x1x1x256x64 slices_S8x2x2x256x256_o7_1_1_0_192_S1x1x1x256x64 shapeCasts_S1x1x1x256x64_S256x64 concatenates_S256x64_S256x64_S256x64_S256x64_S256x64_S256x64_S256x64_S256x64_S2048x64_d0)

/-- A batch's partial output is its four heads' through the output weights. -/
theorem part1_eq (q : FVec F S256x256 .bf16) (r : FVec F S8x2x2x256x256 .bf16) (w : FVec F S256x512 .bf16) :
    part1 q r w = partOf (headOf q r 1 0 slices_S256x256_o0_0_S256x64) (headOf q r 1 64 slices_S256x256_o0_64_S256x64) (headOf q r 1 128 slices_S256x256_o0_128_S256x64) (headOf q r 1 192 slices_S256x256_o0_192_S256x64) w := by
  unfold part1
  rw [last_1, head_1_0, head_1_1, head_1_2]
  unfold k0_pay27
  rw [shapeCast_self]

theorem headOf_apply (q : FVec Ideal S256x256 .bf16) (r : FVec Ideal S8x2x2x256x256 .bf16) (b w : ℕ) (h : S256x256.Slices ![0, w] S256x64) (i : Fin 256) (d : Fin 64) :
    headOf q r b w h (ix2 i d)
      = attn (fun j => Scalar.select (mask (ix2 i j)) ((∑ e : Fin 64, q (ix2 i (⟨w + e.val, by have h1 : w + 64 ≤ 256 := h.2 1; omega⟩ : Fin 256))
            * r (ix5 (⟨j.val / 256, by omega⟩ : Fin 8) (0 : Fin 2) (⟨b % 2, Nat.mod_lt _ (by decide)⟩ : Fin 2) (⟨j.val % 256, Nat.mod_lt _ (by decide)⟩ : Fin 256) (⟨(w + e.val) % 256, Nat.mod_lt _ (by decide)⟩ : Fin 256)))
          * Ideal.ofBits .f32 1040187392#32) (Ideal.ofBits .f32 3463342888#32))
        (fun j => r (ix5 (⟨j.val / 256, by omega⟩ : Fin 8) (1 : Fin 2) (⟨b % 2, Nat.mod_lt _ (by decide)⟩ : Fin 2) (⟨j.val % 256, Nat.mod_lt _ (by decide)⟩ : Fin 256) (⟨(w + d.val) % 256, Nat.mod_lt _ (by decide)⟩ : Fin 256))) := by
  unfold headOf
  rw [head_apply]
  unfold slab
  pointwise

theorem pick (o : Fin 4 → FVec Ideal S256x64 .f32) (i : Fin 256) (k : Fin 4) (y : Fin 64) (x : Fin 256) (h : x.val = 64 * k.val + y.val) :
    o k (ix2 i y) = o (⟨x.val / 64, by omega⟩ : Fin 4) (ix2 i (⟨x.val % 64, Nat.mod_lt _ (by decide)⟩ : Fin 64)) := by
  have e1 : (⟨x.val / 64, by omega⟩ : Fin 4) = k := Fin.ext (by show x.val / 64 = k.val; omega)
  have e2 : (⟨x.val % 64, Nat.mod_lt _ (by decide)⟩ : Fin 64) = y := Fin.ext (by show x.val % 64 = y.val; omega)
  rw [e1, e2]

theorem partOf_apply (o : Fin 4 → FVec Ideal S256x64 .f32) (w : FVec Ideal S256x512 .bf16) (i : Fin 256) (n : Fin 512) :
    partOf (o 0) (o 1) (o 2) (o 3) w (ix3 (0 : Fin 1) i n)
      = ∑ x : Fin 256, o (⟨x.val / 64, by omega⟩ : Fin 4) (ix2 i (⟨x.val % 64, Nat.mod_lt _ (by decide)⟩ : Fin 64)) * w (ix2 x n) := by
  unfold partOf
  pointwise
  refine Finset.sum_congr rfl fun x _ => congrArg (· * w (ix2 x n)) ?_
  by_cases h1 : x.val < 64
  · rw [dif_pos h1]
    exact pick o i 0 ⟨x.val, h1⟩ x (by show x.val = 64 * 0 + x.val; omega)
  rw [dif_neg h1]
  by_cases h2 : x.val - 64 < 64
  · rw [dif_pos h2]
    exact pick o i 1 ⟨x.val - 64, h2⟩ x (by show x.val = 64 * 1 + (x.val - 64); omega)
  rw [dif_neg h2]
  by_cases h3 : x.val - 64 - 64 < 64
  · rw [dif_pos h3]
    exact pick o i 2 ⟨x.val - 64 - 64, h3⟩ x (by show x.val = 64 * 2 + (x.val - 64 - 64); omega)
  rw [dif_neg h3]
  exact pick o i 3 ⟨x.val - 64 - 64 - 64, by omega⟩ x (by show x.val = 64 * 3 + (x.val - 64 - 64 - 64); omega)

theorem q0_apply (x : FVec Ideal S2x256x512 .bf16) (w : FVec Ideal S512x256 .bf16) (i : Fin 256) (n : Fin 256) : k0_pay21 x w (ix2 i n) = ∑ k, x (ix3 0 i k) * w (ix2 k n) := by
  pointwise [k0_pay21, k0_pay19, k0_pay20]

theorem q1_apply (x : FVec Ideal S2x256x512 .bf16) (w : FVec Ideal S512x256 .bf16) (i : Fin 256) (n : Fin 256) : k0_pay22 x w (ix2 i n) = ∑ k, x (ix3 1 i k) * w (ix2 k n) := by
  pointwise [k0_pay22, k0_pay19, k0_pay20]

theorem ag_apply (r : FVec Ideal S8x2x32x512 .bf16) (b : Fin 2) (i : Fin 32) (n : Fin 512) : agOf (F := Ideal) r (ix3 b i n) = Finset.sum (M := EReal) Finset.univ (fun s : Fin 8 => r (ix4 s b i n)) := by
  unfold agOf
  pointwise [k0_pay83, k0_pay84]
  exact (Fin.sum_univ_eight (M := EReal) (fun s : Fin 8 => r (ix4 s b i n))).symm

end Cert.KernelIdeal.Run
-- ==== Proof.Total.lean ====
/-
  The kernel's result at an index is the heads' outputs, side by side over the devices, through the output weights.
-/
module

public import proofs.«01_k».proof.Proof.Parts

@[expose] public section

noncomputable section

namespace Cert.KernelIdeal.Run

open Cert.KernelIdeal.Gen
open Idealize.ShloMosaic Idealize.ShloMosaic.TcCoe

/-- What the devices are given are blocks of the whole arrays. -/
structure Blocks (I : Dev nD → Ins Ideal) (x : Fin 2 → Fin 256 → Fin 512 → EReal) (wq : Fin 512 → Fin 2048 → EReal) (k v : Fin 2 → Fin 2048 → Fin 32 → Fin 64 → EReal) (wo : Fin 2048 → Fin 512 → EReal) : Prop where
  hx : ∀ (c : Dev nD) (b : Fin 2) (i : Fin 256) (u : Fin 512), (I c).x (ix3 b i u) = x b i u
  hq : ∀ (c : Fin 8) (u : Fin 512) (n : Fin 256), (I c).wq (ix2 u n) = wq u (⟨256 * c.val + n.val, by omega⟩ : Fin 2048)
  hk : ∀ (c : Fin 8) (b : Fin 2) (j : Fin 256) (n : Fin 2048), (I c).k (ix3 b j n) = k b (⟨256 * c.val + j.val, by omega⟩ : Fin 2048) (⟨n.val / 64, by omega⟩ : Fin 32) (⟨n.val % 64, Nat.mod_lt _ (by decide)⟩ : Fin 64)
  hv : ∀ (c : Fin 8) (b : Fin 2) (j : Fin 256) (n : Fin 2048), (I c).v (ix3 b j n) = v b (⟨256 * c.val + j.val, by omega⟩ : Fin 2048) (⟨n.val / 64, by omega⟩ : Fin 32) (⟨n.val % 64, Nat.mod_lt _ (by decide)⟩ : Fin 64)
  ho : ∀ (c : Fin 8) (y : Fin 256) (n : Fin 512), (I c).wo (ix2 y n) = wo (⟨256 * c.val + y.val, by omega⟩ : Fin 2048) n

variable {I : Dev nD → Ins Ideal} {x : Fin 2 → Fin 256 → Fin 512 → EReal} {wq : Fin 512 → Fin 2048 → EReal} {k v : Fin 2 → Fin 2048 → Fin 32 → Fin 64 → EReal} {wo : Fin 2048 → Fin 512 → EReal}

theorem kvAt_k (s : Fin 8) (a : Fin 8) (b : Fin 2) (j n : Fin 256) :
    kvAt I s (ix5 a (0 : Fin 2) b j n) = (I a).k (ix3 b j (⟨256 * s.val + n.val, by omega⟩ : Fin 2048)) := by
  rw [ix3_eq_valueIdx]
  rfl

theorem kvAt_v (s : Fin 8) (a : Fin 8) (b : Fin 2) (j n : Fin 256) :
    kvAt I s (ix5 a (1 : Fin 2) b j n) = (I a).v (ix3 b j (⟨256 * s.val + n.val, by omega⟩ : Fin 2048)) := by
  rw [ix3_eq_valueIdx]
  rfl

/-- A device's keys, columns of one of its heads. -/
theorem kvAt_key (B : Blocks I x wq k v wo) (s : Fin 8) (b : Fin 2) (j : Fin 2048) (h : Fin 4) (e : Fin 64) (a : Fin 8) (b' : Fin 2) (j' n : Fin 256) (ha : a.val = j.val / 256) (hb : b'.val = b.val) (hj : j'.val = j.val % 256) (hn : n.val = 64 * h.val + e.val) :
    kvAt I s (ix5 a (0 : Fin 2) b' j' n) = k b j (⟨4 * s.val + h.val, by omega⟩ : Fin 32) e := by
  rw [kvAt_k, B.hk, show b' = b from Fin.ext hb]
  congr 1 <;> first | (congr 1 <;> refine Fin.ext ?_) | refine Fin.ext ?_
  · show 256 * a.val + j'.val = j.val
    omega
  · show (256 * s.val + n.val) / 64 = 4 * s.val + h.val
    omega
  · show (256 * s.val + n.val) % 64 = e.val
    omega

theorem kvAt_val (B : Blocks I x wq k v wo) (s : Fin 8) (b : Fin 2) (j : Fin 2048) (h : Fin 4) (e : Fin 64) (a : Fin 8) (b' : Fin 2) (j' n : Fin 256) (ha : a.val = j.val / 256) (hb : b'.val = b.val) (hj : j'.val = j.val % 256) (hn : n.val = 64 * h.val + e.val) :
    kvAt I s (ix5 a (1 : Fin 2) b' j' n) = v b j (⟨4 * s.val + h.val, by omega⟩ : Fin 32) e := by
  rw [kvAt_v, B.hv, show b' = b from Fin.ext hb]
  congr 1 <;> first | (congr 1 <;> refine Fin.ext ?_) | refine Fin.ext ?_
  · show 256 * a.val + j'.val = j.val
    omega
  · show (256 * s.val + n.val) / 64 = 4 * s.val + h.val
    omega
  · show (256 * s.val + n.val) % 64 = e.val
    omega

/-- One head of one device. -/
theorem head_value (B : Blocks I x wq k v wo) (s : Fin 8) (b : Fin 2) (q : FVec Ideal S256x256 .bf16) (hq : ∀ (i n : Fin 256), q (ix2 i n) = ∑ u : Fin 512, x b i u * wq u (⟨256 * s.val + n.val, by omega⟩ : Fin 2048))
    (h : Fin 4) (hs : S256x256.Slices ![0, 64 * h.val] S256x64) (i : Fin 256) (d : Fin 64) :
    headOf q (kvAt I s) b.val (64 * h.val) hs (ix2 i d) = Cert.Spec.ctx x wq k v b i (⟨4 * s.val + h.val, by omega⟩ : Fin 32) d := by
  rw [headOf_apply]
  unfold Cert.Spec.ctx
  congr 1
  · funext j
    unfold Cert.Spec.score
    rw [mask_apply]
    refine congrArg (fun z => Scalar.select (Cert.Spec.keeps i.val j.val) (z * Ideal.ofBits .f32 1040187392#32) (Ideal.ofBits .f32 3463342888#32)) ?_
    refine Finset.sum_congr rfl fun e _ => ?_
    rw [hq, kvAt_key B s b j h e _ _ _ _ rfl (Nat.mod_eq_of_lt b.isLt) rfl (Nat.mod_eq_of_lt (by omega))]
    refine congrArg (· * k b j _ e) (Finset.sum_congr rfl fun u _ => congrArg (x b i u * wq u ·) (Fin.ext ?_))
    show 256 * s.val + (64 * h.val + e.val) = (4 * s.val + h.val) * 64 + e.val
    omega
  · funext j
    exact kvAt_val B s b j h d _ _ _ _ rfl (Nat.mod_eq_of_lt b.isLt) rfl (Nat.mod_eq_of_lt (by omega))

theorem cut_fits (h : Fin 4) : S256x256.Slices ![0, 64 * h.val] S256x64 := by
  revert h
  decide

/-- One device's partial output. -/
theorem part_value (B : Blocks I x wq k v wo) (s : Fin 8) (b : Fin 2) (q : FVec Ideal S256x256 .bf16) (hq : ∀ (i n : Fin 256), q (ix2 i n) = ∑ u : Fin 512, x b i u * wq u (⟨256 * s.val + n.val, by omega⟩ : Fin 2048)) (i : Fin 256) (n : Fin 512) :
    partOf (headOf q (kvAt I s) b.val 0 slices_S256x256_o0_0_S256x64) (headOf q (kvAt I s) b.val 64 slices_S256x256_o0_64_S256x64) (headOf q (kvAt I s) b.val 128 slices_S256x256_o0_128_S256x64) (headOf q (kvAt I s) b.val 192 slices_S256x256_o0_192_S256x64) (I s).wo (ix3 (0 : Fin 1) i n)
      = ∑ y : Fin 256, Cert.Spec.ctx x wq k v b i (⟨(s.val * 256 + y.val) / 64, by omega⟩ : Fin 32) (⟨(s.val * 256 + y.val) % 64, Nat.mod_lt _ (by decide)⟩ : Fin 64) * wo (⟨s.val * 256 + y.val, by omega⟩ : Fin 2048) n := by
  refine (partOf_apply (fun h : Fin 4 => headOf q (kvAt I s) b.val (64 * h.val) (cut_fits h)) (I s).wo i n).trans ?_
  refine Finset.sum_congr rfl fun y _ => ?_
  refine congrArg₂ (· * ·) ((head_value B s b q hq (⟨y.val / 64, by omega⟩ : Fin 4) _ i _).trans ?_) ((B.ho s y n).trans ?_)
  · congr 1 <;> refine Fin.ext ?_
    · show 4 * s.val + y.val / 64 = (s.val * 256 + y.val) / 64
      omega
    · show y.val % 64 = (s.val * 256 + y.val) % 64
      omega
  · congr 1
    refine Fin.ext ?_
    show 256 * s.val + y.val = s.val * 256 + y.val
    omega

theorem acc_value (B : Blocks I x wq k v wo) (s : Fin 8) (b : Fin 2) (i : Fin 256) (n : Fin 512) :
    accAt I s (ix3 b i n)
      = ∑ y : Fin 256, Cert.Spec.ctx x wq k v b i (⟨(s.val * 256 + y.val) / 64, by omega⟩ : Fin 32) (⟨(s.val * 256 + y.val) % 64, Nat.mod_lt _ (by decide)⟩ : Fin 64) * wo (⟨s.val * 256 + y.val, by omega⟩ : Fin 2048) n := by
  match b with
  | 0 =>
    show part0 (k0_pay21 (I s).x (I s).wq) (kvAt I s) (I s).wo (ValueIdx.ix3 (0 : Fin 1) i n) = _
    rw [part0_eq, ← ix3_eq_valueIdx]
    refine part_value B s 0 _ (fun i n => ?_) i n
    rw [q0_apply]
    exact Finset.sum_congr rfl fun u _ => congrArg₂ (· * ·) (B.hx s 0 i u) (B.hq s u n)
  | 1 =>
    show part1 (k0_pay22 (I s).x (I s).wq) (kvAt I s) (I s).wo (ValueIdx.ix3 (0 : Fin 1) i n) = _
    rw [part1_eq, ← ix3_eq_valueIdx]
    refine part_value B s 1 _ (fun i n => ?_) i n
    rw [q1_apply]
    exact Finset.sum_congr rfl fun u _ => congrArg₂ (· * ·) (B.hx s 1 i u) (B.hq s u n)

/-- What every device ends with, at an index. -/
theorem out_value (B : Blocks I x wq k v wo) (c : Dev nD) (b : Fin 2) (i : Fin 256) (n : Fin 512) :
    outAt I c (ix3 b i n) = Cert.Spec.out x wq k v wo b i n := by
  have e : outAt I c (ix3 b i n) = agOf (rsAt I (⟨i.val / 32, by omega⟩ : Fin 8)) (ix3 b (⟨i.val % 32, Nat.mod_lt _ (by decide)⟩ : Fin 32) n) := by
    rw [ix3_eq_valueIdx, ix3_eq_valueIdx]
    rfl
  rw [e, ag_apply]
  unfold Cert.Spec.out
  refine Eq.trans ?_ (Fin.sum_univ_tiles 8 256 (by decide) _).symm
  refine Finset.sum_congr rfl fun s _ => ?_
  refine Eq.trans ?_ (acc_value B s b i n)
  show accAt I s _ = accAt I s _
  refine congrArg _ (funext fun a => Fin.ext ?_)
  match a with
  | 0 => rfl
  | 1 =>
    show 32 * (i.val / 32) + i.val % 32 = i.val
    omega
  | 2 => rfl

end Cert.KernelIdeal.Run
-- ==== Proof.Given.lean ====
/-
  What each device is given: its arguments, the keys and values with the heads side by side.
-/
module

public import proofs.«01_k».proof.Proof.Total
public import proofs.«01_k».proof.Proof.Area
public import Idealize.ShloMosaic.Lib.StableHlo.Run
public import Idealize.ShloMosaic.Lib.Layout

@[expose] public section

noncomputable section

namespace Cert.KernelIdeal.Run

open Cert.KernelIdeal.Gen
open Idealize.ShloMosaic Idealize.ShloMosaic.TcCoe Idealize.SL.Sem

variable {F : FTy → Type} [FloatOps F]
variable (m : (ℓ : Loc nD τ sig) → Buf (Elt F) ℓ)

theorem given_0 (c : Dev nD) : (iblk m c 0 t0_0 : S2x256x512.Idx → Elt F .bf16) = V m c main_arg0 := by
  unfold iblk
  generalize V m c (Pipeline.arrRef spec0 0) = g
  funext x
  rw [View.read_apply]
  refine congrArg g (funext fun a => Fin.ext ?_)
  have e : ∀ a, win0_0.index t0_0 a * win0_0.size a = 0 := by decide +kernel
  show win0_0.index t0_0 a * win0_0.size a + 1 * (x a : ℕ) = (x a : ℕ)
  rw [e a]; omega

theorem given_1 (c : Dev nD) : (iblk m c 1 t0_0 : S512x256.Idx → Elt F .bf16) = V m c main_arg1 := by
  unfold iblk
  generalize V m c (Pipeline.arrRef spec0 1) = g
  funext x
  rw [View.read_apply]
  refine congrArg g (funext fun a => Fin.ext ?_)
  have e : ∀ a, win0_1.index t0_0 a * win0_1.size a = 0 := by decide +kernel
  show win0_1.index t0_0 a * win0_1.size a + 1 * (x a : ℕ) = (x a : ℕ)
  rw [e a]; omega

theorem given_2 (c : Dev nD) : (iblk m c 2 t0_0 : S2x256x2048.Idx → Elt F .bf16) = V m c main_v1 := by
  unfold iblk
  generalize V m c (Pipeline.arrRef spec0 2) = g
  funext x
  rw [View.read_apply]
  refine congrArg g (funext fun a => Fin.ext ?_)
  have e : ∀ a, win0_2.index t0_0 a * win0_2.size a = 0 := by decide +kernel
  show win0_2.index t0_0 a * win0_2.size a + 1 * (x a : ℕ) = (x a : ℕ)
  rw [e a]; omega

theorem given_3 (c : Dev nD) : (iblk m c 3 t0_0 : S2x256x2048.Idx → Elt F .bf16) = V m c main_v2 := by
  unfold iblk
  generalize V m c (Pipeline.arrRef spec0 3) = g
  funext x
  rw [View.read_apply]
  refine congrArg g (funext fun a => Fin.ext ?_)
  have e : ∀ a, win0_3.index t0_0 a * win0_3.size a = 0 := by decide +kernel
  show win0_3.index t0_0 a * win0_3.size a + 1 * (x a : ℕ) = (x a : ℕ)
  rw [e a]; omega

theorem given_4 (c : Dev nD) : (iblk m c 4 t0_0 : S256x512.Idx → Elt F .bf16) = V m c main_arg4 := by
  unfold iblk
  generalize V m c (Pipeline.arrRef spec0 4) = g
  funext x
  rw [View.read_apply]
  refine congrArg g (funext fun a => Fin.ext ?_)
  have e : ∀ a, win0_4.index t0_0 a * win0_4.size a = 0 := by decide +kernel
  show win0_4.index t0_0 a * win0_4.size a + 1 * (x a : ℕ) = (x a : ℕ)
  rw [e a]; omega

theorem given_main_v1 (c : Dev nD) : V m c main_v1 = shapeCast S2x256x2048 (m ((c : Thread nD τ).loc main_arg2) : S2x256x32x64.Idx → Elt F .bf16) shapeCasts_S2x256x32x64_S2x256x2048 := by
  simp only [V, hostOps0]
  after_results
  rfl

theorem given_main_v2 (c : Dev nD) : V m c main_v2 = shapeCast S2x256x2048 (m ((c : Thread nD τ).loc main_arg3) : S2x256x32x64.Idx → Elt F .bf16) shapeCasts_S2x256x32x64_S2x256x2048 := by
  simp only [V, hostOps0]
  after_results
  rfl

/-- The heads side by side. -/
theorem heads {α : Type} (a : S2x256x32x64.Idx → α) (h) (b : Fin 2) (j : Fin 256) (n : Fin 2048) :
    shapeCast S2x256x2048 a h (ix3 b j n) = a (ix4 b j (⟨n.val / 64, by omega⟩ : Fin 32) (⟨n.val % 64, Nat.mod_lt _ (by decide)⟩ : Fin 64)) := by
  refine Idealize.ShloMosaic.shapeCast_apply _ _ _ _ ?_
  refine (Shape.rowMajor_val_four (d := ![2, 256, 32, 64]) _).trans (Eq.trans ?_ (Shape.rowMajor_val_three (d := ![2, 256, 2048]) _).symm)
  show ((b.val * 256 + j.val) * 32 + n.val / 64) * 64 + n.val % 64 = (b.val * 256 + j.val) * 2048 + n.val
  omega

/-- Where a device's block of the sequence lies. -/
theorem place (c : Fin 8) (b : Fin 2) (j : Fin 256) (p : Fin 32) (q : Fin 64) {h : Layout.Tiles ⟨4, ![2, 256, 32, 64]⟩ ⟨4, ![2, 2048, 32, 64]⟩ 1 8} :
    h.idx c (ix4 b j p q) = ix4 b (⟨256 * c.val + j.val, by omega⟩ : Fin 2048) p q := by
  funext a
  refine Fin.ext ?_
  match a with
  | 0 => rfl
  | 1 =>
    show c.val * 256 + j.val = 256 * c.val + j.val
    omega
  | 2 => rfl
  | 3 => rfl

/-- What the launch hands the devices are the blocks of the whole arrays. -/
theorem blocks (m : (ℓ : Loc nD τ sig) → Buf (Elt Ideal) ℓ) (x : FVec Ideal S2x256x512 .bf16) (wq : FVec Ideal ⟨2, ![512, 2048]⟩ .bf16) (k v : FVec Ideal ⟨4, ![2, 2048, 32, 64]⟩ .bf16) (wo : FVec Ideal ⟨2, ![2048, 512]⟩ .bf16)
    (h0 : ∀ c : Dev nD, m ((c.tc : Thread nD τ).loc main_arg0) = x) (h1 : ∀ c : Dev nD, m ((c.tc : Thread nD τ).loc main_arg1) = Layout.block ⟨2, ![512, 256]⟩ ⟨2, ![512, 2048]⟩ 1 8 c wq)
    (h2 : ∀ c : Dev nD, m ((c.tc : Thread nD τ).loc main_arg2) = Layout.block ⟨4, ![2, 256, 32, 64]⟩ ⟨4, ![2, 2048, 32, 64]⟩ 1 8 c k)
    (h3 : ∀ c : Dev nD, m ((c.tc : Thread nD τ).loc main_arg3) = Layout.block ⟨4, ![2, 256, 32, 64]⟩ ⟨4, ![2, 2048, 32, 64]⟩ 1 8 c v)
    (h4 : ∀ c : Dev nD, m ((c.tc : Thread nD τ).loc main_arg4) = Layout.block ⟨2, ![256, 512]⟩ ⟨2, ![2048, 512]⟩ 0 8 c wo) :
    Blocks (ins m) (Cert.Spec.at3 x) (Cert.Spec.at2 wq) (Cert.Spec.at4 k) (Cert.Spec.at4 v) (Cert.Spec.at2 wo) where
  hx c b i u := by
    show (iblk m c 0 t0_0 : S2x256x512.Idx → Elt Ideal .bf16) (ix3 b i u) = x (ix3 b i u)
    rw [given_0, V_main_arg0]
    exact congrFun (h0 c) _
  hq c u n := by
    show (iblk m c 1 t0_0 : S512x256.Idx → Elt Ideal .bf16) (ix2 u n) = wq (ix2 u (⟨256 * c.val + n.val, by omega⟩ : Fin 2048))
    rw [given_1, V_main_arg1]
    refine (congrFun (h1 c) _).trans (congrArg wq (funext fun a => Fin.ext ?_))
    match a with
    | 0 => rfl
    | 1 =>
      show c.val * 256 + n.val = 256 * c.val + n.val
      omega
  hk c b j n := by
    show (iblk m c 2 t0_0 : S2x256x2048.Idx → Elt Ideal .bf16) (ix3 b j n) = k (ix4 b (⟨256 * c.val + j.val, by omega⟩ : Fin 2048) (⟨n.val / 64, by omega⟩ : Fin 32) (⟨n.val % 64, Nat.mod_lt _ (by decide)⟩ : Fin 64))
    rw [given_2, given_main_v1]
    exact (heads _ _ b j n).trans ((congrFun (h2 c) _).trans (congrArg k (place c b j _ _)))
  hv c b j n := by
    show (iblk m c 3 t0_0 : S2x256x2048.Idx → Elt Ideal .bf16) (ix3 b j n) = v (ix4 b (⟨256 * c.val + j.val, by omega⟩ : Fin 2048) (⟨n.val / 64, by omega⟩ : Fin 32) (⟨n.val % 64, Nat.mod_lt _ (by decide)⟩ : Fin 64))
    rw [given_3, given_main_v2]
    exact (heads _ _ b j n).trans ((congrFun (h3 c) _).trans (congrArg v (place c b j _ _)))
  ho c y n := by
    show (iblk m c 4 t0_0 : S256x512.Idx → Elt Ideal .bf16) (ix2 y n) = wo (ix2 (⟨256 * c.val + y.val, by omega⟩ : Fin 2048) n)
    rw [given_4, V_main_arg4]
    refine (congrFun (h4 c) _).trans (congrArg wo (funext fun a => Fin.ext ?_))
    match a with
    | 0 =>
      show c.val * 256 + y.val = 256 * c.val + y.val
      omega
    | 1 => rfl

end Cert.KernelIdeal.Run
-- ==== Proof.Stages.lean ====
/-
  The reference's result in stages: which keys a query looks at, the queries, the masked scores, the weights, the output.
-/
module

public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe

variable {F : FTy → Type} [FloatOps F]

/-- Blocks of query rows. -/
def refRow : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- Blocks of key columns. -/
def refCol : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which keys a query may look at. -/
def refMask : IVec S256x2048 1 :=
  ori (ori (cmpi .eq (broadcastInDim S256x2048 ![0, 1] bcast_S256x1_S256x2048_0_1 (broadcastInDim S256x1 ![0] bcast_S256_S256x1_0 refRow)) (broadcastInDim S256x2048 ![0, 1] bcast_S1x2048_S256x2048_0_1 (broadcastInDim S1x2048 ![1] bcast_S2048_S1x2048_1 refCol))) (broadcastInDim S256x2048 ![0, 1] bcast_S1x2048_S256x2048_0_1 (cmpi .eq (broadcastInDim S1x2048 ![1] bcast_S2048_S1x2048_1 refCol) (broadcastInDim S1x2048 ![] bcast_S_S1x2048 (constantI S_ 32 0#32))))) (cmpi .eq (select (andi (cmpi .ne (cmpi .slt (Host.remsi (addi (broadcastInDim S256x2048 ![0, 1] bcast_S256x1_S256x2048_0_1 (broadcastInDim S256x1 ![0] bcast_S256_S256x1_0 refRow)) (broadcastInDim S256x2048 ![0, 1] bcast_S1x2048_S256x2048_0_1 (broadcastInDim S1x2048 ![1] bcast_S2048_S1x2048_1 refCol))) (broadcastInDim S256x2048 ![] bcast_S_S256x2048 (select (cmpi .eq (id (constantI S_ 32 3#32)) (constantI S_ 32 0#32)) (constantI S_ 32 1#32) (id (constantI S_ 32 3#32))))) (broadcastInDim S256x2048 ![] bcast_S_S256x2048 (constantI S_ 32 0#32))) (broadcastInDim S256x2048 ![] bcast_S_S256x2048 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S256x2048 ![0, 1] bcast_S256x1_S256x2048_0_1 (broadcastInDim S256x1 ![0] bcast_S256_S256x1_0 refRow)) (broadcastInDim S256x2048 ![0, 1] bcast_S1x2048_S256x2048_0_1 (broadcastInDim S1x2048 ![1] bcast_S2048_S1x2048_1 refCol))) (broadcastInDim S256x2048 ![] bcast_S_S256x2048 (select (cmpi .eq (id (constantI S_ 32 3#32)) (constantI S_ 32 0#32)) (constantI S_ 32 1#32) (id (constantI S_ 32 3#32))))) (broadcastInDim S256x2048 ![] bcast_S_S256x2048 (constantI S_ 32 0#32)))) (addi (Host.remsi (addi (broadcastInDim S256x2048 ![0, 1] bcast_S256x1_S256x2048_0_1 (broadcastInDim S256x1 ![0] bcast_S256_S256x1_0 refRow)) (broadcastInDim S256x2048 ![0, 1] bcast_S1x2048_S256x2048_0_1 (broadcastInDim S1x2048 ![1] bcast_S2048_S1x2048_1 refCol))) (broadcastInDim S256x2048 ![] bcast_S_S256x2048 (select (cmpi .eq (id (constantI S_ 32 3#32)) (constantI S_ 32 0#32)) (constantI S_ 32 1#32) (id (constantI S_ 32 3#32))))) (broadcastInDim S256x2048 ![] bcast_S_S256x2048 (select (cmpi .eq (id (constantI S_ 32 3#32)) (constantI S_ 32 0#32)) (constantI S_ 32 1#32) (id (constantI S_ 32 3#32))))) (Host.remsi (addi (broadcastInDim S256x2048 ![0, 1] bcast_S256x1_S256x2048_0_1 (broadcastInDim S256x1 ![0] bcast_S256_S256x1_0 refRow)) (broadcastInDim S256x2048 ![0, 1] bcast_S1x2048_S256x2048_0_1 (broadcastInDim S1x2048 ![1] bcast_S2048_S1x2048_1 refCol))) (broadcastInDim S256x2048 ![] bcast_S_S256x2048 (select (cmpi .eq (id (constantI S_ 32 3#32)) (constantI S_ 32 0#32)) (constantI S_ 32 1#32) (id (constantI S_ 32 3#32)))))) (broadcastInDim S256x2048 ![] bcast_S_S256x2048 (constantI S_ 32 0#32)))

/-- Which queries look at any key. -/
def refKeep : IVec S256 1 :=
  Host.reduce IntOp.ori refMask (constantI S_ 1 0#1) reducesTo_S256x2048_S256_d1 h_S_

/-- The queries. -/
def refQ (x : FVec F S2x256x512 .bf16) (w : FVec F S512x2048 .bf16) : FVec F S2x256x2048 .f32 :=
  Host.dotGeneral dot_S2x256x512_S512x2048_S2x256x2048_2_0_01_1_n_n none x w

/-- The masked scores. -/
def refScores (q : FVec F S2x256x2048 .f32) (k : FVec F S2x2048x32x64 .bf16) : FVec F S2x32x256x2048 .f32 :=
  select (broadcastInDim S2x32x256x2048 ![0, 1, 2, 3] bcast_S1x1x256x2048_S2x32x256x2048_0_1_2_3 (broadcastInDim S1x1x256x2048 ![2, 3] bcast_S256x2048_S1x1x256x2048_2_3 refMask)) (mulf (extf .f32 (truncf .bf16 (Host.dotGeneral dot_S2x256x32x64_S2x2048x32x64_S2x32x256x2048_3_3_1_1_02_02 none (shapeCast S2x256x32x64 (truncf .bf16 q bitsLt_bf16_f32) shapeCasts_S2x256x2048_S2x256x32x64) k) bitsLt_bf16_f32) bitsLt_bf16_f32) (broadcastInDim S2x32x256x2048 ![] bcast_S_S2x32x256x2048 (constant S_ .f32 0x3E000000#32))) (broadcastInDim S2x32x256x2048 ![] bcast_S_S2x32x256x2048 (id (constant S_ .f32 0xCE6E6B28#32)))

/-- Their exponentials, less the largest. -/
def refExp (s : FVec F S2x32x256x2048 .f32) : FVec F S2x32x256x2048 .f32 :=
  Host.exp (subf s (broadcastInDim S2x32x256x2048 ![0, 1, 2, 3] bcast_S2x32x256x1_S2x32x256x2048_0_1_2_3 (broadcastInDim S2x32x256x1 ![0, 1, 2] bcast_S2x32x256_S2x32x256x1_0_1_2 (Host.reduce FloatOps.maximumf s (constant S_ .f32 0xFF800000#32) reducesTo_S2x32x256x2048_S2x32x256_d3 h_S_))))

/-- The weights against the values, through the output weights. -/
def refTail (e : FVec F S2x32x256x2048 .f32) (v : FVec F S2x2048x32x64 .bf16) (wo : FVec F S2048x512 .bf16) : FVec F S2x256x512 .f32 :=
  Host.dotGeneral dot_S2x256x2048_S2048x512_S2x256x512_2_0_01_1_n_n none (shapeCast S2x256x2048 (transpose S2x256x32x64 [0, 3, 1, 2] (Host.dotGeneral dot_S2x2048x32x64_S2x32x256x2048_S2x32x64x256_1_3_3_2_02_01 none (extf .f32 v bitsLt_bf16_f32) (select (broadcastInDim S2x32x256x2048 ![0, 1, 2, 3] bcast_S1x1x256x1_S2x32x256x2048_0_1_2_3 (broadcastInDim S1x1x256x1 ![2] bcast_S256_S1x1x256x1_2 refKeep)) (Host.divf e (broadcastInDim S2x32x256x2048 ![0, 1, 2, 3] bcast_S2x32x256x1_S2x32x256x2048_0_1_2_3 (select (broadcastInDim S2x32x256x1 ![0, 1, 2, 3] bcast_S1x1x256x1_S2x32x256x1_0_1_2_3 (broadcastInDim S1x1x256x1 ![2] bcast_S256_S1x1x256x1_2 refKeep)) (broadcastInDim S2x32x256x1 ![0, 1, 2] bcast_S2x32x256_S2x32x256x1_0_1_2 (Host.reduceAdd e (constant S_ .f32 0x00000000#32) reducesTo_S2x32x256x2048_S2x32x256_d3 h_S_)) (broadcastInDim S2x32x256x1 ![] bcast_S_S2x32x256x1 (id (constant S_ .f32 0x3F800000#32)))))) (broadcastInDim S2x32x256x2048 ![] bcast_S_S2x32x256x2048 (id (constant S_ .f32 0x00000000#32))))) transposes_S2x32x64x256_S2x256x32x64_0_3_1_2) shapeCasts_S2x256x32x64_S2x256x2048) (extf .f32 wo bitsLt_bf16_f32)

/-- The reference's result as a function of its five arguments. -/
def refOut (x : FVec F S2x256x512 .bf16) (w : FVec F S512x2048 .bf16) (k v : FVec F S2x2048x32x64 .bf16) (wo : FVec F S2048x512 .bf16) : FVec F S2x256x512 .f32 :=
  refTail (refExp (refScores (refQ x w) k)) v wo

theorem res_eq (m : (ℓ : Loc nD τ sig) → Buf (Elt F) ℓ) (c : Dev nD) :
    res_main_v49 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v49 refOut refTail refExp refScores refQ refKeep refMask refRow refCol
  rfl

end Cert.ReferenceIdeal.Value

end
-- ==== Proof.RefMask.lean ====
/-
  The reference's mask at an index, and that every query looks at some key.
-/
module

public import proofs.«01_k».proof.Proof.Stages
public import proofs.«01_k».proof.Proof.Spec

@[expose] public section

noncomputable section

namespace Cert.ReferenceIdeal.Value

open Cert.Spec (attn keeps)
open Cert.ReferenceIdeal Cert.ReferenceIdeal.Gen Idealize.ShloMosaic Idealize.ShloMosaic.TcCoe

theorem refRow_apply (i : Fin 256) : refRow (ix1 i) = BitVec.ofNat 32 (i.val / 64) := by
  pointwise [refRow, id]
  revert i
  decide +kernel

theorem refCol_apply (j : Fin 2048) : refCol (ix1 j) = BitVec.ofNat 32 (j.val / 64) := by
  pointwise [refCol, id]
  revert j
  decide +kernel

theorem refMask_apply (i : Fin 256) (j : Fin 2048) : refMask (ix2 i j) = keeps i.val j.val := by
  unfold keeps
  pointwise [refMask, id, refRow_apply, refCol_apply]
  obtain ⟨a, ha⟩ : ∃ a : Fin 4, a.val = i.val / 64 := ⟨⟨i.val / 64, by omega⟩, rfl⟩
  obtain ⟨b, hb⟩ : ∃ b : Fin 32, b.val = j.val / 64 := ⟨⟨j.val / 64, by omega⟩, rfl⟩
  rw [← ha, ← hb]
  clear ha hb i j
  revert a b
  decide +kernel

theorem fold_ori {n : ℕ} (f : Fin n → BitVec 1) (j : Fin n) (h : f j = 1#1) : Finset.fold IntOp.ori (0#1) f Finset.univ = 1#1 := by
  rw [← Finset.insert_erase (Finset.mem_univ j), Finset.fold_insert (Finset.notMem_erase j _), h]
  generalize Finset.fold IntOp.ori (0#1) f _ = z
  revert z
  decide

theorem refKeep_apply (i : Fin 256) : refKeep (ix1 i) = 1#1 := by
  pointwise [refKeep, refMask_apply]
  refine fold_ori _ 0 ?_
  simp [keeps]

end Cert.ReferenceIdeal.Value

end
-- ==== Proof.RefRead.lean ====
/-
  The reference's result at an index is the heads' outputs, side by side, through the output weights.
-/
module

public import proofs.«01_k».proof.Proof.RefMask

@[expose] public section

noncomputable section

namespace Cert.ReferenceIdeal.Value

open Cert.Spec (at2 at3 at4)
open Cert.ReferenceIdeal Cert.ReferenceIdeal.Gen Idealize.ShloMosaic Idealize.ShloMosaic.TcCoe

theorem refQ_apply (x : FVec Ideal S2x256x512 .bf16) (w : FVec Ideal S512x2048 .bf16) (b : Fin 2) (i : Fin 256) (n : Fin 2048) :
    refQ x w (ix3 b i n) = ∑ u : Fin 512, x (ix3 b i u) * w (ix2 u n) := by
  pointwise [refQ]

theorem refScores_apply (x : FVec Ideal S2x256x512 .bf16) (w : FVec Ideal S512x2048 .bf16) (k : FVec Ideal S2x2048x32x64 .bf16) (b : Fin 2) (h : Fin 32) (i : Fin 256) (j : Fin 2048) :
    refScores (refQ x w) k (ix4 b h i j) = Cert.Spec.score (at3 x) (at2 w) (at4 k) b i h j := by
  unfold Cert.Spec.score
  pointwise [refScores, refMask_apply, refQ_apply, id]

theorem refExp_apply (s : FVec Ideal S2x32x256x2048 .f32) (b : Fin 2) (h : Fin 32) (i : Fin 256) (j : Fin 2048) :
    refExp s (ix4 b h i j) = Ideal.exp (s (ix4 b h i j) - Finset.fold max (Ideal.ofBits .f32 4286578688#32) (fun y : Fin 2048 => s (ix4 b h i y)) Finset.univ) := by
  pointwise [refExp]

theorem refTail_apply (e : FVec Ideal S2x32x256x2048 .f32) (v : FVec Ideal S2x2048x32x64 .bf16) (wo : FVec Ideal S2048x512 .bf16) (b : Fin 2) (i : Fin 256) (n : Fin 512) :
    refTail e v wo (ix3 b i n)
      = ∑ y : Fin 2048, (∑ j : Fin 2048, v (ix4 b j (⟨y.val / 64, by omega⟩ : Fin 32) (⟨y.val % 64, Nat.mod_lt _ (by decide)⟩ : Fin 64))
          * Ideal.div (e (ix4 b (⟨y.val / 64, by omega⟩ : Fin 32) i j)) (∑ l : Fin 2048, e (ix4 b (⟨y.val / 64, by omega⟩ : Fin 32) i l))) * wo (ix2 y n) := by
  pointwise [refTail, refKeep_apply, id]

theorem refOut_apply (x : FVec Ideal S2x256x512 .bf16) (w : FVec Ideal S512x2048 .bf16) (k v : FVec Ideal S2x2048x32x64 .bf16) (wo : FVec Ideal S2048x512 .bf16) (b : Fin 2) (i : Fin 256) (n : Fin 512) :
    refOut x w k v wo (ix3 b i n) = Cert.Spec.out (at3 x) (at2 w) (at4 k) (at4 v) (at2 wo) b i n := by
  unfold refOut Cert.Spec.out
  rw [refTail_apply]
  refine Finset.sum_congr rfl fun y _ => congrArg (· * wo (ix2 y n)) ?_
  unfold Cert.Spec.ctx Cert.Spec.attn
  refine Finset.sum_congr rfl fun j _ => ?_
  simp only [refExp_apply, refScores_apply]
  exact mul_comm _ _

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Given
public import proofs.«01_k».proof.Proof.RefRead
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The run over any float values, its arguments and counters alone. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Run.run_main (F := F) m ρ)

/-- Both texts' body tables are one: read label by label, since each text matches on its labels by itself. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_same {F : FTy → Type} [FloatOps F] : Cert.Kernel.defs (F := F) = Cert.KernelIdeal.defs (F := F) :=
  congrArg (Pipeline.defs (Cert.Kernel.pcfgs (F := F))) bodies_same

/-- The kernel over machine words: its text is the idealized one's, read at `Bits`. -/
theorem frame_kernel : Cert.quiescent_Kernel := fun m ρ _ => by
  have h := frame_any (F := Bits) m ρ
  rw [← defs_same] at h
  exact h

theorem frame_kernelIdeal : Cert.quiescent_KernelIdeal := fun m ρ _ => frame_any (F := Ideal) m ρ

theorem frame_referenceIdeal : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

theorem preserves : Cert.preserves_Kernel_KernelIdeal := trivial

/-- Both results at an index are the same function of the whole arrays. -/
theorem algebraic : Cert.algebraic_KernelIdeal_ReferenceIdeal := fun m g m' g' _ ha => by
  refine ⟨Cert.ReferenceIdeal.Value.res_main_v49 m' 0, ?_, ?_⟩
  · have B := Cert.KernelIdeal.Run.blocks m _ _ _ _ _ (fun c => (ha c).1) (fun c => (ha c).2.1) (fun c => (ha c).2.2.1) (fun c => (ha c).2.2.2.1) (fun c => (ha c).2.2.2.2)
    refine (θ_run Cert.KernelIdeal.defs _ _).mono (fun r h c => ⟨(h.1 c).2.trans ?_, (h.1 c).1⟩) (Cert.KernelIdeal.Run.run_main (F := Ideal) m g)
    rw [Cert.ReferenceIdeal.Value.res_eq]
    refine funext fun (i : Cert.KernelIdeal.S2x256x512.Idx) => ?_
    have e : i = ix3 (i 0) (i 1) (i 2) := funext fun a => match a with | 0 => rfl | 1 => rfl | 2 => rfl
    rw [e]
    exact (Cert.KernelIdeal.Run.out_value B c (i 0) (i 1) (i 2)).trans (Cert.ReferenceIdeal.Value.refOut_apply _ _ _ _ _ (i 0) (i 1) (i 2)).symm
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
